-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_scores [hPre_finite_scores : Cert.Pre_finite_scores.Facts] (m : (ℓ : Loc Cert.KernelIdeal.nD Cert.KernelIdeal.τ Cert.KernelIdeal.sig) → Buf (Elt Ideal) ℓ) : Prop :=
  ∀ c : Dev Cert.KernelIdeal.nD,
    (Cert.Pre_finite_scores.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_scores [hPre_finite_scores : Cert.Pre_finite_scores.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_scores.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Reference (m : (ℓ : Loc Cert.Reference.nD Cert.Reference.τ Cert.Reference.sig) → Buf (Elt Bits) ℓ) : Prop :=
  True

def Pre_Kernel2 [hPre_tables : Cert.Pre_tables.Facts] (m : (ℓ : Loc Cert.Kernel2.nD Cert.Kernel2.τ Cert.Kernel2.sig) → Buf (Elt Bits) ℓ) : Prop :=
  ∀ c : Dev Cert.Kernel2.nD,
    (Cert.Pre_tables.fn (F := Bits) (m ((c.tc : Thread Cert.Kernel2.nD Cert.Kernel2.τ).loc Cert.Kernel2.main_arg0)) (m ((c.tc : Thread Cert.Kernel2.nD Cert.Kernel2.τ).loc Cert.Kernel2.main_arg1)) (m ((c.tc : Thread Cert.Kernel2.nD Cert.Kernel2.τ).loc Cert.Kernel2.main_arg2)) (m ((c.tc : Thread Cert.Kernel2.nD Cert.Kernel2.τ).loc Cert.Kernel2.main_arg3)) (m ((c.tc : Thread Cert.Kernel2.nD Cert.Kernel2.τ).loc Cert.Kernel2.main_arg4)) (m ((c.tc : Thread Cert.Kernel2.nD Cert.Kernel2.τ).loc Cert.Kernel2.main_arg5))) = (fun _ => 1#1)

def Pre_Kernel2Ideal [hPre_tables : Cert.Pre_tables.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_tables.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_tables [hPre_tables : Cert.Pre_tables.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_tables.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite_scores [hKernelIdeal : Cert.KernelIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_scores m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite_scores [hReferenceIdeal : Cert.ReferenceIdeal.Facts] [hPre_finite_scores : Cert.Pre_finite_scores.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_scores m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4))
      ∧ r.2.sem = fun _ => 0)

def quiescent_Kernel2 [hKernel2 : Cert.Kernel2.Facts] [hPre_tables : Cert.Pre_tables.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_tables [hReference2Ideal : Cert.Reference2Ideal.Facts] [hPre_tables : Cert.Pre_tables.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_tables m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def preserves_Kernel_KernelIdeal : Prop :=
  IdealRules.named_const.Statement Cert.KernelIdeal.κ "mask" .f32 0xF149F2CA#32 ⊥

def preserves_Reference_ReferenceIdeal : Prop :=
  True

def algebraic_KernelIdeal_ReferenceIdeal_pre_finite_scores [hKernelIdeal : Cert.KernelIdeal.Facts] [hReferenceIdeal : Cert.ReferenceIdeal.Facts] [hPre_finite_scores : Cert.Pre_finite_scores.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_scores m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] [hPre_tables : Cert.Pre_tables.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v24)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v24) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v61) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hPre_finite_scores : Cert.Pre_finite_scores.Facts) (hPre_tables : Cert.Pre_tables.Facts),
    quiescent_Kernel (hKernel := hKernel)
    ∧ quiescent_KernelIdeal (hKernelIdeal := hKernelIdeal)
    ∧ quiescent_KernelIdeal_pre_finite_scores (hKernelIdeal := hKernelIdeal) (hPre_finite_scores := hPre_finite_scores)
    ∧ quiescent_ReferenceIdeal (hReferenceIdeal := hReferenceIdeal)
    ∧ quiescent_ReferenceIdeal_pre_finite_scores (hReferenceIdeal := hReferenceIdeal) (hPre_finite_scores := hPre_finite_scores)
    ∧ quiescent_Reference (hReference := hReference)
    ∧ quiescent_Kernel2 (hKernel2 := hKernel2) (hPre_tables := hPre_tables)
    ∧ quiescent_Kernel2Ideal (hKernel2Ideal := hKernel2Ideal) (hPre_tables := hPre_tables)
    ∧ quiescent_Reference2Ideal (hReference2Ideal := hReference2Ideal)
    ∧ quiescent_Reference2Ideal_pre_tables (hReference2Ideal := hReference2Ideal) (hPre_tables := hPre_tables)
    ∧ preserves_Kernel_KernelIdeal
    ∧ preserves_Reference_ReferenceIdeal
    ∧ algebraic_KernelIdeal_ReferenceIdeal_pre_finite_scores (hKernelIdeal := hKernelIdeal) (hReferenceIdeal := hReferenceIdeal) (hPre_finite_scores := hPre_finite_scores)
    ∧ preserves_Kernel2_Kernel2Ideal
    ∧ algebraic_Kernel2Ideal_Reference2Ideal (hKernel2Ideal := hKernel2Ideal) (hReference2Ideal := hReference2Ideal) (hPre_tables := hPre_tables)
-- ==== Pre_finite_scores.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S_ : Shape := ⟨0, ![]⟩

class Facts : Prop where
  bcast_S_S4x8192x8x64 : S_.BroadcastsInDim S4x8192x8x64 (![] : Fin 0 → Fin S4x8192x8x64.rank)
  reducesTo_S4x8192x8x64_S_d0_1_2_3 : S4x8192x8x64.ReducesTo [0, 1, 2, 3] S_
  h_S_ : 0 < S_.numel
  bcast_S_S4x8192x8x32 : S_.BroadcastsInDim S4x8192x8x32 (![] : Fin 0 → Fin S4x8192x8x32.rank)
  reducesTo_S4x8192x8x32_S_d0_1_2_3 : S4x8192x8x32.ReducesTo [0, 1, 2, 3] S_
  bcast_S_S4x8192x32 : S_.BroadcastsInDim S4x8192x32 (![] : Fin 0 → Fin S4x8192x32.rank)
  reducesTo_S4x8192x32_S_d0_1_2 : S4x8192x32.ReducesTo [0, 1, 2] S_

variable [Facts]

def fn_part1 {F : FTy → Type} [FloatOps F] (main_v13 : IVec S_ 1) (main_v16 : IVec S4x8192x32 1) : IVec S_ 1 :=
  let main_c_5 : IVec S_ 1 := constantI S_ 1 1#1
  let main_v17 : IVec S_ 1 := (fun x v => Host.reduce IntOp.andi x v reducesTo_S4x8192x32_S_d0_1_2 h_S_) main_v16 main_c_5
  let main_v18 : IVec S_ 1 := andi main_v13 main_v17
  main_v18

def fn {F : FTy → Type} [FloatOps F] (main_arg0 : FVec F S4x8192x8x64 .f32) (main_arg1 : FVec F S4x8192x8x32 .f32) (main_arg2 : FVec F S4x8192x8x64 .f32) (main_arg3 : FVec F S4x8192x32 .f32) (main_arg4 : FVec F S4x8192x8x64 .f32) : IVec S_ 1 :=
  let main_v0 : FVec F S4x8192x8x64 .f32 := Host.absf main_arg0
  let main_cst : FVec F S_ .f32 := constant S_ .f32 0x7F800000#32
  let main_v1 : FVec F S4x8192x8x64 .f32 := broadcastInDim S4x8192x8x64 ![] bcast_S_S4x8192x8x64 main_cst
  let main_v2 : IVec S4x8192x8x64 1 := cmpf .olt main_v0 main_v1
  let main_c : IVec S_ 1 := constantI S_ 1 1#1
  let main_v3 : IVec S_ 1 := (fun x v => Host.reduce IntOp.andi x v reducesTo_S4x8192x8x64_S_d0_1_2_3 h_S_) main_v2 main_c
  let main_v4 : FVec F S4x8192x8x32 .f32 := Host.absf main_arg1
  let main_cst_0 : FVec F S_ .f32 := constant S_ .f32 0x7F800000#32
  let main_v5 : FVec F S4x8192x8x32 .f32 := broadcastInDim S4x8192x8x32 ![] bcast_S_S4x8192x8x32 main_cst_0
  let main_v6 : IVec S4x8192x8x32 1 := cmpf .olt main_v4 main_v5
  let main_c_1 : IVec S_ 1 := constantI S_ 1 1#1
  let main_v7 : IVec S_ 1 := (fun x v => Host.reduce IntOp.andi x v reducesTo_S4x8192x8x32_S_d0_1_2_3 h_S_) main_v6 main_c_1
  let main_v8 : IVec S_ 1 := andi main_v3 main_v7
  let main_v9 : FVec F S4x8192x8x64 .f32 := Host.absf main_arg2
  let main_cst_2 : FVec F S_ .f32 := constant S_ .f32 0x7F800000#32
  let main_v10 : FVec F S4x8192x8x64 .f32 := broadcastInDim S4x8192x8x64 ![] bcast_S_S4x8192x8x64 main_cst_2
  let main_v11 : IVec S4x8192x8x64 1 := cmpf .olt main_v9 main_v10
  let main_c_3 : IVec S_ 1 := constantI S_ 1 1#1
  let main_v12 : IVec S_ 1 := (fun x v => Host.reduce IntOp.andi x v reducesTo_S4x8192x8x64_S_d0_1_2_3 h_S_) main_v11 main_c_3
  let main_v13 : IVec S_ 1 := andi main_v8 main_v12
  let main_v14 : FVec F S4x8192x32 .f32 := Host.absf main_arg3
  let main_cst_4 : FVec F S_ .f32 := constant S_ .f32 0x7F800000#32
  let main_v15 : FVec F S4x8192x32 .f32 := broadcastInDim S4x8192x32 ![] bcast_S_S4x8192x32 main_cst_4
  let main_v16 : IVec S4x8192x32 1 := cmpf .olt main_v14 main_v15
  fn_part1 (F := F) main_v13 main_v16
-- ==== Pre_tables.lean ====
abbrev S147456x512 : Shape := ⟨2, ![147456, 512]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S1 : Shape := ⟨1, ![1]⟩

class Facts : Prop where
  bcast_S_S32 : S_.BroadcastsInDim S32 (![] : Fin 0 → Fin S32.rank)
  bcast_S_S_ : S_.BroadcastsInDim S_ (![] : Fin 0 → Fin S_.rank)
  reduceWindows_S32_S32_w32s1p31_0 : S32.ReduceWindows (![32] : Fin 1 → Nat) ![1] ![31] ![0] S32
  h_S_ : 0 < S_.numel
  slices_S32_S1_31 : S32.Slices ![31] S1
  bcast_S_S1 : S_.BroadcastsInDim S1 (![] : Fin 0 → Fin S1.rank)
  reducesTo_S1_S_d0 : S1.ReducesTo [0] S_

variable [Facts]

def fn_where {F : FTy → Type} [FloatOps F] (arg0 : IVec S32 1) (arg1 : IVec S32 32) (arg2 : IVec S32 32) : IVec S32 32 :=
  let v0 : IVec S32 32 := select arg0 arg1 arg2
  v0

def fn_floor_divide {F : FTy → Type} [FloatOps F] (arg0 : IVec S32 32) (arg1 : IVec S_ 32) : IVec S32 32 :=
  let v0 : IVec S_ 32 := id arg1
  let v1 : IVec S32 32 := broadcastInDim S32 ![] bcast_S_S32 v0
  let v2 : IVec S32 32 := Host.divsi arg0 v1
  let v3 : IVec S32 32 := signi arg0
  let v4 : IVec S_ 32 := signi v0
  let v5 : IVec S32 32 := broadcastInDim S32 ![] bcast_S_S32 v4
  let v6 : IVec S32 1 := cmpi .ne v3 v5
  let v7 : IVec S32 32 := broadcastInDim S32 ![] bcast_S_S32 v0
  let v8 : IVec S32 32 := Host.remsi arg0 v7
  let c : IVec S_ 32 := constantI S_ 32 0#32
  let v9 : IVec S32 32 := broadcastInDim S32 ![] bcast_S_S32 c
  let v10 : IVec S32 1 := cmpi .ne v8 v9
  let v11 : IVec S32 1 := andi v6 v10
  let c_0 : IVec S_ 32 := constantI S_ 32 1#32
  let v12 : IVec S32 32 := broadcastInDim S32 ![] bcast_S_S32 c_0
  let v13 : IVec S32 32 := subi v2 v12
  let v14 : IVec S32 32 := fn_where (F := F) v11 v13 v2
  v14

def fn_cumsum_0 {F : FTy → Type} [FloatOps F] (arg0 : IVec S32 32) : IVec S32 32 :=
  let c : IVec S_ 32 := constantI S_ 32 0#32
  let v0 : IVec S_ 32 := broadcastInDim S_ ![] bcast_S_S_ c
  let v1 : IVec S32 32 := (fun x v => Host.reduceWindow IntOp.addi ![32] ![1] ![31] ![0] x v reduceWindows_S32_S32_w32s1p31_0 h_S_) arg0 v0
  v1

def fn_cumsum {F : FTy → Type} [FloatOps F] (arg0 : IVec S32 32) : IVec S32 32 :=
  let v0 : IVec S32 32 := fn_cumsum_0 (F := F) arg0
  v0

def fn_where_2 {F : FTy → Type} [FloatOps F] (arg0 : IVec S1 1) (arg1 : IVec S1 32) (arg2 : IVec S1 32) : IVec S1 32 :=
  let v0 : IVec S1 32 := select arg0 arg1 arg2
  v0

def fn_floor_divide_1 {F : FTy → Type} [FloatOps F] (arg0 : IVec S1 32) (arg1 : IVec S_ 32) : IVec S1 32 :=
  let v0 : IVec S_ 32 := id arg1
  let v1 : IVec S1 32 := broadcastInDim S1 ![] bcast_S_S1 v0
  let v2 : IVec S1 32 := Host.divsi arg0 v1
  let v3 : IVec S1 32 := signi arg0
  let v4 : IVec S_ 32 := signi v0
  let v5 : IVec S1 32 := broadcastInDim S1 ![] bcast_S_S1 v4
  let v6 : IVec S1 1 := cmpi .ne v3 v5
  let v7 : IVec S1 32 := broadcastInDim S1 ![] bcast_S_S1 v0
  let v8 : IVec S1 32 := Host.remsi arg0 v7
  let c : IVec S_ 32 := constantI S_ 32 0#32
  let v9 : IVec S1 32 := broadcastInDim S1 ![] bcast_S_S1 c
  let v10 : IVec S1 1 := cmpi .ne v8 v9
  let v11 : IVec S1 1 := andi v6 v10
  let c_0 : IVec S_ 32 := constantI S_ 32 1#32
  let v12 : IVec S1 32 := broadcastInDim S1 ![] bcast_S_S1 c_0
  let v13 : IVec S1 32 := subi v2 v12
  let v14 : IVec S1 32 := fn_where_2 (F := F) v11 v13 v2
  v14

def fn {F : FTy → Type} [FloatOps F] (main_arg0 : IVec S147456x512 32) (main_arg1 : IVec S32 32) (main_arg2 : FVec F S32x1024x2048 .f32) (main_arg3 : FVec F S32x2048 .f32) (main_arg4 : FVec F S32x1024x1024 .f32) (main_arg5 : FVec F S32x1024 .f32) : IVec S_ 1 :=
  let main_c : IVec S_ 32 := constantI S_ 32 512#32
  let main_v0 : IVec S32 32 := broadcastInDim S32 ![] bcast_S_S32 main_c
  let main_v1 : IVec S32 32 := addi main_arg1 main_v0
  let main_c_0 : IVec S_ 32 := constantI S_ 32 1#32
  let main_v2 : IVec S32 32 := broadcastInDim S32 ![] bcast_S_S32 main_c_0
  let main_v3 : IVec S32 32 := subi main_v1 main_v2
  let main_c_1 : IVec S_ 32 := constantI S_ 32 512#32
  let main_v4 : IVec S32 32 := fn_floor_divide (F := F) main_v3 main_c_1
  let main_c_2 : IVec S_ 32 := constantI S_ 32 512#32
  let main_v5 : IVec S32 32 := broadcastInDim S32 ![] bcast_S_S32 main_c_2
  let main_v6 : IVec S32 32 := muli main_v4 main_v5
  let main_v7 : IVec S32 32 := fn_cumsum (F := F) main_v6
  let main_v8 : IVec S1 32 := (extractStridedSlice S1 ![31] · slices_S32_S1_31) main_v7
  let main_c_3 : IVec S_ 32 := constantI S_ 32 512#32
  let main_v9 : IVec S1 32 := fn_floor_divide_1 (F := F) main_v8 main_c_3
  let main_c_4 : IVec S_ 32 := constantI S_ 32 1#32
  let main_v10 : IVec S1 32 := broadcastInDim S1 ![] bcast_S_S1 main_c_4
  let main_v11 : IVec S1 1 := cmpi .sge main_v9 main_v10
  let main_c_5 : IVec S_ 1 := constantI S_ 1 1#1
  let main_v12 : IVec S_ 1 := (fun x v => Host.reduce IntOp.andi x v reducesTo_S1_S_d0 h_S_) main_v11 main_c_5
  main_v12
-- ==== Kernel.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S_ : Shape := ⟨0, ![]⟩
abbrev S4x8192x1x32 : Shape := ⟨4, ![4, 8192, 1, 32]⟩
abbrev S4x8192x8x128 : Shape := ⟨4, ![4, 8192, 8, 128]⟩
abbrev S4x8192x8x1 : Shape := ⟨4, ![4, 8192, 8, 1]⟩
abbrev S4x8192x8x63 : Shape := ⟨4, ![4, 8192, 8, 63]⟩
abbrev S4x8192x1024 : Shape := ⟨3, ![4, 8192, 1024]⟩
abbrev S4x1024x8192 : Shape := ⟨3, ![4, 1024, 8192]⟩
abbrev S4x8192x512 : Shape := ⟨3, ![4, 8192, 512]⟩
abbrev S1x512x1024 : Shape := ⟨3, ![1, 512, 1024]⟩
abbrev S1x8192x1024 : Shape := ⟨3, ![1, 8192, 1024]⟩
abbrev S1x1024x8192 : Shape := ⟨3, ![1, 1024, 8192]⟩
abbrev S1x512x512 : Shape := ⟨3, ![1, 512, 512]⟩
abbrev S1x512 : Shape := ⟨2, ![1, 512]⟩
abbrev S128x512 : Shape := ⟨2, ![128, 512]⟩
abbrev S1x1024x128 : Shape := ⟨3, ![1, 1024, 128]⟩
abbrev S1024x128 : Shape := ⟨2, ![1024, 128]⟩
abbrev S1x512x128 : Shape := ⟨3, ![1, 512, 128]⟩
abbrev S512x128 : Shape := ⟨2, ![512, 128]⟩
abbrev S1024x512 : Shape := ⟨2, ![1024, 512]⟩
abbrev S512 : Shape := ⟨1, ![512]⟩
abbrev S1x128x1024 : Shape := ⟨3, ![1, 128, 1024]⟩
abbrev S128x1024 : Shape := ⟨2, ![128, 1024]⟩
abbrev S512x512 : Shape := ⟨2, ![512, 512]⟩
abbrev S1x128x512 : Shape := ⟨3, ![1, 128, 512]⟩
abbrev S64x512 : Shape := ⟨2, ![64, 512]⟩

abbrev nBuf : Space → Nat
  | .hbm => 33
  | .vmem => 6
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x32, .f32⟩
  | .hbm, ⟨2, _⟩ => ⟨S4x8192x8x64, .f32⟩
  | .hbm, ⟨3, _⟩ => ⟨S4x8192x32, .f32⟩
  | .hbm, ⟨4, _⟩ => ⟨S4x8192x8x64, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4x8192x8x32, .f32⟩
  | .hbm, ⟨14, _⟩ => ⟨S4x8192x1x32, .f32⟩
  | .hbm, ⟨15, _⟩ => ⟨S4x8192x8x32, .f32⟩
  | .hbm, ⟨16, _⟩ => ⟨S4x8192x8x128, .f32⟩
  | .hbm, ⟨17, _⟩ => ⟨S4x8192x8x128, .f32⟩
  | .hbm, ⟨18, _⟩ => ⟨S4x8192x8x128, .f32⟩
  | .hbm, ⟨19, _⟩ => ⟨S4x8192x8x128, .bf16⟩
  | .hbm, ⟨20, _⟩ => ⟨S4x8192x8x128, .f32⟩
  | .hbm, ⟨21, _⟩ => ⟨S4x8192x8x128, .bf16⟩
  | .hbm, ⟨22, _⟩ => ⟨S_, .f32⟩
  | .hbm, ⟨23, _⟩ => ⟨S4x8192x8x1, .f32⟩
  | .hbm, ⟨24, _⟩ => ⟨S_, .f32⟩
  | .hbm, ⟨25, _⟩ => ⟨S4x8192x8x63, .f32⟩
  | .hbm, ⟨26, _⟩ => ⟨S4x8192x8x128, .f32⟩
  | .hbm, ⟨27, _⟩ => ⟨S4x8192x8x128, .bf16⟩
  | .hbm, ⟨28, _⟩ => ⟨S4x8192x1024, .bf16⟩
  | .hbm, ⟨29, _⟩ => ⟨S4x8192x1024, .bf16⟩
  | .hbm, ⟨30, _⟩ => ⟨S4x8192x1024, .bf16⟩
  | .hbm, ⟨31, _⟩ => ⟨S4x1024x8192, .bf16⟩
  | .hbm, ⟨32, _⟩ => ⟨S4x8192x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x8192x1024, .bf16⟩
  | .local _ .vmem, ⟨3, _⟩ => ⟨S1x1024x8192, .bf16⟩
  | .local _ .vmem, ⟨4, _⟩ => ⟨S1x512x512, .bf16⟩
  | .local _ .vmem, ⟨5, _⟩ => ⟨S1x512x512, .bf16⟩
  | _, _ => ⟨S4x8192x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_cst_1 : Ref sig .tc := ⟨.hbm, 10, rfl⟩
abbrev main_v3 : Ref sig .tc := ⟨.hbm, 11, rfl⟩
abbrev main_cst_2 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_3 : Ref sig .tc := ⟨.hbm, 22, rfl⟩
abbrev main_v13 : Ref sig .tc := ⟨.hbm, 23, rfl⟩
abbrev main_cst_4 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨3, ![4, 1, 16], ![false, false, false]⟩

@[reducible] def k0_t1_loop (i : grid0.Coords) : Scf.Loop 32 :=
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_21 : BitVec 32 := 1#32
  ⟨c0_i32_19, v37, c1_i32_21⟩
def k0_mult1 (i : grid0.Coords) (k0_t1 : Fin (k0_t1_loop i).trips) : BitVec 32 :=
  let c0_i32_19 : BitVec 32 := 0#32
  let c1_i32_21 : BitVec 32 := 1#32
  let arg7 : BitVec 32 := Scf.iv c0_i32_19 c1_i32_21 k0_t1
  let c1024_i32 : BitVec 32 := 1024#32
  let v358 : BitVec 32 := Scalar.muli arg7 c1024_i32
  v358
def k0_off1 (i : grid0.Coords) (k0_t1 : Fin (k0_t1_loop i).trips) : Fin 3 → Nat :=
  let c0_138 : Index := 0#32
  let c0_i32_19 : BitVec 32 := 0#32
  let c1_i32_21 : BitVec 32 := 1#32
  let arg7 : BitVec 32 := Scf.iv c0_i32_19 c1_i32_21 k0_t1
  let c1024_i32 : BitVec 32 := 1024#32
  let v358 : BitVec 32 := Scalar.muli arg7 c1024_i32
  let v359 : BitVec 32 := v358
  let v360 : Index := Scalar.indexCast v359
  let c0_139 : Index := 0#32
  ![0, v360.toNat, 0]
def k0_off2 (i : grid0.Coords) (k0_t1 : Fin (k0_t1_loop i).trips) : Fin 3 → Nat :=
  let c0_144 : Index := 0#32
  let c0_i32_19 : BitVec 32 := 0#32
  let c1_i32_21 : BitVec 32 := 1#32
  let arg7 : BitVec 32 := Scf.iv c0_i32_19 c1_i32_21 k0_t1
  let c1024_i32 : BitVec 32 := 1024#32
  let v358 : BitVec 32 := Scalar.muli arg7 c1024_i32
  let v359 : BitVec 32 := v358
  let v366 : Index := Scalar.indexCast v359
  let c128_145 : Index := 128#32
  ![0, v366.toNat, 128]
def k0_off3 (i : grid0.Coords) (k0_t1 : Fin (k0_t1_loop i).trips) : Fin 3 → Nat :=
  let c0_151 : Index := 0#32
  let c0_i32_19 : BitVec 32 := 0#32
  let c1_i32_21 : BitVec 32 := 1#32
  let arg7 : BitVec 32 := Scf.iv c0_i32_19 c1_i32_21 k0_t1
  let c1024_i32 : BitVec 32 := 1024#32
  let v358 : BitVec 32 := Scalar.muli arg7 c1024_i32
  let v359 : BitVec 32 := v358
  let v379 : Index := Scalar.indexCast v359
  let c256_152 : Index := 256#32
  ![0, v379.toNat, 256]
def k0_off4 (i : grid0.Coords) (k0_t1 : Fin (k0_t1_loop i).trips) : Fin 3 → Nat :=
  let c0_157 : Index := 0#32
  let c0_158 : Index := 0#32
  let c0_i32_19 : BitVec 32 := 0#32
  let c1_i32_21 : BitVec 32 := 1#32
  let arg7 : BitVec 32 := Scf.iv c0_i32_19 c1_i32_21 k0_t1
  let c1024_i32 : BitVec 32 := 1024#32
  let v358 : BitVec 32 := Scalar.muli arg7 c1024_i32
  let v359 : BitVec 32 := v358
  let v385 : Index := Scalar.indexCast v359
  ![0, 0, v385.toNat]
def k0_off5 (i : grid0.Coords) (k0_t1 : Fin (k0_t1_loop i).trips) : Fin 3 → Nat :=
  let c0_161 : Index := 0#32
  let c0_i32_19 : BitVec 32 := 0#32
  let c1_i32_21 : BitVec 32 := 1#32
  let arg7 : BitVec 32 := Scf.iv c0_i32_19 c1_i32_21 k0_t1
  let c1024_i32 : BitVec 32 := 1024#32
  let v358 : BitVec 32 := Scalar.muli arg7 c1024_i32
  let v359 : BitVec 32 := v358
  let v401 : Index := Scalar.indexCast v359
  let c384_162 : Index := 384#32
  ![0, v401.toNat, 384]
def k0_off6 (i : grid0.Coords) (k0_t1 : Fin (k0_t1_loop i).trips) : Fin 3 → Nat :=
  let c0_167 : Index := 0#32
  let c128_168 : Index := 128#32
  let c0_i32_19 : BitVec 32 := 0#32
  let c1_i32_21 : BitVec 32 := 1#32
  let arg7 : BitVec 32 := Scf.iv c0_i32_19 c1_i32_21 k0_t1
  let c1024_i32 : BitVec 32 := 1024#32
  let v358 : BitVec 32 := Scalar.muli arg7 c1024_i32
  let v359 : BitVec 32 := v358
  let v407 : Index := Scalar.indexCast v359
  ![0, 128, v407.toNat]
def k0_off7 (i : grid0.Coords) (k0_t1 : Fin (k0_t1_loop i).trips) : Fin 3 → Nat :=
  let c0_171 : Index := 0#32
  let c0_i32_19 : BitVec 32 := 0#32
  let c1_i32_21 : BitVec 32 := 1#32
  let arg7 : BitVec 32 := Scf.iv c0_i32_19 c1_i32_21 k0_t1
  let c1024_i32 : BitVec 32 := 1024#32
  let v358 : BitVec 32 := Scalar.muli arg7 c1024_i32
  let v359 : BitVec 32 := v358
  let v423 : Index := Scalar.indexCast v359
  let c512_172 : Index := 512#32
  ![0, v423.toNat, 512]
def k0_off8 (i : grid0.Coords) (k0_t1 : Fin (k0_t1_loop i).trips) : Fin 3 → Nat :=
  let c0_177 : Index := 0#32
  let c256_178 : Index := 256#32
  let c0_i32_19 : BitVec 32 := 0#32
  let c1_i32_21 : BitVec 32 := 1#32
  let arg7 : BitVec 32 := Scf.iv c0_i32_19 c1_i32_21 k0_t1
  let c1024_i32 : BitVec 32 := 1024#32
  let v358 : BitVec 32 := Scalar.muli arg7 c1024_i32
  let v359 : BitVec 32 := v358
  let v429 : Index := Scalar.indexCast v359
  ![0, 256, v429.toNat]
def k0_off9 (i : grid0.Coords) (k0_t1 : Fin (k0_t1_loop i).trips) : Fin 3 → Nat :=
  let c0_181 : Index := 0#32
  let c0_i32_19 : BitVec 32 := 0#32
  let c1_i32_21 : BitVec 32 := 1#32
  let arg7 : BitVec 32 := Scf.iv c0_i32_19 c1_i32_21 k0_t1
  let c1024_i32 : BitVec 32 := 1024#32
  let v358 : BitVec 32 := Scalar.muli arg7 c1024_i32
  let v359 : BitVec 32 := v358
  let v445 : Index := Scalar.indexCast v359
  let c640_182 : Index := 640#32
  ![0, v445.toNat, 640]
def k0_off10 (i : grid0.Coords) (k0_t1 : Fin (k0_t1_loop i).trips) : Fin 3 → Nat :=
  let c0_187 : Index := 0#32
  let c384_188 : Index := 384#32
  let c0_i32_19 : BitVec 32 := 0#32
  let c1_i32_21 : BitVec 32 := 1#32
  let arg7 : BitVec 32 := Scf.iv c0_i32_19 c1_i32_21 k0_t1
  let c1024_i32 : BitVec 32 := 1024#32
  let v358 : BitVec 32 := Scalar.muli arg7 c1024_i32
  let v359 : BitVec 32 := v358
  let v451 : Index := Scalar.indexCast v359
  ![0, 384, v451.toNat]
def k0_off11 (i : grid0.Coords) (k0_t1 : Fin (k0_t1_loop i).trips) : Fin 3 → Nat :=
  let c0_191 : Index := 0#32
  let c0_i32_19 : BitVec 32 := 0#32
  let c1_i32_21 : BitVec 32 := 1#32
  let arg7 : BitVec 32 := Scf.iv c0_i32_19 c1_i32_21 k0_t1
  let c1024_i32 : BitVec 32 := 1024#32
  let v358 : BitVec 32 := Scalar.muli arg7 c1024_i32
  let v359 : BitVec 32 := v358
  let v467 : Index := Scalar.indexCast v359
  let c768_192 : Index := 768#32
  ![0, v467.toNat, 768]
def k0_off12 (i : grid0.Coords) (k0_t1 : Fin (k0_t1_loop i).trips) : Fin 3 → Nat :=
  let c0_197 : Index := 0#32
  let c512_198 : Index := 512#32
  let c0_i32_19 : BitVec 32 := 0#32
  let c1_i32_21 : BitVec 32 := 1#32
  let arg7 : BitVec 32 := Scf.iv c0_i32_19 c1_i32_21 k0_t1
  let c1024_i32 : BitVec 32 := 1024#32
  let v358 : BitVec 32 := Scalar.muli arg7 c1024_i32
  let v359 : BitVec 32 := v358
  let v473 : Index := Scalar.indexCast v359
  ![0, 512, v473.toNat]
def k0_off13 (i : grid0.Coords) (k0_t1 : Fin (k0_t1_loop i).trips) : Fin 3 → Nat :=
  let c0_201 : Index := 0#32
  let c0_i32_19 : BitVec 32 := 0#32
  let c1_i32_21 : BitVec 32 := 1#32
  let arg7 : BitVec 32 := Scf.iv c0_i32_19 c1_i32_21 k0_t1
  let c1024_i32 : BitVec 32 := 1024#32
  let v358 : BitVec 32 := Scalar.muli arg7 c1024_i32
  let v359 : BitVec 32 := v358
  let v489 : Index := Scalar.indexCast v359
  let c896_202 : Index := 896#32
  ![0, v489.toNat, 896]
def k0_off14 (i : grid0.Coords) (k0_t1 : Fin (k0_t1_loop i).trips) : Fin 3 → Nat :=
  let c0_207 : Index := 0#32
  let c640_208 : Index := 640#32
  let c0_i32_19 : BitVec 32 := 0#32
  let c1_i32_21 : BitVec 32 := 1#32
  let arg7 : BitVec 32 := Scf.iv c0_i32_19 c1_i32_21 k0_t1
  let c1024_i32 : BitVec 32 := 1024#32
  let v358 : BitVec 32 := Scalar.muli arg7 c1024_i32
  let v359 : BitVec 32 := v358
  let v495 : Index := Scalar.indexCast v359
  ![0, 640, v495.toNat]
def k0_off15 (i : grid0.Coords) (k0_t1 : Fin (k0_t1_loop i).trips) : Fin 3 → Nat :=
  let c0_211 : Index := 0#32
  let c768_212 : Index := 768#32
  let c0_i32_19 : BitVec 32 := 0#32
  let c1_i32_21 : BitVec 32 := 1#32
  let arg7 : BitVec 32 := Scf.iv c0_i32_19 c1_i32_21 k0_t1
  let c1024_i32 : BitVec 32 := 1024#32
  let v358 : BitVec 32 := Scalar.muli arg7 c1024_i32
  let v359 : BitVec 32 := v358
  let v511 : Index := Scalar.indexCast v359
  ![0, 768, v511.toNat]
def k0_off16 (i : grid0.Coords) (k0_t1 : Fin (k0_t1_loop i).trips) : Fin 3 → Nat :=
  let c0_215 : Index := 0#32
  let c896_216 : Index := 896#32
  let c0_i32_19 : BitVec 32 := 0#32
  let c1_i32_21 : BitVec 32 := 1#32
  let arg7 : BitVec 32 := Scf.iv c0_i32_19 c1_i32_21 k0_t1
  let c1024_i32 : BitVec 32 := 1024#32
  let v358 : BitVec 32 := Scalar.muli arg7 c1024_i32
  let v359 : BitVec 32 := v358
  let v527 : Index := Scalar.indexCast v359
  ![0, 896, v527.toNat]
@[reducible] def k0_t2_loop (i : grid0.Coords) : Scf.Loop 32 :=
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let v34 : BitVec 32 := Scalar.addi c0_i32_19 v33
  let c1_i32_22 : BitVec 32 := 1#32
  ⟨v37, v34, c1_i32_22⟩
def k0_mult2 (i : grid0.Coords) (k0_t2 : Fin (k0_t2_loop i).trips) : BitVec 32 :=
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_22 : BitVec 32 := 1#32
  let arg7 : BitVec 32 := Scf.iv v37 c1_i32_22 k0_t2
  let c1024_i32 : BitVec 32 := 1024#32
  let v358 : BitVec 32 := Scalar.muli arg7 c1024_i32
  v358
def k0_off17 (i : grid0.Coords) (k0_t2 : Fin (k0_t2_loop i).trips) : Fin 3 → Nat :=
  let c0_138 : Index := 0#32
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_22 : BitVec 32 := 1#32
  let arg7 : BitVec 32 := Scf.iv v37 c1_i32_22 k0_t2
  let c1024_i32 : BitVec 32 := 1024#32
  let v358 : BitVec 32 := Scalar.muli arg7 c1024_i32
  let v359 : BitVec 32 := v358
  let v360 : Index := Scalar.indexCast v359
  let c0_139 : Index := 0#32
  ![0, v360.toNat, 0]
def k0_off18 (i : grid0.Coords) (k0_t2 : Fin (k0_t2_loop i).trips) : Fin 3 → Nat :=
  let c0_144 : Index := 0#32
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_22 : BitVec 32 := 1#32
  let arg7 : BitVec 32 := Scf.iv v37 c1_i32_22 k0_t2
  let c1024_i32 : BitVec 32 := 1024#32
  let v358 : BitVec 32 := Scalar.muli arg7 c1024_i32
  let v359 : BitVec 32 := v358
  let v366 : Index := Scalar.indexCast v359
  let c128_145 : Index := 128#32
  ![0, v366.toNat, 128]
def k0_off19 (i : grid0.Coords) (k0_t2 : Fin (k0_t2_loop i).trips) : Fin 3 → Nat :=
  let c0_151 : Index := 0#32
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_22 : BitVec 32 := 1#32
  let arg7 : BitVec 32 := Scf.iv v37 c1_i32_22 k0_t2
  let c1024_i32 : BitVec 32 := 1024#32
  let v358 : BitVec 32 := Scalar.muli arg7 c1024_i32
  let v359 : BitVec 32 := v358
  let v379 : Index := Scalar.indexCast v359
  let c256_152 : Index := 256#32
  ![0, v379.toNat, 256]
def k0_off20 (i : grid0.Coords) (k0_t2 : Fin (k0_t2_loop i).trips) : Fin 3 → Nat :=
  let c0_157 : Index := 0#32
  let c0_158 : Index := 0#32
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_22 : BitVec 32 := 1#32
  let arg7 : BitVec 32 := Scf.iv v37 c1_i32_22 k0_t2
  let c1024_i32 : BitVec 32 := 1024#32
  let v358 : BitVec 32 := Scalar.muli arg7 c1024_i32
  let v359 : BitVec 32 := v358
  let v385 : Index := Scalar.indexCast v359
  ![0, 0, v385.toNat]
def k0_off21 (i : grid0.Coords) (k0_t2 : Fin (k0_t2_loop i).trips) : Fin 3 → Nat :=
  let c0_161 : Index := 0#32
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_22 : BitVec 32 := 1#32
  let arg7 : BitVec 32 := Scf.iv v37 c1_i32_22 k0_t2
  let c1024_i32 : BitVec 32 := 1024#32
  let v358 : BitVec 32 := Scalar.muli arg7 c1024_i32
  let v359 : BitVec 32 := v358
  let v401 : Index := Scalar.indexCast v359
  let c384_162 : Index := 384#32
  ![0, v401.toNat, 384]
def k0_off22 (i : grid0.Coords) (k0_t2 : Fin (k0_t2_loop i).trips) : Fin 3 → Nat :=
  let c0_167 : Index := 0#32
  let c128_168 : Index := 128#32
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_22 : BitVec 32 := 1#32
  let arg7 : BitVec 32 := Scf.iv v37 c1_i32_22 k0_t2
  let c1024_i32 : BitVec 32 := 1024#32
  let v358 : BitVec 32 := Scalar.muli arg7 c1024_i32
  let v359 : BitVec 32 := v358
  let v407 : Index := Scalar.indexCast v359
  ![0, 128, v407.toNat]
def k0_off23 (i : grid0.Coords) (k0_t2 : Fin (k0_t2_loop i).trips) : Fin 3 → Nat :=
  let c0_171 : Index := 0#32
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_22 : BitVec 32 := 1#32
  let arg7 : BitVec 32 := Scf.iv v37 c1_i32_22 k0_t2
  let c1024_i32 : BitVec 32 := 1024#32
  let v358 : BitVec 32 := Scalar.muli arg7 c1024_i32
  let v359 : BitVec 32 := v358
  let v423 : Index := Scalar.indexCast v359
  let c512_172 : Index := 512#32
  ![0, v423.toNat, 512]
def k0_off24 (i : grid0.Coords) (k0_t2 : Fin (k0_t2_loop i).trips) : Fin 3 → Nat :=
  let c0_177 : Index := 0#32
  let c256_178 : Index := 256#32
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_22 : BitVec 32 := 1#32
  let arg7 : BitVec 32 := Scf.iv v37 c1_i32_22 k0_t2
  let c1024_i32 : BitVec 32 := 1024#32
  let v358 : BitVec 32 := Scalar.muli arg7 c1024_i32
  let v359 : BitVec 32 := v358
  let v429 : Index := Scalar.indexCast v359
  ![0, 256, v429.toNat]
def k0_off25 (i : grid0.Coords) (k0_t2 : Fin (k0_t2_loop i).trips) : Fin 3 → Nat :=
  let c0_181 : Index := 0#32
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_22 : BitVec 32 := 1#32
  let arg7 : BitVec 32 := Scf.iv v37 c1_i32_22 k0_t2
  let c1024_i32 : BitVec 32 := 1024#32
  let v358 : BitVec 32 := Scalar.muli arg7 c1024_i32
  let v359 : BitVec 32 := v358
  let v445 : Index := Scalar.indexCast v359
  let c640_182 : Index := 640#32
  ![0, v445.toNat, 640]
def k0_off26 (i : grid0.Coords) (k0_t2 : Fin (k0_t2_loop i).trips) : Fin 3 → Nat :=
  let c0_187 : Index := 0#32
  let c384_188 : Index := 384#32
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_22 : BitVec 32 := 1#32
  let arg7 : BitVec 32 := Scf.iv v37 c1_i32_22 k0_t2
  let c1024_i32 : BitVec 32 := 1024#32
  let v358 : BitVec 32 := Scalar.muli arg7 c1024_i32
  let v359 : BitVec 32 := v358
  let v451 : Index := Scalar.indexCast v359
  ![0, 384, v451.toNat]
def k0_off27 (i : grid0.Coords) (k0_t2 : Fin (k0_t2_loop i).trips) : Fin 3 → Nat :=
  let c0_191 : Index := 0#32
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_22 : BitVec 32 := 1#32
  let arg7 : BitVec 32 := Scf.iv v37 c1_i32_22 k0_t2
  let c1024_i32 : BitVec 32 := 1024#32
  let v358 : BitVec 32 := Scalar.muli arg7 c1024_i32
  let v359 : BitVec 32 := v358
  let v467 : Index := Scalar.indexCast v359
  let c768_192 : Index := 768#32
  ![0, v467.toNat, 768]
def k0_off28 (i : grid0.Coords) (k0_t2 : Fin (k0_t2_loop i).trips) : Fin 3 → Nat :=
  let c0_197 : Index := 0#32
  let c512_198 : Index := 512#32
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_22 : BitVec 32 := 1#32
  let arg7 : BitVec 32 := Scf.iv v37 c1_i32_22 k0_t2
  let c1024_i32 : BitVec 32 := 1024#32
  let v358 : BitVec 32 := Scalar.muli arg7 c1024_i32
  let v359 : BitVec 32 := v358
  let v473 : Index := Scalar.indexCast v359
  ![0, 512, v473.toNat]
def k0_off29 (i : grid0.Coords) (k0_t2 : Fin (k0_t2_loop i).trips) : Fin 3 → Nat :=
  let c0_201 : Index := 0#32
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_22 : BitVec 32 := 1#32
  let arg7 : BitVec 32 := Scf.iv v37 c1_i32_22 k0_t2
  let c1024_i32 : BitVec 32 := 1024#32
  let v358 : BitVec 32 := Scalar.muli arg7 c1024_i32
  let v359 : BitVec 32 := v358
  let v489 : Index := Scalar.indexCast v359
  let c896_202 : Index := 896#32
  ![0, v489.toNat, 896]
def k0_off30 (i : grid0.Coords) (k0_t2 : Fin (k0_t2_loop i).trips) : Fin 3 → Nat :=
  let c0_207 : Index := 0#32
  let c640_208 : Index := 640#32
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_22 : BitVec 32 := 1#32
  let arg7 : BitVec 32 := Scf.iv v37 c1_i32_22 k0_t2
  let c1024_i32 : BitVec 32 := 1024#32
  let v358 : BitVec 32 := Scalar.muli arg7 c1024_i32
  let v359 : BitVec 32 := v358
  let v495 : Index := Scalar.indexCast v359
  ![0, 640, v495.toNat]
def k0_off31 (i : grid0.Coords) (k0_t2 : Fin (k0_t2_loop i).trips) : Fin 3 → Nat :=
  let c0_211 : Index := 0#32
  let c768_212 : Index := 768#32
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_22 : BitVec 32 := 1#32
  let arg7 : BitVec 32 := Scf.iv v37 c1_i32_22 k0_t2
  let c1024_i32 : BitVec 32 := 1024#32
  let v358 : BitVec 32 := Scalar.muli arg7 c1024_i32
  let v359 : BitVec 32 := v358
  let v511 : Index := Scalar.indexCast v359
  ![0, 768, v511.toNat]
def k0_off32 (i : grid0.Coords) (k0_t2 : Fin (k0_t2_loop i).trips) : Fin 3 → Nat :=
  let c0_215 : Index := 0#32
  let c896_216 : Index := 896#32
  let c0_i32_19 : BitVec 32 := 0#32
  let arg2 : BitVec 32 := BitVec.ofNat 32 (i 2).val
  let c0_i32 : BitVec 32 := 0#32
  let v17 : BitVec 1 := Scalar.cmpi .sgt arg2 c0_i32
  let v18 : BitVec 32 := Scalar.extui v17
  let c0_i32_15 : BitVec 32 := 0#32
  let v19 : BitVec 1 := Scalar.cmpi .slt arg2 c0_i32_15
  let v20 : BitVec 32 := Scalar.extui v19
  let v21 : BitVec 32 := Scalar.subi v18 v20
  let c2_i32 : BitVec 32 := 2#32
  let c0_i32_16 : BitVec 32 := 0#32
  let v22 : BitVec 1 := Scalar.cmpi .sgt c2_i32 c0_i32_16
  let v23 : BitVec 32 := Scalar.extui v22
  let c0_i32_17 : BitVec 32 := 0#32
  let v24 : BitVec 1 := Scalar.cmpi .slt c2_i32 c0_i32_17
  let v25 : BitVec 32 := Scalar.extui v24
  let v26 : BitVec 32 := Scalar.subi v23 v25
  let v27 : BitVec 1 := Scalar.cmpi .ne v21 v26
  let v28 : BitVec 32 := Scalar.remsi arg2 c2_i32
  let c0_i32_18 : BitVec 32 := 0#32
  let v29 : BitVec 1 := Scalar.cmpi .ne v28 c0_i32_18
  let v30 : BitVec 1 := Scalar.andi v27 v29
  let v16 : BitVec 32 := Scalar.divsi arg2 c2_i32
  let c1_i32 : BitVec 32 := 1#32
  let v31 : BitVec 32 := Scalar.subi v16 c1_i32
  let v32 : BitVec 32 := Scalar.select v30 v31 v16
  let v33 : BitVec 32 := Scalar.subi v32 c0_i32_19
  let c1_i32_20 : BitVec 32 := 1#32
  let v35 : BitVec 32 := Scalar.divsi v33 c1_i32_20
  let v36 : BitVec 32 := Scalar.muli v35 c1_i32_20
  let v37 : BitVec 32 := Scalar.addi c0_i32_19 v36
  let c1_i32_22 : BitVec 32 := 1#32
  let arg7 : BitVec 32 := Scf.iv v37 c1_i32_22 k0_t2
  let c1024_i32 : BitVec 32 := 1024#32
  let v358 : BitVec 32 := Scalar.muli arg7 c1024_i32
  let v359 : BitVec 32 := v358
  let v527 : Index := Scalar.indexCast v359
  ![0, 896, v527.toNat]
@[reducible] def k0_t3_loop (i : grid0.Coords) : Scf.Loop 32 :=
  let c0_i32_29 : BitVec 32 := 0#32
  let arg2 : BitVec 32 := BitVec.ofNat 32 (i 2).val
  let c2_i32_23 : BitVec 32 := 2#32
  let c0_i32_24 : BitVec 32 := 0#32
  let v40 : BitVec 1 := Scalar.cmpi .eq c2_i32_23 c0_i32_24
  let c1_i32_25 : BitVec 32 := 1#32
  let v41 : BitVec 32 := Scalar.select v40 c1_i32_25 c2_i32_23
  let v42 : BitVec 32 := Scalar.remsi arg2 v41
  let c0_i32_27 : BitVec 32 := 0#32
  let v44 : BitVec 1 := Scalar.cmpi .slt v42 c0_i32_27
  let c0_i32_28 : BitVec 32 := 0#32
  let v45 : BitVec 1 := Scalar.cmpi .slt v41 c0_i32_28
  let v46 : BitVec 1 := Scalar.xori v44 v45
  let c0_i32_26 : BitVec 32 := 0#32
  let v43 : BitVec 1 := Scalar.cmpi .ne v42 c0_i32_26
  let v47 : BitVec 1 := Scalar.andi v46 v43
  let v48 : BitVec 32 := Scalar.addi v42 v41
  let v49 : BitVec 32 := Scalar.select v47 v48 v42
  let v50 : BitVec 32 := Scalar.subi v49 c0_i32_29
  let c1_i32_30 : BitVec 32 := 1#32
  let v52 : BitVec 32 := Scalar.divsi v50 c1_i32_30
  let v53 : BitVec 32 := Scalar.muli v52 c1_i32_30
  let v54 : BitVec 32 := Scalar.addi c0_i32_29 v53
  let c1_i32_31 : BitVec 32 := 1#32
  ⟨c0_i32_29, v54, c1_i32_31⟩
def k0_mult3 (i : grid0.Coords) : BitVec 32 :=
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  v359
def k0_off33 (i : grid0.Coords) : Fin 3 → Nat :=
  let c0_140 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v361 : Index := Scalar.indexCast v360
  let c0_141 : Index := 0#32
  ![0, v361.toNat, 0]
def k0_off34 (i : grid0.Coords) : Fin 3 → Nat :=
  let c0_146 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v367 : Index := Scalar.indexCast v360
  let c128_147 : Index := 128#32
  ![0, v367.toNat, 128]
def k0_off35 (i : grid0.Coords) : Fin 3 → Nat :=
  let c0_153 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v380 : Index := Scalar.indexCast v360
  let c256_154 : Index := 256#32
  ![0, v380.toNat, 256]
def k0_off36 (i : grid0.Coords) : Fin 3 → Nat :=
  let c0_159 : Index := 0#32
  let c0_160 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v386 : Index := Scalar.indexCast v360
  ![0, 0, v386.toNat]
def k0_off37 (i : grid0.Coords) : Fin 3 → Nat :=
  let c0_163 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v402 : Index := Scalar.indexCast v360
  let c384_164 : Index := 384#32
  ![0, v402.toNat, 384]
def k0_off38 (i : grid0.Coords) : Fin 3 → Nat :=
  let c0_169 : Index := 0#32
  let c128_170 : Index := 128#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v408 : Index := Scalar.indexCast v360
  ![0, 128, v408.toNat]
def k0_off39 (i : grid0.Coords) : Fin 3 → Nat :=
  let c0_173 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v424 : Index := Scalar.indexCast v360
  let c512_174 : Index := 512#32
  ![0, v424.toNat, 512]
def k0_off40 (i : grid0.Coords) : Fin 3 → Nat :=
  let c0_179 : Index := 0#32
  let c256_180 : Index := 256#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v430 : Index := Scalar.indexCast v360
  ![0, 256, v430.toNat]
def k0_off41 (i : grid0.Coords) : Fin 3 → Nat :=
  let c0_183 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v446 : Index := Scalar.indexCast v360
  let c640_184 : Index := 640#32
  ![0, v446.toNat, 640]
def k0_off42 (i : grid0.Coords) : Fin 3 → Nat :=
  let c0_189 : Index := 0#32
  let c384_190 : Index := 384#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v452 : Index := Scalar.indexCast v360
  ![0, 384, v452.toNat]
def k0_off43 (i : grid0.Coords) : Fin 3 → Nat :=
  let c0_193 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v468 : Index := Scalar.indexCast v360
  let c768_194 : Index := 768#32
  ![0, v468.toNat, 768]
def k0_off44 (i : grid0.Coords) : Fin 3 → Nat :=
  let c0_199 : Index := 0#32
  let c512_200 : Index := 512#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v474 : Index := Scalar.indexCast v360
  ![0, 512, v474.toNat]
def k0_off45 (i : grid0.Coords) : Fin 3 → Nat :=
  let c0_203 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v490 : Index := Scalar.indexCast v360
  let c896_204 : Index := 896#32
  ![0, v490.toNat, 896]
def k0_off46 (i : grid0.Coords) : Fin 3 → Nat :=
  let c0_209 : Index := 0#32
  let c640_210 : Index := 640#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v496 : Index := Scalar.indexCast v360
  ![0, 640, v496.toNat]
def k0_off47 (i : grid0.Coords) : Fin 3 → Nat :=
  let c0_213 : Index := 0#32
  let c768_214 : Index := 768#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v512 : Index := Scalar.indexCast v360
  ![0, 768, v512.toNat]
def k0_off48 (i : grid0.Coords) : Fin 3 → Nat :=
  let c0_217 : Index := 0#32
  let c896_218 : Index := 896#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v528 : Index := Scalar.indexCast v360
  ![0, 896, v528.toNat]
@[reducible] def k0_t4_loop (i : grid0.Coords) : Scf.Loop 32 :=
  let c0_i32_29 : BitVec 32 := 0#32
  let arg2 : BitVec 32 := BitVec.ofNat 32 (i 2).val
  let c2_i32_23 : BitVec 32 := 2#32
  let c0_i32_24 : BitVec 32 := 0#32
  let v40 : BitVec 1 := Scalar.cmpi .eq c2_i32_23 c0_i32_24
  let c1_i32_25 : BitVec 32 := 1#32
  let v41 : BitVec 32 := Scalar.select v40 c1_i32_25 c2_i32_23
  let v42 : BitVec 32 := Scalar.remsi arg2 v41
  let c0_i32_27 : BitVec 32 := 0#32
  let v44 : BitVec 1 := Scalar.cmpi .slt v42 c0_i32_27
  let c0_i32_28 : BitVec 32 := 0#32
  let v45 : BitVec 1 := Scalar.cmpi .slt v41 c0_i32_28
  let v46 : BitVec 1 := Scalar.xori v44 v45
  let c0_i32_26 : BitVec 32 := 0#32
  let v43 : BitVec 1 := Scalar.cmpi .ne v42 c0_i32_26
  let v47 : BitVec 1 := Scalar.andi v46 v43
  let v48 : BitVec 32 := Scalar.addi v42 v41
  let v49 : BitVec 32 := Scalar.select v47 v48 v42
  let v50 : BitVec 32 := Scalar.subi v49 c0_i32_29
  let c1_i32_30 : BitVec 32 := 1#32
  let v52 : BitVec 32 := Scalar.divsi v50 c1_i32_30
  let v53 : BitVec 32 := Scalar.muli v52 c1_i32_30
  let v54 : BitVec 32 := Scalar.addi c0_i32_29 v53
  let v51 : BitVec 32 := Scalar.addi c0_i32_29 v50
  let c1_i32_32 : BitVec 32 := 1#32
  ⟨v54, v51, c1_i32_32⟩
def k0_mult4 (i : grid0.Coords) : BitVec 32 :=
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  v359
def k0_off49 (i : grid0.Coords) : Fin 3 → Nat :=
  let c0_140 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v361 : Index := Scalar.indexCast v360
  let c0_141 : Index := 0#32
  ![0, v361.toNat, 0]
def k0_off50 (i : grid0.Coords) : Fin 3 → Nat :=
  let c0_146 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v367 : Index := Scalar.indexCast v360
  let c128_147 : Index := 128#32
  ![0, v367.toNat, 128]
def k0_off51 (i : grid0.Coords) : Fin 3 → Nat :=
  let c0_153 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v380 : Index := Scalar.indexCast v360
  let c256_154 : Index := 256#32
  ![0, v380.toNat, 256]
def k0_off52 (i : grid0.Coords) : Fin 3 → Nat :=
  let c0_159 : Index := 0#32
  let c0_160 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v386 : Index := Scalar.indexCast v360
  ![0, 0, v386.toNat]
def k0_off53 (i : grid0.Coords) : Fin 3 → Nat :=
  let c0_163 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v402 : Index := Scalar.indexCast v360
  let c384_164 : Index := 384#32
  ![0, v402.toNat, 384]
def k0_off54 (i : grid0.Coords) : Fin 3 → Nat :=
  let c0_169 : Index := 0#32
  let c128_170 : Index := 128#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v408 : Index := Scalar.indexCast v360
  ![0, 128, v408.toNat]
def k0_off55 (i : grid0.Coords) : Fin 3 → Nat :=
  let c0_173 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v424 : Index := Scalar.indexCast v360
  let c512_174 : Index := 512#32
  ![0, v424.toNat, 512]
def k0_off56 (i : grid0.Coords) : Fin 3 → Nat :=
  let c0_179 : Index := 0#32
  let c256_180 : Index := 256#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v430 : Index := Scalar.indexCast v360
  ![0, 256, v430.toNat]
def k0_off57 (i : grid0.Coords) : Fin 3 → Nat :=
  let c0_183 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v446 : Index := Scalar.indexCast v360
  let c640_184 : Index := 640#32
  ![0, v446.toNat, 640]
def k0_off58 (i : grid0.Coords) : Fin 3 → Nat :=
  let c0_189 : Index := 0#32
  let c384_190 : Index := 384#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v452 : Index := Scalar.indexCast v360
  ![0, 384, v452.toNat]
def k0_off59 (i : grid0.Coords) : Fin 3 → Nat :=
  let c0_193 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v468 : Index := Scalar.indexCast v360
  let c768_194 : Index := 768#32
  ![0, v468.toNat, 768]
def k0_off60 (i : grid0.Coords) : Fin 3 → Nat :=
  let c0_199 : Index := 0#32
  let c512_200 : Index := 512#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v474 : Index := Scalar.indexCast v360
  ![0, 512, v474.toNat]
def k0_off61 (i : grid0.Coords) : Fin 3 → Nat :=
  let c0_203 : Index := 0#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v490 : Index := Scalar.indexCast v360
  let c896_204 : Index := 896#32
  ![0, v490.toNat, 896]
def k0_off62 (i : grid0.Coords) : Fin 3 → Nat :=
  let c0_209 : Index := 0#32
  let c640_210 : Index := 640#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v496 : Index := Scalar.indexCast v360
  ![0, 640, v496.toNat]
def k0_off63 (i : grid0.Coords) : Fin 3 → Nat :=
  let c0_213 : Index := 0#32
  let c768_214 : Index := 768#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v512 : Index := Scalar.indexCast v360
  ![0, 768, v512.toNat]
def k0_off64 (i : grid0.Coords) : Fin 3 → Nat :=
  let c0_217 : Index := 0#32
  let c896_218 : Index := 896#32
  let arg2 : BitVec 32 := BitVec.ofNat 32 (i 2).val
  let c1_i32_138 : BitVec 32 := 1#32
  let v358 : BitVec 32 := Scalar.subi arg2 c1_i32_138
  let c512_i32_139 : BitVec 32 := 512#32
  let v359 : BitVec 32 := Scalar.muli v358 c512_i32_139
  let v360 : BitVec 32 := v359
  let v528 : Index := Scalar.indexCast v360
  ![0, 896, v528.toNat]
def k0_mult5 (i : grid0.Coords) : BitVec 32 :=
  let arg2 : BitVec 32 := BitVec.ofNat 32 (i 2).val
  let c512_i32 : BitVec 32 := 512#32
  let v57 : BitVec 32 := Scalar.muli arg2 c512_i32
  v57
def k0_off65 (i : grid0.Coords) : Fin 3 → Nat :=
  let c0 : Index := 0#32
  let arg2 : BitVec 32 := BitVec.ofNat 32 (i 2).val
  let c512_i32 : BitVec 32 := 512#32
  let v57 : BitVec 32 := Scalar.muli arg2 c512_i32
  let v58 : BitVec 32 := v57
  let v110 : Index := Scalar.indexCast v58
  let c0_46 : Index := 0#32
  ![0, v110.toNat, 0]
def k0_off66 (i : grid0.Coords) : Fin 3 → Nat :=
  let c0_52 : Index := 0#32
  let arg2 : BitVec 32 := BitVec.ofNat 32 (i 2).val
  let c512_i32 : BitVec 32 := 512#32
  let v57 : BitVec 32 := Scalar.muli arg2 c512_i32
  let v58 : BitVec 32 := v57
  let v118 : Index := Scalar.indexCast v58
  let c128 : Index := 128#32
  ![0, v118.toNat, 128]
def k0_off67 (i : grid0.Coords) : Fin 3 → Nat :=
  let c0_59 : Index := 0#32
  let arg2 : BitVec 32 := BitVec.ofNat 32 (i 2).val
  let c512_i32 : BitVec 32 := 512#32
  let v57 : BitVec 32 := Scalar.muli arg2 c512_i32
  let v58 : BitVec 32 := v57
  let v133 : Index := Scalar.indexCast v58
  let c256 : Index := 256#32
  ![0, v133.toNat, 256]
def k0_off68 (i : grid0.Coords) : Fin 3 → Nat :=
  let c0_65 : Index := 0#32
  let c0_66 : Index := 0#32
  let arg2 : BitVec 32 := BitVec.ofNat 32 (i 2).val
  let c512_i32 : BitVec 32 := 512#32
  let v57 : BitVec 32 := Scalar.muli arg2 c512_i32
  let v58 : BitVec 32 := v57
  let v141 : Index := Scalar.indexCast v58
  ![0, 0, v141.toNat]
def k0_off69 (i : grid0.Coords) : Fin 3 → Nat :=
  let c0_69 : Index := 0#32
  let arg2 : BitVec 32 := BitVec.ofNat 32 (i 2).val
  let c512_i32 : BitVec 32 := 512#32
  let v57 : BitVec 32 := Scalar.muli arg2 c512_i32
  let v58 : BitVec 32 := v57
  let v157 : Index := Scalar.indexCast v58
  let c384 : Index := 384#32
  ![0, v157.toNat, 384]
def k0_off70 (i : grid0.Coords) : Fin 3 → Nat :=
  let c0_75 : Index := 0#32
  let c128_76 : Index := 128#32
  let arg2 : BitVec 32 := BitVec.ofNat 32 (i 2).val
  let c512_i32 : BitVec 32 := 512#32
  let v57 : BitVec 32 := Scalar.muli arg2 c512_i32
  let v58 : BitVec 32 := v57
  let v165 : Index := Scalar.indexCast v58
  ![0, 128, v165.toNat]
def k0_off71 (i : grid0.Coords) : Fin 3 → Nat :=
  let c0_79 : Index := 0#32
  let arg2 : BitVec 32 := BitVec.ofNat 32 (i 2).val
  let c512_i32 : BitVec 32 := 512#32
  let v57 : BitVec 32 := Scalar.muli arg2 c512_i32
  let v58 : BitVec 32 := v57
  let v181 : Index := Scalar.indexCast v58
  let c512 : Index := 512#32
  ![0, v181.toNat, 512]
def k0_off72 (i : grid0.Coords) : Fin 3 → Nat :=
  let c0_85 : Index := 0#32
  let c256_86 : Index := 256#32
  let arg2 : BitVec 32 := BitVec.ofNat 32 (i 2).val
  let c512_i32 : BitVec 32 := 512#32
  let v57 : BitVec 32 := Scalar.muli arg2 c512_i32
  let v58 : BitVec 32 := v57
  let v189 : Index := Scalar.indexCast v58
  ![0, 256, v189.toNat]
def k0_off73 (i : grid0.Coords) : Fin 3 → Nat :=
  let c0_89 : Index := 0#32
  let arg2 : BitVec 32 := BitVec.ofNat 32 (i 2).val
  let c512_i32 : BitVec 32 := 512#32
  let v57 : BitVec 32 := Scalar.muli arg2 c512_i32
  let v58 : BitVec 32 := v57
  let v205 : Index := Scalar.indexCast v58
  let c640 : Index := 640#32
  ![0, v205.toNat, 640]
def k0_off74 (i : grid0.Coords) : Fin 3 → Nat :=
  let c0_95 : Index := 0#32
  let c384_96 : Index := 384#32
  let arg2 : BitVec 32 := BitVec.ofNat 32 (i 2).val
  let c512_i32 : BitVec 32 := 512#32
  let v57 : BitVec 32 := Scalar.muli arg2 c512_i32
  let v58 : BitVec 32 := v57
  let v213 : Index := Scalar.indexCast v58
  ![0, 384, v213.toNat]
def k0_off75 (i : grid0.Coords) : Fin 3 → Nat :=
  let c0_99 : Index := 0#32
  let arg2 : BitVec 32 := BitVec.ofNat 32 (i 2).val
  let c512_i32 : BitVec 32 := 512#32
  let v57 : BitVec 32 := Scalar.muli arg2 c512_i32
  let v58 : BitVec 32 := v57
  let v229 : Index := Scalar.indexCast v58
  let c768 : Index := 768#32
  ![0, v229.toNat, 768]
def k0_off76 (i : grid0.Coords) : Fin 3 → Nat :=
  let c0_105 : Index := 0#32
  let c512_106 : Index := 512#32
  let arg2 : BitVec 32 := BitVec.ofNat 32 (i 2).val
  let c512_i32 : BitVec 32 := 512#32
  let v57 : BitVec 32 := Scalar.muli arg2 c512_i32
  let v58 : BitVec 32 := v57
  let v237 : Index := Scalar.indexCast v58
  ![0, 512, v237.toNat]
def k0_off77 (i : grid0.Coords) : Fin 3 → Nat :=
  let c0_109 : Index := 0#32
  let arg2 : BitVec 32 := BitVec.ofNat 32 (i 2).val
  let c512_i32 : BitVec 32 := 512#32
  let v57 : BitVec 32 := Scalar.muli arg2 c512_i32
  let v58 : BitVec 32 := v57
  let v253 : Index := Scalar.indexCast v58
  let c896 : Index := 896#32
  ![0, v253.toNat, 896]
def k0_off78 (i : grid0.Coords) : Fin 3 → Nat :=
  let c0_115 : Index := 0#32
  let c640_116 : Index := 640#32
  let arg2 : BitVec 32 := BitVec.ofNat 32 (i 2).val
  let c512_i32 : BitVec 32 := 512#32
  let v57 : BitVec 32 := Scalar.muli arg2 c512_i32
  let v58 : BitVec 32 := v57
  let v261 : Index := Scalar.indexCast v58
  ![0, 640, v261.toNat]
def k0_off79 (i : grid0.Coords) : Fin 3 → Nat :=
  let c0_119 : Index := 0#32
  let c768_120 : Index := 768#32
  let arg2 : BitVec 32 := BitVec.ofNat 32 (i 2).val
  let c512_i32 : BitVec 32 := 512#32
  let v57 : BitVec 32 := Scalar.muli arg2 c512_i32
  let v58 : BitVec 32 := v57
  let v277 : Index := Scalar.indexCast v58
  ![0, 768, v277.toNat]
def k0_off80 (i : grid0.Coords) : Fin 3 → Nat :=
  let c0_123 : Index := 0#32
  let c896_124 : Index := 896#32
  let arg2 : BitVec 32 := BitVec.ofNat 32 (i 2).val
  let c512_i32 : BitVec 32 := 512#32
  let v57 : BitVec 32 := Scalar.muli arg2 c512_i32
  let v58 : BitVec 32 := v57
  let v293 : Index := Scalar.indexCast v58
  ![0, 896, v293.toNat]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 1 → Memref sig .tc .vmem S1x8192x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, true, false]

abbrev stage0_2 : Fin 1 → Memref sig .tc .vmem S1x1024x8192 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 2 → Memref sig .tc .vmem S1x512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== Reference.lean ====
abbrev S4x8192x8x64 : Shape := ⟨4, ![4, 8192, 8, 64]⟩
abbrev S4x8192x8x32 : Shape := ⟨4, ![4, 8192, 8, 32]⟩
abbrev S4x8192x32 : Shape := ⟨3, ![4, 8192, 32]⟩
abbrev S8192 : Shape := ⟨1, ![8192]⟩
abbrev S_ : Shape := ⟨0, ![]⟩
abbrev S4x8x8192x8192 : Shape := ⟨4, ![4, 8, 8192, 8192]⟩
abbrev S4x8192x8192x8 : Shape := ⟨4, ![4, 8192, 8192, 8]⟩
abbrev S1x8192 : Shape := ⟨2, ![1, 8192]⟩
abbrev S8192x1 : Shape := ⟨2, ![8192, 1]⟩
abbrev S8192x8192 : Shape := ⟨2, ![8192, 8192]⟩
abbrev S4x8x8192 : Shape := ⟨3, ![4, 8, 8192]⟩
abbrev S4x8x8192x1 : Shape := ⟨4, ![4, 8, 8192, 1]⟩
abbrev S4x8x64x8192 : Shape := ⟨4, ![4, 8, 64, 8192]⟩
abbrev S4x8192x512 : Shape := ⟨3, ![4, 8192, 512]⟩

abbrev nBuf : Space → Nat
  | .hbm => 62
  | .vmem => 0
  | .smem => 0
  | _ => 0

abbrev bufTy : (tb : Table) → Fin (tcTables nBuf tb) → BufTy
  | .hbm, ⟨0, _⟩ => ⟨S4x8192x8x64, .f32⟩
  | .hbm, ⟨1, _⟩ => ⟨S4x8192x8x32, .f32⟩
  | .hbm, ⟨2, _⟩ => ⟨S4x8192x8x64, .f32⟩
  | .hbm, ⟨3, _⟩ => ⟨S4x8192x32, .f32⟩
  | .hbm, ⟨4, _⟩ => ⟨S4x8192x8x64, .f32⟩
  | .hbm, ⟨5, _⟩ => ⟨S8192, .i32⟩
  | .hbm, ⟨6, _⟩ => ⟨S_, .i32⟩
  | .hbm, ⟨7, _⟩ => ⟨S_, .i32⟩
  | .hbm, ⟨8, _⟩ => ⟨S8192, .i32⟩
  | .hbm, ⟨9, _⟩ => ⟨S8192, .i32⟩
  | .hbm, ⟨10, _⟩ => ⟨S8192, .i32⟩
  | .hbm, ⟨11, _⟩ => ⟨S_, .i32⟩
  | .hbm, ⟨12, _⟩ => ⟨S8192, .i32⟩
  | .hbm, ⟨13, _⟩ => ⟨S8192, .i1⟩
  | .hbm, ⟨14, _⟩ => ⟨S8192, .i32⟩
  | .hbm, ⟨15, _⟩ => ⟨S8192, .i32⟩
  | .hbm, ⟨16, _⟩ => ⟨S_, .i32⟩
  | .hbm, ⟨17, _⟩ => ⟨S8192, .i32⟩
  | .hbm, ⟨18, _⟩ => ⟨S8192, .i1⟩
  | .hbm, ⟨19, _⟩ => ⟨S8192, .i1⟩
  | .hbm, ⟨20, _⟩ => ⟨S_, .i32⟩
  | .hbm, ⟨21, _⟩ => ⟨S8192, .i32⟩
  | .hbm, ⟨22, _⟩ => ⟨S8192, .i32⟩
  | .hbm, ⟨23, _⟩ => ⟨S8192, .i32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4x8x8192x8192, .f32⟩
  | .hbm, ⟨29, _⟩ => ⟨S4x8192x8192x8, .f32⟩
  | .hbm, ⟨30, _⟩ => ⟨S4x8x8192x8192, .f32⟩
  | .hbm, ⟨31, _⟩ => ⟨S4x8x8192x8192, .f32⟩
  | .hbm, ⟨32, _⟩ => ⟨S4x8x8192x8192, .f32⟩
  | .hbm, ⟨33, _⟩ => ⟨S4x8x8192x8192, .f32⟩
  | .hbm, ⟨34, _⟩ => ⟨S1x8192, .i32⟩
  | .hbm, ⟨35, _⟩ => ⟨S8192x1, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S_, .f32⟩
  | .hbm, ⟨40, _⟩ => ⟨S_, .f32⟩
  | .hbm, ⟨41, _⟩ => ⟨S4x8x8192x8192, .i1⟩
  | .hbm, ⟨42, _⟩ => ⟨S4x8x8192x8192, .f32⟩
  | .hbm, ⟨43, _⟩ => ⟨S4x8x8192x8192, .f32⟩
  | .hbm, ⟨44, _⟩ => ⟨S_, .f32⟩
  | .hbm, ⟨45, _⟩ => ⟨S4x8x8192, .f32⟩
  | .hbm, ⟨46, _⟩ => ⟨S_, .f32⟩
  | .hbm, ⟨47, _⟩ => ⟨S4x8x8192, .f32⟩
  | .hbm, ⟨48, _⟩ => ⟨S4x8x8192, .f32⟩
  | .hbm, ⟨49, _⟩ => ⟨S4x8x8192x1, .f32⟩
  | .hbm, ⟨50, _⟩ => ⟨S4x8x8192x8192, .f32⟩
  | .hbm, ⟨51, _⟩ => ⟨S4x8x8192x8192, .f32⟩
  | .hbm, ⟨52, _⟩ => ⟨S4x8x8192x8192, .f32⟩
  | .hbm, ⟨53, _⟩ => ⟨S_, .f32⟩
  | .hbm, ⟨54, _⟩ => ⟨S4x8x8192, .f32⟩
  | .hbm, ⟨55, _⟩ => ⟨S4x8x8192x1, .f32⟩
  | .hbm, ⟨56, _⟩ => ⟨S4x8x8192x8192, .f32⟩
  | .hbm, ⟨57, _⟩ => ⟨S4x8x8192x8192, .f32⟩
  | .hbm, ⟨58, _⟩ => ⟨S4x8x64x8192, .f32⟩
  | .hbm, ⟨59, _⟩ => ⟨S4x8192x8x64, .f32⟩
  | .hbm, ⟨60, _⟩ => ⟨S4x8192x512, .f32⟩
  | .hbm, ⟨61, _⟩ => ⟨S4x8192x512, .bf16⟩
  | _, _ => ⟨S4x8192x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v1 : Ref sig .tc := ⟨.hbm, 23, rfl⟩
abbrev main_cst : Ref sig .tc := ⟨.hbm, 24, rfl⟩
abbrev main_v2 : Ref sig .tc := ⟨.hbm, 25, rfl⟩
abbrev main_cst_0 : Ref sig .tc := ⟨.hbm, 26, rfl⟩
abbrev main_v3 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_v13 : Ref sig .tc := ⟨.hbm, 37, rfl⟩
abbrev main_v14 : Ref sig .tc := ⟨.hbm, 38, rfl⟩
abbrev main_cst_1 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v15 : Ref sig .tc := ⟨.hbm, 43, rfl⟩
abbrev main_cst_2 : Ref sig .tc := ⟨.hbm, 44, rfl⟩
abbrev main_v16 : Ref sig .tc := ⟨.hbm, 45, rfl⟩
abbrev main_cst_3 : Ref sig .tc := ⟨.hbm, 46, rfl⟩
abbrev main_v17 : Ref sig .tc := ⟨.hbm, 47, rfl⟩
abbrev main_v18 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst_4 : Ref sig .tc := ⟨.hbm, 53, rfl⟩
abbrev main_v23 : Ref sig .tc := ⟨.hbm, 54, rfl⟩
abbrev main_v24 : Ref sig .tc := ⟨.hbm, 55, rfl⟩
abbrev main_v25 : Ref sig .tc := ⟨.hbm, 56, rfl⟩
abbrev main_v26 : Ref sig .tc := ⟨.hbm, 57, rfl⟩
abbrev main_v27 : Ref sig .tc := ⟨.hbm, 58, rfl⟩
abbrev main_v28 : Ref sig .tc := ⟨.hbm, 59, rfl⟩
abbrev main_v29 : Ref sig .tc := ⟨.hbm, 60, rfl⟩
abbrev main_v30 : Ref sig .tc := ⟨.hbm, 61, rfl⟩

abbrev nD : Nat := 1
abbrev τ : Topo := Topo.v7x

variable {F : FTy → Type} [FloatOps F]
-- ==== Kernel2.lean ====
abbrev S147456x512 : Shape := ⟨2, ![147456, 512]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S288 : Shape := ⟨1, ![288]⟩
abbrev S_ : Shape := ⟨0, ![]⟩
abbrev S1x32 : Shape := ⟨2, ![1, 32]⟩
abbrev S288x1 : Shape := ⟨2, ![288, 1]⟩
abbrev S288x32 : Shape := ⟨2, ![288, 32]⟩
abbrev S1 : Shape := ⟨1, ![1]⟩
abbrev S32x1x2048 : Shape := ⟨3, ![32, 1, 2048]⟩
abbrev S32x1x1024 : Shape := ⟨3, ![32, 1, 1024]⟩
abbrev S147456x1024 : Shape := ⟨2, ![147456, 1024]⟩
abbrev S512x512 : Shape := ⟨2, ![512, 512]⟩
abbrev S1x1024x2048 : Shape := ⟨3, ![1, 1024, 2048]⟩
abbrev S1x1x2048 : Shape := ⟨3, ![1, 1, 2048]⟩
abbrev S1x1024x1024 : Shape := ⟨3, ![1, 1024, 1024]⟩
abbrev S1x1x1024 : Shape := ⟨3, ![1, 1, 1024]⟩
abbrev S512x1024 : Shape := ⟨2, ![512, 1024]⟩
abbrev S1024x2048 : Shape := ⟨2, ![1024, 2048]⟩
abbrev S1024x1024 : Shape := ⟨2, ![1024, 1024]⟩
abbrev S256x512 : Shape := ⟨2, ![256, 512]⟩
abbrev S512x2048 : Shape := ⟨2, ![512, 2048]⟩
abbrev S256x2048 : Shape := ⟨2, ![256, 2048]⟩
abbrev S1x2048 : Shape := ⟨2, ![1, 2048]⟩
abbrev S256x1024 : Shape := ⟨2, ![256, 1024]⟩
abbrev S1x1024 : Shape := ⟨2, ![1, 1024]⟩

abbrev nBuf : Space → Nat
  | .hbm => 71
  | .vmem => 14
  | .smem => 2
  | _ => 0

abbrev bufTy : (tb : Table) → Fin (tcTables nBuf tb) → BufTy
  | .hbm, ⟨0, _⟩ => ⟨S147456x512, .i32⟩
  | .hbm, ⟨1, _⟩ => ⟨S32, .i32⟩
  | .hbm, ⟨2, _⟩ => ⟨S32x1024x2048, .f32⟩
  | .hbm, ⟨3, _⟩ => ⟨S32x2048, .f32⟩
  | .hbm, ⟨4, _⟩ => ⟨S32x1024x1024, .f32⟩
  | .hbm, ⟨5, _⟩ => ⟨S32x1024, .f32⟩
  | .hbm, ⟨6, _⟩ => ⟨S288, .i32⟩
  | .hbm, ⟨7, _⟩ => ⟨S_, .i32⟩
  | .hbm, ⟨8, _⟩ => ⟨S288, .i32⟩
  | .hbm, ⟨9, _⟩ => ⟨S288, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S_, .i32⟩
  | .hbm, ⟨14, _⟩ => ⟨S32, .i32⟩
  | .hbm, ⟨15, _⟩ => ⟨S32, .i32⟩
  | .hbm, ⟨16, _⟩ => ⟨S_, .i32⟩
  | .hbm, ⟨17, _⟩ => ⟨S_, .i32⟩
  | .hbm, ⟨18, _⟩ => ⟨S32, .i32⟩
  | .hbm, ⟨19, _⟩ => ⟨S32, .i32⟩
  | .hbm, ⟨20, _⟩ => ⟨S32, .i32⟩
  | .hbm, ⟨21, _⟩ => ⟨S_, .i32⟩
  | .hbm, ⟨22, _⟩ => ⟨S32, .i32⟩
  | .hbm, ⟨23, _⟩ => ⟨S32, .i1⟩
  | .hbm, ⟨24, _⟩ => ⟨S32, .i32⟩
  | .hbm, ⟨25, _⟩ => ⟨S32, .i32⟩
  | .hbm, ⟨26, _⟩ => ⟨S_, .i32⟩
  | .hbm, ⟨27, _⟩ => ⟨S32, .i32⟩
  | .hbm, ⟨28, _⟩ => ⟨S32, .i1⟩
  | .hbm, ⟨29, _⟩ => ⟨S32, .i1⟩
  | .hbm, ⟨30, _⟩ => ⟨S_, .i32⟩
  | .hbm, ⟨31, _⟩ => ⟨S32, .i32⟩
  | .hbm, ⟨32, _⟩ => ⟨S32, .i32⟩
  | .hbm, ⟨33, _⟩ => ⟨S32, .i32⟩
  | .hbm, ⟨34, _⟩ => ⟨S_, .i32⟩
  | .hbm, ⟨35, _⟩ => ⟨S32, .i32⟩
  | .hbm, ⟨36, _⟩ => ⟨S32, .i32⟩
  | .hbm, ⟨37, _⟩ => ⟨S_, .i32⟩
  | .hbm, ⟨38, _⟩ => ⟨S_, .i32⟩
  | .hbm, ⟨39, _⟩ => ⟨S32, .i32⟩
  | .hbm, ⟨40, _⟩ => ⟨S1x32, .i32⟩
  | .hbm, ⟨41, _⟩ => ⟨S288x1, .i32⟩
  | .hbm, ⟨42, _⟩ => ⟨S288x32, .i32⟩
  | .hbm, ⟨43, _⟩ => ⟨S288x32, .i32⟩
  | .hbm, ⟨44, _⟩ => ⟨S288x32, .i1⟩
  | .hbm, ⟨45, _⟩ => ⟨S288x32, .i32⟩
  | .hbm, ⟨46, _⟩ => ⟨S_, .i32⟩
  | .hbm, ⟨47, _⟩ => ⟨S288, .i32⟩
  | .hbm, ⟨48, _⟩ => ⟨S_, .i32⟩
  | .hbm, ⟨49, _⟩ => ⟨S288, .i32⟩
  | .hbm, ⟨50, _⟩ => ⟨S1, .i32⟩
  | .hbm, ⟨51, _⟩ => ⟨S_, .i32⟩
  | .hbm, ⟨52, _⟩ => ⟨S_, .i32⟩
  | .hbm, ⟨53, _⟩ => ⟨S1, .i32⟩
  | .hbm, ⟨54, _⟩ => ⟨S1, .i32⟩
  | .hbm, ⟨55, _⟩ => ⟨S1, .i32⟩
  | .hbm, ⟨56, _⟩ => ⟨S_, .i32⟩
  | .hbm, ⟨57, _⟩ => ⟨S1, .i32⟩
  | .hbm, ⟨58, _⟩ => ⟨S1, .i1⟩
  | .hbm, ⟨59, _⟩ => ⟨S1, .i32⟩
  | .hbm, ⟨60, _⟩ => ⟨S1, .i32⟩
  | .hbm, ⟨61, _⟩ => ⟨S_, .i32⟩
  | .hbm, ⟨62, _⟩ => ⟨S1, .i32⟩
  | .hbm, ⟨63, _⟩ => ⟨S1, .i1⟩
  | .hbm, ⟨64, _⟩ => ⟨S1, .i1⟩
  | .hbm, ⟨65, _⟩ => ⟨S_, .i32⟩
  | .hbm, ⟨66, _⟩ => ⟨S1, .i32⟩
  | .hbm, ⟨67, _⟩ => ⟨S1, .i32⟩
  | .hbm, ⟨68, _⟩ => ⟨S32x1x2048, .f32⟩
  | .hbm, ⟨69, _⟩ => ⟨S32x1x1024, .f32⟩
  | .hbm, ⟨70, _⟩ => ⟨S147456x1024, .bf16⟩
  | .local _ .vmem, ⟨0, _⟩ => ⟨S512x512, .i32⟩
  | .local _ .vmem, ⟨1, _⟩ => ⟨S512x512, .i32⟩
  | .local _ .vmem, ⟨2, _⟩ => ⟨S1x1024x2048, .f32⟩
  | .local _ .vmem, ⟨3, _⟩ => ⟨S1x1024x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1024x1024, .f32⟩
  | .local _ .vmem, ⟨7, _⟩ => ⟨S1x1024x1024, .f32⟩
  | .local _ .vmem, ⟨8, _⟩ => ⟨S1x1x1024, .f32⟩
  | .local _ .vmem, ⟨9, _⟩ => ⟨S1x1x1024, .f32⟩
  | .local _ .vmem, ⟨10, _⟩ => ⟨S512x1024, .bf16⟩
  | .local _ .vmem, ⟨11, _⟩ => ⟨S512x1024, .bf16⟩
  | .local _ .vmem, ⟨12, _⟩ => ⟨S1024x2048, .bf16⟩
  | .local _ .vmem, ⟨13, _⟩ => ⟨S1024x1024, .bf16⟩
  | .local _ .smem, ⟨0, _⟩ => ⟨S288, .i32⟩
  | .local _ .smem, ⟨1, _⟩ => ⟨S1, .i32⟩
  | _, _ => ⟨S147456x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_c_0 : Ref sig .tc := ⟨.hbm, 10, rfl⟩
abbrev main_v3 : Ref sig .tc := ⟨.hbm, 11, rfl⟩
abbrev main_v4 : Ref sig .tc := ⟨.hbm, 12, rfl⟩
abbrev main_c_1 : Ref sig .tc := ⟨.hbm, 13, rfl⟩
abbrev main_v5 : Ref sig .tc := ⟨.hbm, 14, rfl⟩
abbrev main_v6 : Ref sig .tc := ⟨.hbm, 15, rfl⟩
abbrev main_c_2 : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_call0_v5 : Ref sig .tc := ⟨.hbm, 22, rfl⟩
abbrev main_call0_v6 : Ref sig .tc := ⟨.hbm, 23, rfl⟩
abbrev main_call0_v7 : Ref sig .tc := ⟨.hbm, 24, rfl⟩
abbrev main_call0_v8 : Ref sig .tc := ⟨.hbm, 25, rfl⟩
abbrev main_call0_c : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_0 : Ref sig .tc := ⟨.hbm, 30, rfl⟩
abbrev main_call0_v12 : Ref sig .tc := ⟨.hbm, 31, rfl⟩
abbrev main_call0_v13 : Ref sig .tc := ⟨.hbm, 32, rfl⟩
abbrev main_v7 : Ref sig .tc := ⟨.hbm, 33, rfl⟩
abbrev main_c_3 : Ref sig .tc := ⟨.hbm, 34, rfl⟩
abbrev main_v8 : Ref sig .tc := ⟨.hbm, 35, rfl⟩
abbrev main_v9 : Ref sig .tc := ⟨.hbm, 36, rfl⟩
abbrev main_call1_call0_c : Ref sig .tc := ⟨.hbm, 37, rfl⟩
abbrev main_call1_call0_v0 : Ref sig .tc := ⟨.hbm, 38, rfl⟩
abbrev main_v10 : Ref sig .tc := ⟨.hbm, 39, rfl⟩
abbrev main_v11 : Ref sig .tc := ⟨.hbm, 40, rfl⟩
abbrev main_v12 : Ref sig .tc := ⟨.hbm, 41, rfl⟩
abbrev main_v13 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_c_4 : Ref sig .tc := ⟨.hbm, 46, rfl⟩
abbrev main_v17 : Ref sig .tc := ⟨.hbm, 47, rfl⟩
abbrev main_c_5 : Ref sig .tc := ⟨.hbm, 48, rfl⟩
abbrev main_v18 : Ref sig .tc := ⟨.hbm, 49, rfl⟩
abbrev main_v20 : Ref sig .tc := ⟨.hbm, 50, rfl⟩
abbrev main_c_6 : Ref sig .tc := ⟨.hbm, 51, rfl⟩
abbrev main_call2_v0 : Ref sig .tc := ⟨.hbm, 52, rfl⟩
abbrev main_call2_v1 : Ref sig .tc := ⟨.hbm, 53, rfl⟩
abbrev main_call2_v2 : Ref sig .tc := ⟨.hbm, 54, rfl⟩
abbrev main_call2_v3 : Ref sig .tc := ⟨.hbm, 55, rfl⟩
abbrev main_call2_v4 : Ref sig .tc := ⟨.hbm, 56, rfl⟩
abbrev main_call2_v5 : Ref sig .tc := ⟨.hbm, 57, rfl⟩
abbrev main_call2_v6 : Ref sig .tc := ⟨.hbm, 58, rfl⟩
abbrev main_call2_v7 : Ref sig .tc := ⟨.hbm, 59, rfl⟩
abbrev main_call2_v8 : Ref sig .tc := ⟨.hbm, 60, rfl⟩
abbrev main_call2_c : Ref sig .tc := ⟨.hbm, 61, rfl⟩
abbrev main_call2_v9 : Ref sig .tc := ⟨.hbm, 62, rfl⟩
abbrev main_call2_v10 : Ref sig .tc := ⟨.hbm, 63, rfl⟩
abbrev main_call2_v11 : Ref sig .tc := ⟨.hbm, 64, rfl⟩
abbrev main_call2_c_0 : Ref sig .tc := ⟨.hbm, 65, rfl⟩
abbrev main_call2_v12 : Ref sig .tc := ⟨.hbm, 66, rfl⟩
abbrev main_call2_v13 : Ref sig .tc := ⟨.hbm, 67, rfl⟩
abbrev main_v22 : Ref sig .tc := ⟨.hbm, 68, rfl⟩
abbrev main_v23 : Ref sig .tc := ⟨.hbm, 69, rfl⟩
abbrev main_v24 : Ref sig .tc := ⟨.hbm, 70, rfl⟩
abbrev main_v19 : Ref sig .tc := ⟨.smem, 0, rfl⟩
abbrev main_v21 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_v19.idx, main_v21.idx], fun | 0 => main_v19.names | 1 => main_v21.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v5 : BitVec 32 := Scalar.subi arg0 c1_i32
  let c0_i32_0 : BitVec 32 := 0#32
  let v6 : BitVec 32 := Scalar.maxsi v5 c0_i32_0
  let v7 : Index := Scalar.indexCast v6
  ![v7.toNat]
def k0_cond2 (i : grid0.Coords) (v0 : BitVec 32) : BitVec 1 :=
  let arg0 : BitVec 32 := BitVec.ofNat 32 (i 0).val
  let v1 : BitVec 1 := Scalar.cmpi .slt arg0 v0
  let v14 : BitVec 32 := Scalar.extui v1
  let c0_i32_2 : BitVec 32 := 0#32
  let v15 : BitVec 1 := Scalar.cmpi .ne v14 c0_i32_2
  v15

def k0_cond3 (i : grid0.Coords) (v16 : BitVec 32) : BitVec 1 :=
  let arg0 : BitVec 32 := BitVec.ofNat 32 (i 0).val
  let v17 : BitVec 1 := Scalar.cmpi .sge arg0 v16
  let v18 : BitVec 32 := Scalar.extui v17
  let c0_i32_4 : BitVec 32 := 0#32
  let v19 : BitVec 1 := Scalar.cmpi .ne v18 c0_i32_4
  v19

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S147456x512 : Shape := ⟨2, ![147456, 512]⟩
abbrev S32 : Shape := ⟨1, ![32]⟩
abbrev S32x1024x2048 : Shape := ⟨3, ![32, 1024, 2048]⟩
abbrev S32x2048 : Shape := ⟨2, ![32, 2048]⟩
abbrev S32x1024x1024 : Shape := ⟨3, ![32, 1024, 1024]⟩
abbrev S32x1024 : Shape := ⟨2, ![32, 1024]⟩
abbrev S_ : Shape := ⟨0, ![]⟩
abbrev S147456x1024 : Shape := ⟨2, ![147456, 1024]⟩
abbrev S288x512x1024 : Shape := ⟨3, ![288, 512, 1024]⟩
abbrev S288 : Shape := ⟨1, ![288]⟩
abbrev S1x288 : Shape := ⟨2, ![1, 288]⟩
abbrev S32x1 : Shape := ⟨2, ![32, 1]⟩
abbrev S32x288 : Shape := ⟨2, ![32, 288]⟩
abbrev S288x1 : Shape := ⟨2, ![288, 1]⟩
abbrev S288x1024x2048 : Shape := ⟨3, ![288, 1024, 2048]⟩
abbrev S288x512x2048 : Shape := ⟨3, ![288, 512, 2048]⟩
abbrev S32x1x2048 : Shape := ⟨3, ![32, 1, 2048]⟩
abbrev S288x1x2048 : Shape := ⟨3, ![288, 1, 2048]⟩
abbrev S288x1024x1024 : Shape := ⟨3, ![288, 1024, 1024]⟩
abbrev S32x1x1024 : Shape := ⟨3, ![32, 1, 1024]⟩
abbrev S288x1x1024 : Shape := ⟨3, ![288, 1, 1024]⟩
abbrev S1 : Shape := ⟨1, ![1]⟩
abbrev S288x1x1 : Shape := ⟨3, ![288, 1, 1]⟩

abbrev nBuf : Space → Nat
  | .hbm => 137
  | .vmem => 0
  | .smem => 0
  | _ => 0

abbrev hbmTy0_0 (i : Nat) : BufTy := match i % 128 with
  | 0 => ⟨S147456x512, .i32⟩
  | 1 => ⟨S32, .i32⟩
  | 2 => ⟨S32x1024x2048, .f32⟩
  | 3 => ⟨S32x2048, .f32⟩
  | 4 => ⟨S32x1024x1024, .f32⟩
  | 5 => ⟨S32x1024, .f32⟩
  | 6 => ⟨S_, .i32⟩
  | 7 => ⟨S147456x512, .i32⟩
  | 8 => ⟨S147456x512, .i32⟩
  | 9 => ⟨S147456x512, .i16⟩
  | 10 => ⟨S147456x512, .bf16⟩
  | 11 => ⟨S147456x512, .i16⟩
  | 12 => ⟨S147456x512, .bf16⟩
  | 13 => ⟨S147456x1024, .bf16⟩
  | 14 => ⟨S147456x1024, .f32⟩
  | 15 => ⟨S288x512x1024, .f32⟩
  | 16 => ⟨S_, .i32⟩
  | 17 => ⟨S32, .i32⟩
  | 18 => ⟨S32, .i32⟩
  | 19 => ⟨S_, .i32⟩
  | 20 => ⟨S32, .i32⟩
  | 21 => ⟨S32, .i32⟩
  | 22 => ⟨S_, .i32⟩
  | 23 => ⟨S_, .i32⟩
  | 24 => ⟨S32, .i32⟩
  | 25 => ⟨S32, .i32⟩
  | 26 => ⟨S32, .i32⟩
  | 27 => ⟨S_, .i32⟩
  | 28 => ⟨S32, .i32⟩
  | 29 => ⟨S32, .i1⟩
  | 30 => ⟨S32, .i32⟩
  | 31 => ⟨S32, .i32⟩
  | 32 => ⟨S_, .i32⟩
  | 33 => ⟨S32, .i32⟩
  | 34 => ⟨S32, .i1⟩
  | 35 => ⟨S32, .i1⟩
  | 36 => ⟨S_, .i32⟩
  | 37 => ⟨S32, .i32⟩
  | 38 => ⟨S32, .i32⟩
  | 39 => ⟨S32, .i32⟩
  | 40 => ⟨S_, .i32⟩
  | 41 => ⟨S32, .i32⟩
  | 42 => ⟨S32, .i32⟩
  | 43 => ⟨S_, .i32⟩
  | 44 => ⟨S_, .i32⟩
  | 45 => ⟨S32, .i32⟩
  | 46 => ⟨S288, .i32⟩
  | 47 => ⟨S_, .i32⟩
  | 48 => ⟨S288, .i32⟩
  | 49 => ⟨S288, .i32⟩
  | 50 => ⟨S1x288, .i32⟩
  | 51 => ⟨S32x1, .i32⟩
  | 52 => ⟨S32x288, .i32⟩
  | 53 => ⟨S32x288, .i32⟩
  | 54 => ⟨S32x288, .i1⟩
  | 55 => ⟨S32x288, .i32⟩
  | 56 => ⟨S_, .i32⟩
  | 57 => ⟨S288, .i32⟩
  | 58 => ⟨S_, .i32⟩
  | 59 => ⟨S288, .i32⟩
  | 60 => ⟨S288, .i32⟩
  | 61 => ⟨S288x1, .i32⟩
  | 62 => ⟨S288x1024x2048, .f32⟩
  | 63 => ⟨S288x512x2048, .f32⟩
  | 64 => ⟨S32x1x2048, .f32⟩
  | 65 => ⟨S288x1, .i32⟩
  | 66 => ⟨S288x1x2048, .f32⟩
  | 67 => ⟨S288x512x2048, .f32⟩
  | 68 => ⟨S288x512x2048, .f32⟩
  | 69 => ⟨S288x512x1024, .f32⟩
  | 70 => ⟨S_, .f32⟩
  | 71 => ⟨S288x512x1024, .f32⟩
  | 72 => ⟨S288x512x1024, .f32⟩
  | 73 => ⟨S288x512x1024, .f32⟩
  | 74 => ⟨S_, .f32⟩
  | 75 => ⟨S_, .f32⟩
  | 76 => ⟨S_, .f32⟩
  | 77 => ⟨S288x512x1024, .f32⟩
  | 78 => ⟨S288x512x1024, .f32⟩
  | 79 => ⟨S_, .f32⟩
  | 80 => ⟨S288x512x1024, .f32⟩
  | 81 => ⟨S288x512x1024, .f32⟩
  | 82 => ⟨S_, .f32⟩
  | 83 => ⟨S288x512x1024, .f32⟩
  | 84 => ⟨S288x512x1024, .f32⟩
  | 85 => ⟨S288x512x1024, .f32⟩
  | 86 => ⟨S288x512x1024, .f32⟩
  | 87 => ⟨S_, .f32⟩
  | 88 => ⟨S288x512x1024, .f32⟩
  | 89 => ⟨S288x512x1024, .f32⟩
  | 90 => ⟨S_, .f32⟩
  | 91 => ⟨S288x512x1024, .f32⟩
  | 92 => ⟨S288x512x1024, .f32⟩
  | 93 => ⟨S288x512x1024, .f32⟩
  | 94 => ⟨S_, .f32⟩
  | 95 => ⟨S288x512x1024, .f32⟩
  | 96 => ⟨S288x512x1024, .f32⟩
  | 97 => ⟨S288x512x1024, .f32⟩
  | 98 => ⟨S288x1, .i32⟩
  | 99 => ⟨S288x1024x1024, .f32⟩
  | 100 => ⟨S288x512x1024, .f32⟩
  | 101 => ⟨S32x1x1024, .f32⟩
  | 102 => ⟨S288x1, .i32⟩
  | 103 => ⟨S288x1x1024, .f32⟩
  | 104 => ⟨S288x512x1024, .f32⟩
  | 105 => ⟨S288x512x1024, .f32⟩
  | 106 => ⟨S1, .i32⟩
  | 107 => ⟨S_, .i32⟩
  | 108 => ⟨S_, .i32⟩
  | 109 => ⟨S1, .i32⟩
  | 110 => ⟨S1, .i32⟩
  | 111 => ⟨S1, .i32⟩
  | 112 => ⟨S_, .i32⟩
  | 113 => ⟨S1, .i32⟩
  | 114 => ⟨S1, .i1⟩
  | 115 => ⟨S1, .i32⟩
  | 116 => ⟨S1, .i32⟩
  | 117 => ⟨S_, .i32⟩
  | 118 => ⟨S1, .i32⟩
  | 119 => ⟨S1, .i1⟩
  | 120 => ⟨S1, .i1⟩
  | 121 => ⟨S_, .i32⟩
  | 122 => ⟨S1, .i32⟩
  | 123 => ⟨S1, .i32⟩
  | 124 => ⟨S1, .i32⟩
  | 125 => ⟨S288, .i32⟩
  | 126 => ⟨S288x1x1, .i32⟩
  | 127 => ⟨S_, .i32⟩
  | _ => ⟨S147456x512, .i32⟩

abbrev hbmTy0_1 (i : Nat) : BufTy := match i % 128 with
  | 0 => ⟨S288x1x1, .i32⟩
  | 1 => ⟨S288x1x1, .i1⟩
  | 2 => ⟨S_, .f32⟩
  | 3 => ⟨S_, .f32⟩
  | 4 => ⟨S288x512x1024, .i1⟩
  | 5 => ⟨S288x512x1024, .f32⟩
  | 6 => ⟨S288x512x1024, .f32⟩
  | 7 => ⟨S147456x1024, .f32⟩
  | 8 => ⟨S147456x1024, .bf16⟩
  | _ => ⟨S147456x512, .i32⟩

abbrev hbmTy (i : Nat) : BufTy := match i / 128 with
  | 0 => hbmTy0_0 i
  | 1 => hbmTy0_1 i
  | _ => ⟨S147456x512, .i32⟩

abbrev bufTy : (tb : Table) → Fin (tcTables nBuf tb) → BufTy
  | .hbm, ⟨i, _⟩ => hbmTy i
  | _, _ => ⟨S147456x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_c_0 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_v5 : Ref sig .tc := ⟨.hbm, 28, rfl⟩
abbrev main_call0_v6 : Ref sig .tc := ⟨.hbm, 29, rfl⟩
abbrev main_call0_v7 : Ref sig .tc := ⟨.hbm, 30, rfl⟩
abbrev main_call0_v8 : Ref sig .tc := ⟨.hbm, 31, rfl⟩
abbrev main_call0_c : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_0 : Ref sig .tc := ⟨.hbm, 36, rfl⟩
abbrev main_call0_v12 : Ref sig .tc := ⟨.hbm, 37, rfl⟩
abbrev main_call0_v13 : Ref sig .tc := ⟨.hbm, 38, rfl⟩
abbrev main_v13 : Ref sig .tc := ⟨.hbm, 39, rfl⟩
abbrev main_c_3 : Ref sig .tc := ⟨.hbm, 40, rfl⟩
abbrev main_v14 : Ref sig .tc := ⟨.hbm, 41, rfl⟩
abbrev main_v15 : Ref sig .tc := ⟨.hbm, 42, rfl⟩
abbrev main_call1_call0_c : Ref sig .tc := ⟨.hbm, 43, rfl⟩
abbrev main_call1_call0_v0 : Ref sig .tc := ⟨.hbm, 44, rfl⟩
abbrev main_v16 : Ref sig .tc := ⟨.hbm, 45, rfl⟩
abbrev main_v17 : Ref sig .tc := ⟨.hbm, 46, rfl⟩
abbrev main_c_4 : Ref sig .tc := ⟨.hbm, 47, rfl⟩
abbrev main_v18 : Ref sig .tc := ⟨.hbm, 48, rfl⟩
abbrev main_v19 : Ref sig .tc := ⟨.hbm, 49, rfl⟩
abbrev main_call2_call0_v0 : Ref sig .tc := ⟨.hbm, 50, rfl⟩
abbrev main_call2_call0_v1 : Ref sig .tc := ⟨.hbm, 51, rfl⟩
abbrev main_call2_call0_v2 : Ref sig .tc := ⟨.hbm, 52, rfl⟩
abbrev main_call2_call0_v3 : Ref sig .tc := ⟨.hbm, 53, rfl⟩
abbrev main_call2_call0_v4 : Ref sig .tc := ⟨.hbm, 54, rfl⟩
abbrev main_call2_call0_v5 : Ref sig .tc := ⟨.hbm, 55, rfl⟩
abbrev main_call2_call0_c : Ref sig .tc := ⟨.hbm, 56, rfl⟩
abbrev main_v20 : Ref sig .tc := ⟨.hbm, 57, rfl⟩
abbrev main_c_5 : Ref sig .tc := ⟨.hbm, 58, rfl⟩
abbrev main_v21 : Ref sig .tc := ⟨.hbm, 59, rfl⟩
abbrev main_v22 : Ref sig .tc := ⟨.hbm, 60, rfl⟩
abbrev main_call3_v0 : Ref sig .tc := ⟨.hbm, 61, rfl⟩
abbrev main_v23 : Ref sig .tc := ⟨.hbm, 62, rfl⟩
abbrev main_v24 : Ref sig .tc := ⟨.hbm, 63, rfl⟩
abbrev main_v25 : Ref sig .tc := ⟨.hbm, 64, rfl⟩
abbrev main_call4_v0 : Ref sig .tc := ⟨.hbm, 65, rfl⟩
abbrev main_v26 : Ref sig .tc := ⟨.hbm, 66, rfl⟩
abbrev main_v27 : Ref sig .tc := ⟨.hbm, 67, rfl⟩
abbrev main_v28 : Ref sig .tc := ⟨.hbm, 68, rfl⟩
abbrev main_v29 : Ref sig .tc := ⟨.hbm, 69, rfl⟩
abbrev main_cst : Ref sig .tc := ⟨.hbm, 70, rfl⟩
abbrev main_v30 : Ref sig .tc := ⟨.hbm, 71, rfl⟩
abbrev main_v31 : Ref sig .tc := ⟨.hbm, 72, rfl⟩
abbrev main_v32 : Ref sig .tc := ⟨.hbm, 73, rfl⟩
abbrev main_cst_6 : Ref sig .tc := ⟨.hbm, 74, rfl⟩
abbrev main_cst_7 : Ref sig .tc := ⟨.hbm, 75, rfl⟩
abbrev main_call5_v0 : Ref sig .tc := ⟨.hbm, 76, rfl⟩
abbrev main_call5_v1 : Ref sig .tc := ⟨.hbm, 77, rfl⟩
abbrev main_call5_v2 : Ref sig .tc := ⟨.hbm, 78, rfl⟩
abbrev main_call5_v3 : Ref sig .tc := ⟨.hbm, 79, rfl⟩
abbrev main_call5_v4 : Ref sig .tc := ⟨.hbm, 80, rfl⟩
abbrev main_v33 : Ref sig .tc := ⟨.hbm, 81, rfl⟩
abbrev main_cst_8 : Ref sig .tc := ⟨.hbm, 82, rfl⟩
abbrev main_v34 : Ref sig .tc := ⟨.hbm, 83, rfl⟩
abbrev main_v35 : Ref sig .tc := ⟨.hbm, 84, rfl⟩
abbrev main_v36 : Ref sig .tc := ⟨.hbm, 85, rfl⟩
abbrev main_v37 : Ref sig .tc := ⟨.hbm, 86, rfl⟩
abbrev main_cst_9 : Ref sig .tc := ⟨.hbm, 87, rfl⟩
abbrev main_v38 : Ref sig .tc := ⟨.hbm, 88, rfl⟩
abbrev main_v39 : Ref sig .tc := ⟨.hbm, 89, rfl⟩
abbrev main_cst_10 : Ref sig .tc := ⟨.hbm, 90, rfl⟩
abbrev main_v40 : Ref sig .tc := ⟨.hbm, 91, rfl⟩
abbrev main_v41 : Ref sig .tc := ⟨.hbm, 92, rfl⟩
abbrev main_v42 : Ref sig .tc := ⟨.hbm, 93, rfl⟩
abbrev main_cst_11 : Ref sig .tc := ⟨.hbm, 94, rfl⟩
abbrev main_v43 : Ref sig .tc := ⟨.hbm, 95, rfl⟩
abbrev main_v44 : Ref sig .tc := ⟨.hbm, 96, rfl⟩
abbrev main_v45 : Ref sig .tc := ⟨.hbm, 97, rfl⟩
abbrev main_call6_v0 : Ref sig .tc := ⟨.hbm, 98, rfl⟩
abbrev main_v46 : Ref sig .tc := ⟨.hbm, 99, rfl⟩
abbrev main_v47 : Ref sig .tc := ⟨.hbm, 100, rfl⟩
abbrev main_v48 : Ref sig .tc := ⟨.hbm, 101, rfl⟩
abbrev main_call7_v0 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_c_12 : Ref sig .tc := ⟨.hbm, 107, rfl⟩
abbrev main_call8_v0 : Ref sig .tc := ⟨.hbm, 108, rfl⟩
abbrev main_call8_v1 : Ref sig .tc := ⟨.hbm, 109, rfl⟩
abbrev main_call8_v2 : Ref sig .tc := ⟨.hbm, 110, rfl⟩
abbrev main_call8_v3 : Ref sig .tc := ⟨.hbm, 111, rfl⟩
abbrev main_call8_v4 : Ref sig .tc := ⟨.hbm, 112, rfl⟩
abbrev main_call8_v5 : Ref sig .tc := ⟨.hbm, 113, rfl⟩
abbrev main_call8_v6 : Ref sig .tc := ⟨.hbm, 114, rfl⟩
abbrev main_call8_v7 : Ref sig .tc := ⟨.hbm, 115, rfl⟩
abbrev main_call8_v8 : Ref sig .tc := ⟨.hbm, 116, rfl⟩
abbrev main_call8_c : Ref sig .tc := ⟨.hbm, 117, rfl⟩
abbrev main_call8_v9 : Ref sig .tc := ⟨.hbm, 118, rfl⟩
abbrev main_call8_v10 : Ref sig .tc := ⟨.hbm, 119, rfl⟩
abbrev main_call8_v11 : Ref sig .tc := ⟨.hbm, 120, rfl⟩
abbrev main_call8_c_0 : Ref sig .tc := ⟨.hbm, 121, rfl⟩
abbrev main_call8_v12 : Ref sig .tc := ⟨.hbm, 122, rfl⟩
abbrev main_call8_v13 : Ref sig .tc := ⟨.hbm, 123, rfl⟩
abbrev main_v53 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_cst_13 : Ref sig .tc := ⟨.hbm, 130, rfl⟩
abbrev main_call9_v0 : Ref sig .tc := ⟨.hbm, 131, rfl⟩
abbrev main_call9_v1 : Ref sig .tc := ⟨.hbm, 132, rfl⟩
abbrev main_call9_v2 : Ref sig .tc := ⟨.hbm, 133, rfl⟩
abbrev main_v59 : Ref sig .tc := ⟨.hbm, 134, rfl⟩
abbrev main_v60 : Ref sig .tc := ⟨.hbm, 135, rfl⟩
abbrev main_v61 : Ref sig .tc := ⟨.hbm, 136, rfl⟩

abbrev nD : Nat := 1
abbrev τ : Topo := Topo.v7x

variable {F : FTy → Type} [FloatOps F]
-- ==== Proof.Online.lean ====
/- The mathematics of the online softmax over the extended reals: how a running maximum and a running weighted sum take
   in one more block of keys, and why the quotient at the end is the softmax average. -/
module

public import Idealize.ShloMosaic.PureOps.Ideal
public import Mathlib.Algebra.BigOperators.Fin
public import Mathlib.Data.EReal.Inv

@[expose] public section

noncomputable section

namespace Cert.Mla

open Finset Idealize.ShloMosaic
open scoped BigOperators

/-- Changing the reference point of a weight from `a` to `b` is one multiplication. -/
theorem exp2_rebase {s a b : EReal} (h1 : s ≤ a) (h2 : a ≤ b) (hb : b ≠ ⊤) :
    Ideal.exp2 (a - b) * Ideal.exp2 (s - a) = Ideal.exp2 (s - b) := by
  induction b with
  | top => exact absurd rfl hb
  | bot =>
    obtain rfl : a = ⊥ := le_bot_iff.1 h2
    obtain rfl : s = ⊥ := le_bot_iff.1 h1
    simp
  | coe b =>
    induction a with
    | top => exact absurd (top_le_iff.1 h2) (EReal.coe_ne_top b)
    | bot =>
      obtain rfl : s = ⊥ := le_bot_iff.1 h1
      simp
    | coe a =>
      induction s with
      | top => exact absurd (top_le_iff.1 h1) (EReal.coe_ne_top a)
      | bot => simp
      | coe s =>
        rw [← EReal.coe_sub, ← EReal.coe_sub, ← EReal.coe_sub, Ideal.exp2_coe, Ideal.exp2_coe, Ideal.exp2_coe,
          ← EReal.coe_mul]
        congr 1
        show (2 : ℝ) ^ (a - b) * (2 : ℝ) ^ (s - a) = (2 : ℝ) ^ (s - b)
        rw [← Real.rpow_add two_pos]
        congr 1
        ring

/-- A weight relative to a larger reference point is a nonnegative real. -/
theorem exp2_real {a b : EReal} (h : a ≤ b) (hb : b ≠ ⊤) : ∃ r : ℝ, 0 ≤ r ∧ Ideal.exp2 (a - b) = r := by
  induction b with
  | top => exact absurd rfl hb
  | bot =>
    obtain rfl : a = ⊥ := le_bot_iff.1 h
    exact ⟨0, le_rfl, by simp⟩
  | coe b =>
    induction a with
    | top => exact absurd (top_le_iff.1 h) (EReal.coe_ne_top b)
    | bot => exact ⟨0, le_rfl, by simp⟩
    | coe a => exact ⟨_, (Real.rpow_pos_of_pos two_pos (a - b)).le, by rw [← EReal.coe_sub, Ideal.exp2_coe]; rfl⟩

/-- A sum of reals, read as an extended real, is the sum of the extended reals. -/
theorem coe_sum {ι : Type} (S : Finset ι) (f : ι → ℝ) : ((∑ k ∈ S, f k : ℝ) : EReal) = ∑ k ∈ S, (f k : EReal) := by
  classical
  induction S using Finset.induction_on with
  | empty => simp
  | insert a S ha ih => rw [sum_insert ha, sum_insert ha, EReal.coe_add, ih]

/-- A nonnegative real factor passes into a sum of extended reals. -/
theorem real_mul_sum {ι : Type} (S : Finset ι) {r : ℝ} (hr : 0 ≤ r) (f : ι → EReal) :
    (r : EReal) * ∑ k ∈ S, f k = ∑ k ∈ S, (r : EReal) * f k := by
  classical
  induction S using Finset.induction_on with
  | empty => simp
  | insert a S ha ih =>
    rw [sum_insert ha, sum_insert ha,
      EReal.left_distrib_of_nonneg_of_ne_top (EReal.coe_nonneg.2 hr) (EReal.coe_ne_top r), ih]

/-- The greatest score among the first `n` keys. -/
def top (s : ℕ → EReal) (n : ℕ) : EReal := (range n).sup s

/-- The first `n` keys' values, each weighted by its score relative to the greatest. -/
def wsum (s v : ℕ → EReal) (n : ℕ) : EReal := ∑ k ∈ range n, v k * Ideal.exp2 (s k - top s n)

theorem top_zero (s : ℕ → EReal) : top s 0 = ⊥ := rfl

theorem wsum_zero (s v : ℕ → EReal) : wsum s v 0 = 0 := rfl

/-- The greatest of `n + w` scores is the greater of the greatest of `n` and of the next `w`. -/
theorem top_add (s : ℕ → EReal) (n w : ℕ) :
    max (top s n) ((univ : Finset (Fin w)).fold max ⊥ fun k : Fin w => s (n + k)) = top s (n + w) := by
  have e : (univ : Finset (Fin w)).fold max ⊥ (fun k : Fin w => s (n + k)) = univ.sup fun k : Fin w => s (n + k) := rfl
  rw [e]
  refine le_antisymm (max_le (Finset.sup_mono (range_subset_range.2 (Nat.le_add_right n w))) ?_) ?_
  · exact Finset.sup_le fun k _ => Finset.le_sup (f := s) (mem_range.2 (Nat.add_lt_add_left k.isLt n))
  · refine Finset.sup_le fun k hk => ?_
    rcases Nat.lt_or_ge k n with h | h
    · exact le_max_of_le_left (Finset.le_sup (f := s) (mem_range.2 h))
    · refine le_max_of_le_right ?_
      have hlt : k - n < w := by have := mem_range.1 hk; omega
      have := Finset.le_sup (f := fun k : Fin w => s (n + k)) (mem_univ (⟨k - n, hlt⟩ : Fin w))
      simpa [Nat.add_sub_cancel' h] using this

theorem top_ne_top {s : ℕ → EReal} (hs : ∀ k, s k ≠ ⊤) (n : ℕ) : top s n ≠ ⊤ :=
  ((Finset.sup_lt_iff bot_lt_top).2 fun k _ => lt_top_iff_ne_top.2 (hs k)).ne

theorem le_top {s : ℕ → EReal} {k n : ℕ} (h : k < n) : s k ≤ top s n := Finset.le_sup (mem_range.2 h)

theorem top_mono (s : ℕ → EReal) {n m : ℕ} (h : n ≤ m) : top s n ≤ top s m := Finset.sup_mono (range_subset_range.2 h)

/-- One block more: the old sum rescaled to the new greatest score, plus the block's own weighted values. -/
theorem wsum_add {s : ℕ → EReal} (hs : ∀ k, s k ≠ ⊤) (v : ℕ → EReal) (n w : ℕ) :
    Ideal.exp2 (top s n - top s (n + w)) * wsum s v n + ∑ k : Fin w, v (n + k) * Ideal.exp2 (s (n + k) - top s (n + w))
      = wsum s v (n + w) := by
  have hm := top_mono s (Nat.le_add_right n w)
  obtain ⟨r, hr, er⟩ := exp2_real hm (top_ne_top hs _)
  unfold wsum
  rw [sum_range_add, er, real_mul_sum _ hr, Finset.sum_range (fun k => v (n + k) * Ideal.exp2 (s (n + k) - top s (n + w)))]
  congr 1
  refine sum_congr rfl fun k hk => ?_
  rw [← er, mul_left_comm, exp2_rebase (le_top (mem_range.1 hk)) hm (top_ne_top hs _)]

end Cert.Mla

end
-- ==== Proof.Head.lean ====
/-
  One head of the attention over a block of 512 queries: what its running pair (row maximum, weighted sums) means,
  and what one tile of keys does to it.

  A block holds three arrays: its 512 query rows, all 8192 key rows and all 8192 value columns. `score` is the score
  of a key position for a query of the block under the mask, `value` one row of the values. `HeadOK n` says that a
  running pair is the maximum and the weighted sum over the first `n` key positions; each tile of keys carries it on.
-/
module

public import proofs.«01_k».proof.Proof.Online
public import proofs.«01_k».proof.Proof.Gen.KernelIdeal.Value
public import Idealize.ShloMosaic.Lib.WholeRead
public import Idealize.ShloMosaic.Lib.Pointwise

@[expose] public section

set_option maxRecDepth 16384

noncomputable section

namespace Cert.Mla

open Finset Idealize.ShloMosaic
open Cert.KernelIdeal Cert.KernelIdeal.Gen
open scoped BigOperators

/-! ## The block's arrays -/

/-- Entry `(p, r)` of an array with a leading axis of one; zero outside it. -/
def at3 {A B : ℕ} (x : (⟨3, ![1, A, B]⟩ : Shape).Idx → EReal) (p r : ℕ) : EReal :=
  if h : p < A ∧ r < B then x (ix3 0 ⟨p, h.1⟩ ⟨r, h.2⟩) else 0

/-- A load of a rectangle of a whole buffer reads the buffer at the rectangle's offsets. -/
theorem read_at3 {κ : Kind} {sp : Space} {A B a b : ℕ}
    {m : Memref sig κ sp ⟨3, ![1, A, B]⟩ .bf16} (h : m.IsWhole) (X : (⟨3, ![1, A, B]⟩ : Shape).Idx → EReal)
    {off : Fin 3 → ℕ} (hb : ∀ d, off d + (![1, a, b] : Fin 3 → ℕ) d ≤ (⟨3, ![1, A, B]⟩ : Shape).size d)
    {p r : ℕ} (ho : off = ![0, p, r]) (w : Fin a) (c : Fin b) :
    View.readAt (Elt Ideal) m.view (Rect.unit (s := ⟨3, ![1, A, B]⟩) off ![1, a, b] hb).toLoadRect (h.unread X) (ix3 0 w c)
      = at3 X (p + w) (r + c) := by
  subst ho
  rw [h.readAt_unread]
  have h1 := hb 1
  have h2 := hb 2
  simp at h1 h2
  have hw := w.isLt
  have hc := c.isLt
  unfold at3
  rw [dif_pos ⟨by omega, by omega⟩]
  congr 1
  funext d
  apply Fin.ext
  fin_cases d <;> simp [ix3]

/-- The score of key position `κ` for query `x` of block `i` in head `h`: the contraction of their 128 columns where
the query's chunk of 64 positions is not before the key's, and `⊥` elsewhere. -/
def score (q : S1x512x1024.Idx → EReal) (k : S1x8192x1024.Idx → EReal) (i h : ℕ) (x : Fin 512) (κ : ℕ) : EReal :=
  if κ / 64 ≤ (512 * i + x) / 64 then ∑ c : Fin 128, at3 k κ (128 * h + c) * at3 q x (128 * h + c) else ⊥

/-- Row `d` of head `h` of the values at key position `κ`. -/
def value (v : S1x1024x8192.Idx → EReal) (h d κ : ℕ) : EReal := at3 v (128 * h + d) κ

/-! ## What one tile of keys computes, entry by entry -/

/-- The pattern of the reduction's start is the least value. -/
theorem neg_inf_f32 : Ideal.ofBits .f32 0xFF800000#32 = (⊥ : EReal) := by
  simp [Ideal.ofBits, Ideal.ieee]

/-- The mask's number is the least value. -/
theorem mask_eq : (Named.named κ "mask" 0xF149F2CA#32 : Ideal .f32) = (⊥ : EReal) := rfl

theorem score_wide (k : Vec Ideal S1x1024x128 .bf16) (q : Vec Ideal S1x512x128 .bf16) (y : Fin 1024) (x : Fin 512) :
    k0_pay3 k q (ix2 y x) = ∑ c : Fin 128, k (ix3 0 y c) * q (ix3 0 x c) := by
  unfold k0_pay3
  pointwise

theorem score_narrow (k : Vec Ideal S1x512x128 .bf16) (q : Vec Ideal S1x512x128 .bf16) (y : Fin 512) (x : Fin 512) :
    k0_pay53 k q (ix2 y x) = ∑ c : Fin 128, k (ix3 0 y c) * q (ix3 0 x c) := by
  unfold k0_pay53
  pointwise

theorem score_masked (M : IVec S512x512 1) (k : Vec Ideal S1x512x128 .bf16) (q : Vec Ideal S1x512x128 .bf16)
    (y : Fin 512) (x : Fin 512) :
    k0_pay146 M k q (ix2 y x) = if M (ix2 y x) = 1 then ∑ c : Fin 128, k (ix3 0 y c) * q (ix3 0 x c) else ⊥ := by
  unfold k0_pay146
  pointwise
  rfl

theorem max_wide (m : FVec Ideal S1x512 .f32) (s : FVec Ideal S1024x512 .f32) (x : Fin 512) :
    k0_pay125 m s (ix2 0 x) = max (m (ix2 0 x)) (univ.fold max ⊥ fun k : Fin 1024 => s (ix2 k x)) := by
  unfold k0_pay125
  pointwise
  rw [neg_inf_f32]

theorem max_narrow (m : FVec Ideal S1x512 .f32) (s : FVec Ideal S512x512 .f32) (x : Fin 512) :
    k0_pay130 m s (ix2 0 x) = max (m (ix2 0 x)) (univ.fold max ⊥ fun k : Fin 512 => s (ix2 k x)) := by
  unfold k0_pay130
  pointwise
  rw [neg_inf_f32]

theorem acc_wide (m : FVec Ideal S1x512 .f32) (a : FVec Ideal S128x512 .f32) (s : FVec Ideal S1024x512 .f32)
    (v : Vec Ideal S1x128x1024 .bf16) (d : Fin 128) (x : Fin 512) :
    k0_pay126 m a s v (ix2 d x)
      = Ideal.exp2 (m (ix2 0 x) - k0_pay125 m s (ix2 0 x)) * a (ix2 d x)
        + ∑ k : Fin 1024, v (ix3 0 d k) * Ideal.exp2 (s (ix2 k x) - k0_pay125 m s (ix2 0 x)) := by
  unfold k0_pay126
  pointwise
  rfl

theorem acc_narrow (m : FVec Ideal S1x512 .f32) (a : FVec Ideal S128x512 .f32) (s : FVec Ideal S512x512 .f32)
    (v : Vec Ideal S1x128x512 .bf16) (d : Fin 128) (x : Fin 512) :
    k0_pay131 m a s v (ix2 d x)
      = Ideal.exp2 (m (ix2 0 x) - k0_pay130 m s (ix2 0 x)) * a (ix2 d x)
        + ∑ k : Fin 512, v (ix3 0 d k) * Ideal.exp2 (s (ix2 k x) - k0_pay130 m s (ix2 0 x)) := by
  unfold k0_pay131
  pointwise
  rfl

/-! ## The running pair of a head -/

/-- The pair `(m, a)` is the row maximum and the weighted sums over the first `n` key positions. -/
structure HeadOK (S : Fin 512 → ℕ → EReal) (V : ℕ → ℕ → EReal) (n : ℕ)
    (m : FVec Ideal S1x512 .f32) (a : FVec Ideal S128x512 .f32) : Prop where
  max_eq : ∀ x, m (ix2 0 x) = top (S x) n
  acc_eq : ∀ (d : Fin 128) x, a (ix2 d x) = wsum (S x) (V d) n

variable {S : Fin 512 → ℕ → EReal} {V : ℕ → ℕ → EReal} {n : ℕ}
  {m : FVec Ideal S1x512 .f32} {a : FVec Ideal S128x512 .f32}

/-- Before any key the pair is the mask's number and zero. -/
theorem HeadOK.init : HeadOK S V 0 k0_pay109 k0_pay110 where
  max_eq x := by
    rw [top_zero]; unfold k0_pay109; pointwise; rfl
  acc_eq d x := by
    rw [wsum_zero]; unfold k0_pay110; pointwise

/-- A tile of 1024 keys carries the pair on by 1024 positions. -/
theorem HeadOK.wide (hS : ∀ x k, S x k ≠ ⊤) (h : HeadOK S V n m a) {s : FVec Ideal S1024x512 .f32}
    {v : Vec Ideal S1x128x1024 .bf16} (hs : ∀ (w : Fin 1024) (x : Fin 512), s (ix2 w x) = S x (n + w))
    (hv : ∀ (d : Fin 128) (w : Fin 1024), v (ix3 0 d w) = V d (n + w)) :
    HeadOK S V (n + 1024) (k0_pay125 m s) (k0_pay126 m a s v) := by
  have hm : ∀ x, k0_pay125 m s (ix2 0 x) = top (S x) (n + 1024) := fun x => by
    rw [max_wide, h.max_eq, ← top_add]; simp only [hs]
  refine ⟨hm, fun d x => ?_⟩
  rw [acc_wide, hm, h.max_eq, h.acc_eq, ← wsum_add (hS x)]
  simp only [hs, hv]

/-- A tile of 512 keys carries the pair on by 512 positions. -/
theorem HeadOK.narrow (hS : ∀ x k, S x k ≠ ⊤) (h : HeadOK S V n m a) {s : FVec Ideal S512x512 .f32}
    {v : Vec Ideal S1x128x512 .bf16} (hs : ∀ (w : Fin 512) (x : Fin 512), s (ix2 w x) = S x (n + w))
    (hv : ∀ (d : Fin 128) (w : Fin 512), v (ix3 0 d w) = V d (n + w)) :
    HeadOK S V (n + 512) (k0_pay130 m s) (k0_pay131 m a s v) := by
  have hm : ∀ x, k0_pay130 m s (ix2 0 x) = top (S x) (n + 512) := fun x => by
    rw [max_narrow, h.max_eq, ← top_add]; simp only [hs]
  refine ⟨hm, fun d x => ?_⟩
  rw [acc_narrow, hm, h.max_eq, h.acc_eq, ← wsum_add (hS x)]
  simp only [hs, hv]

/-! ## A tile read from the block's arrays -/

section Tile

variable {q : S1x512x1024.Idx → EReal} {k : S1x8192x1024.Idx → EReal} {v : S1x1024x8192.Idx → EReal} {i h : ℕ}

/-- A tile of 1024 keys that all lie before the block carries head `h` on. -/
theorem HeadOK.tileWide (hS : ∀ x κ, score q k i h x κ ≠ ⊤) (hH : HeadOK (score q k i h) (value v h) n m a)
    (hn : n + 1024 ≤ 512 * i) {K : Vec Ideal S1x1024x128 .bf16} {Q : Vec Ideal S1x512x128 .bf16}
    {W : Vec Ideal S1x128x1024 .bf16}
    (hK : ∀ (w : Fin 1024) (c : Fin 128), K (ix3 0 w c) = at3 k (n + w) (128 * h + c))
    (hQ : ∀ (x : Fin 512) (c : Fin 128), Q (ix3 0 x c) = at3 q (0 + x) (128 * h + c))
    (hW : ∀ (d : Fin 128) (w : Fin 1024), W (ix3 0 d w) = at3 v (128 * h + d) (n + w)) :
    HeadOK (score q k i h) (value v h) (n + 1024) (k0_pay125 m (k0_pay3 K Q)) (k0_pay126 m a (k0_pay3 K Q) W) := by
  refine hH.wide hS (fun w x => ?_) hW
  have hw := w.isLt
  rw [score_wide, score, if_pos (by omega)]
  simp only [hK, hQ, Nat.zero_add]

/-- A tile of 512 keys that all lie before the block carries head `h` on. -/
theorem HeadOK.tileNarrow (hS : ∀ x κ, score q k i h x κ ≠ ⊤) (hH : HeadOK (score q k i h) (value v h) n m a)
    (hn : n + 512 ≤ 512 * i) {K : Vec Ideal S1x512x128 .bf16} {Q : Vec Ideal S1x512x128 .bf16}
    {W : Vec Ideal S1x128x512 .bf16}
    (hK : ∀ (w : Fin 512) (c : Fin 128), K (ix3 0 w c) = at3 k (n + w) (128 * h + c))
    (hQ : ∀ (x : Fin 512) (c : Fin 128), Q (ix3 0 x c) = at3 q (0 + x) (128 * h + c))
    (hW : ∀ (d : Fin 128) (w : Fin 512), W (ix3 0 d w) = at3 v (128 * h + d) (n + w)) :
    HeadOK (score q k i h) (value v h) (n + 512) (k0_pay130 m (k0_pay53 K Q)) (k0_pay131 m a (k0_pay53 K Q) W) := by
  refine hH.narrow hS (fun w x => ?_) hW
  have hw := w.isLt
  rw [score_narrow, score, if_pos (by omega)]
  simp only [hK, hQ, Nat.zero_add]

/-- The block's own tile of 512 keys, under the mask of the chunks within the block, carries head `h` on. -/
theorem HeadOK.tileMasked (hS : ∀ x κ, score q k i h x κ ≠ ⊤) (hH : HeadOK (score q k i h) (value v h) (512 * i) m a)
    {M : IVec S512x512 1} (hM : ∀ (w x : Fin 512), M (ix2 w x) = 1 ↔ w.val / 64 ≤ x.val / 64)
    {K : Vec Ideal S1x512x128 .bf16} {Q : Vec Ideal S1x512x128 .bf16} {W : Vec Ideal S1x128x512 .bf16}
    (hK : ∀ (w : Fin 512) (c : Fin 128), K (ix3 0 w c) = at3 k (512 * i + w) (128 * h + c))
    (hQ : ∀ (x : Fin 512) (c : Fin 128), Q (ix3 0 x c) = at3 q (0 + x) (128 * h + c))
    (hW : ∀ (d : Fin 128) (w : Fin 512), W (ix3 0 d w) = at3 v (128 * h + d) (512 * i + w)) :
    HeadOK (score q k i h) (value v h) (512 * i + 512) (k0_pay130 m (k0_pay146 M K Q))
      (k0_pay131 m a (k0_pay146 M K Q) W) := by
  refine hH.narrow hS (fun w x => ?_) hW
  rw [score_masked, score]
  simp only [hK, hQ, Nat.zero_add]
  exact if_congr ((hM w x).trans ⟨fun h => by omega, fun h => by omega⟩) rfl rfl

end Tile

end Cert.Mla
-- ==== Proof.Trips.lean ====
/-
  The block's loops: what one trip makes of the running pairs of the eight heads, and what the loops leave.

  A tile of 1024 keys is read per trip of the first loop, one of 512 keys by the trip an odd block adds, and the
  block's own 512 keys, masked, after the loops. Each trip does to every head what `HeadOK` carries over.
-/
module

public import proofs.«01_k».proof.Proof.Head

@[expose] public section

set_option maxRecDepth 16384

noncomputable section

namespace Cert.Mla

open Idealize.ShloMosaic
open Cert.KernelIdeal Cert.KernelIdeal.Gen

/-! ## Where the trips read -/

/-- The tiles of 1024 keys and values that trip `t` reads, head by head. -/
theorem offs_wide : ∀ (i : grid0.Coords) (t : Fin (k0_t1_loop i).trips),
    (k0_off1 i t = ![0, 1024 * t.val, 128 * 0] ∧ k0_off4 i t = ![0, 128 * 0, 1024 * t.val]) ∧
    (k0_off2 i t = ![0, 1024 * t.val, 128 * 1] ∧ k0_off6 i t = ![0, 128 * 1, 1024 * t.val]) ∧
    (k0_off3 i t = ![0, 1024 * t.val, 128 * 2] ∧ k0_off8 i t = ![0, 128 * 2, 1024 * t.val]) ∧
    (k0_off5 i t = ![0, 1024 * t.val, 128 * 3] ∧ k0_off10 i t = ![0, 128 * 3, 1024 * t.val]) ∧
    (k0_off7 i t = ![0, 1024 * t.val, 128 * 4] ∧ k0_off12 i t = ![0, 128 * 4, 1024 * t.val]) ∧
    (k0_off9 i t = ![0, 1024 * t.val, 128 * 5] ∧ k0_off14 i t = ![0, 128 * 5, 1024 * t.val]) ∧
    (k0_off11 i t = ![0, 1024 * t.val, 128 * 6] ∧ k0_off15 i t = ![0, 128 * 6, 1024 * t.val]) ∧
    (k0_off13 i t = ![0, 1024 * t.val, 128 * 7] ∧ k0_off16 i t = ![0, 128 * 7, 1024 * t.val]) := by
  decide +kernel

/-- The tiles of 512 keys and values that an odd block reads, head by head. -/
theorem offs_narrow : ∀ (i : grid0.Coords) (_ : Fin (k0_t3_loop i).trips),
    (k0_off33 i = ![0, 512 * ((i 2).val - 1), 128 * 0] ∧ k0_off36 i = ![0, 128 * 0, 512 * ((i 2).val - 1)]) ∧
    (k0_off34 i = ![0, 512 * ((i 2).val - 1), 128 * 1] ∧ k0_off38 i = ![0, 128 * 1, 512 * ((i 2).val - 1)]) ∧
    (k0_off35 i = ![0, 512 * ((i 2).val - 1), 128 * 2] ∧ k0_off40 i = ![0, 128 * 2, 512 * ((i 2).val - 1)]) ∧
    (k0_off37 i = ![0, 512 * ((i 2).val - 1), 128 * 3] ∧ k0_off42 i = ![0, 128 * 3, 512 * ((i 2).val - 1)]) ∧
    (k0_off39 i = ![0, 512 * ((i 2).val - 1), 128 * 4] ∧ k0_off44 i = ![0, 128 * 4, 512 * ((i 2).val - 1)]) ∧
    (k0_off41 i = ![0, 512 * ((i 2).val - 1), 128 * 5] ∧ k0_off46 i = ![0, 128 * 5, 512 * ((i 2).val - 1)]) ∧
    (k0_off43 i = ![0, 512 * ((i 2).val - 1), 128 * 6] ∧ k0_off47 i = ![0, 128 * 6, 512 * ((i 2).val - 1)]) ∧
    (k0_off45 i = ![0, 512 * ((i 2).val - 1), 128 * 7] ∧ k0_off48 i = ![0, 128 * 7, 512 * ((i 2).val - 1)]) := by
  decide +kernel

/-- The block's own tiles of 512 keys and values, head by head. -/
theorem offs_own : ∀ (i : grid0.Coords),
    (k0_off65 i = ![0, 512 * (i 2).val, 128 * 0] ∧ k0_off68 i = ![0, 128 * 0, 512 * (i 2).val]) ∧
    (k0_off66 i = ![0, 512 * (i 2).val, 128 * 1] ∧ k0_off70 i = ![0, 128 * 1, 512 * (i 2).val]) ∧
    (k0_off67 i = ![0, 512 * (i 2).val, 128 * 2] ∧ k0_off72 i = ![0, 128 * 2, 512 * (i 2).val]) ∧
    (k0_off69 i = ![0, 512 * (i 2).val, 128 * 3] ∧ k0_off74 i = ![0, 128 * 3, 512 * (i 2).val]) ∧
    (k0_off71 i = ![0, 512 * (i 2).val, 128 * 4] ∧ k0_off76 i = ![0, 128 * 4, 512 * (i 2).val]) ∧
    (k0_off73 i = ![0, 512 * (i 2).val, 128 * 5] ∧ k0_off78 i = ![0, 128 * 5, 512 * (i 2).val]) ∧
    (k0_off75 i = ![0, 512 * (i 2).val, 128 * 6] ∧ k0_off79 i = ![0, 128 * 6, 512 * (i 2).val]) ∧
    (k0_off77 i = ![0, 512 * (i 2).val, 128 * 7] ∧ k0_off80 i = ![0, 128 * 7, 512 * (i 2).val]) := by
  decide +kernel

/-- The first loop runs over the whole tiles of 1024 keys before the block. -/
theorem trips_wide : ∀ i : grid0.Coords, (k0_t1_loop i).trips = (i 2).val / 2 := by decide +kernel
/-- Its remainder loop never runs. -/
theorem trips_wide_rest : ∀ i : grid0.Coords, (k0_t2_loop i).trips = 0 := by decide +kernel
/-- The second loop runs once for an odd block. -/
theorem trips_narrow : ∀ i : grid0.Coords, (k0_t3_loop i).trips = (i 2).val % 2 := by decide +kernel
/-- Its remainder loop never runs. -/
theorem trips_narrow_rest : ∀ i : grid0.Coords, (k0_t4_loop i).trips = 0 := by decide +kernel

/-! ## The eight heads -/

/-- The running pairs of the eight heads, as the loops carry them. -/
abbrev State : Type :=
  FVec Ideal S1x512 .f32 × FVec Ideal S128x512 .f32 × FVec Ideal S1x512 .f32 × FVec Ideal S128x512 .f32 ×
  FVec Ideal S1x512 .f32 × FVec Ideal S128x512 .f32 × FVec Ideal S1x512 .f32 × FVec Ideal S128x512 .f32 ×
  FVec Ideal S1x512 .f32 × FVec Ideal S128x512 .f32 × FVec Ideal S1x512 .f32 × FVec Ideal S128x512 .f32 ×
  FVec Ideal S1x512 .f32 × FVec Ideal S128x512 .f32 × FVec Ideal S1x512 .f32 × FVec Ideal S128x512 .f32

/-- Every head's pair is the maximum and the weighted sums over the first `n` key positions. -/
def StateOK (q : S1x512x1024.Idx → EReal) (k : S1x8192x1024.Idx → EReal) (v : S1x1024x8192.Idx → EReal) (i n : ℕ)
    (s : State) : Prop :=
  HeadOK (score q k i 0) (value v 0) n s.1 s.2.1 ∧
  HeadOK (score q k i 1) (value v 1) n s.2.2.1 s.2.2.2.1 ∧
  HeadOK (score q k i 2) (value v 2) n s.2.2.2.2.1 s.2.2.2.2.2.1 ∧
  HeadOK (score q k i 3) (value v 3) n s.2.2.2.2.2.2.1 s.2.2.2.2.2.2.2.1 ∧
  HeadOK (score q k i 4) (value v 4) n s.2.2.2.2.2.2.2.2.1 s.2.2.2.2.2.2.2.2.2.1 ∧
  HeadOK (score q k i 5) (value v 5) n s.2.2.2.2.2.2.2.2.2.2.1 s.2.2.2.2.2.2.2.2.2.2.2.1 ∧
  HeadOK (score q k i 6) (value v 6) n s.2.2.2.2.2.2.2.2.2.2.2.2.1 s.2.2.2.2.2.2.2.2.2.2.2.2.2.1 ∧
  HeadOK (score q k i 7) (value v 7) n s.2.2.2.2.2.2.2.2.2.2.2.2.2.2.1 s.2.2.2.2.2.2.2.2.2.2.2.2.2.2.2

variable {𝒱 : Variants} {c : Dev nD} {bd : Option 𝒱.V} {i : grid0.Coords}
  {arg3 : Memref sig .tc .vmem S1x512x1024 .bf16} (harg3 : arg3.IsWhole)
  {arg4 : Memref sig .tc .vmem S1x8192x1024 .bf16} (harg4 : arg4.IsWhole)
  {arg5 : Memref sig .tc .vmem S1x1024x8192 .bf16} (harg5 : arg5.IsWhole)
  {arg6 : Memref sig .tc .vmem S1x512x512 .bf16} {harg6 : arg6.IsWhole}
  {q : S1x512x1024.Idx → EReal} {k : S1x8192x1024.Idx → EReal} {v : S1x1024x8192.Idx → EReal}

/-- Head `h` after a tile of 1024 keys read from the block's buffers. -/
theorem HeadOK.readWide {j h n : ℕ} {m : FVec Ideal S1x512 .f32} {a : FVec Ideal S128x512 .f32}
    (hS : ∀ x κ, score q k j h x κ ≠ ⊤) (hH : HeadOK (score q k j h) (value v h) n m a) (hn : n + 1024 ≤ 512 * j)
    {oK oQ oV : Fin 3 → ℕ} (eK : oK = ![0, n, 128 * h]) (eQ : oQ = ![0, 0, 128 * h]) (eV : oV = ![0, 128 * h, n])
    (bK : ∀ d, oK d + (![1, 1024, 128] : Fin 3 → ℕ) d ≤ S1x8192x1024.size d)
    (bQ : ∀ d, oQ d + (![1, 512, 128] : Fin 3 → ℕ) d ≤ S1x512x1024.size d)
    (bV : ∀ d, oV d + (![1, 128, 1024] : Fin 3 → ℕ) d ≤ S1x1024x8192.size d) :
    let K := View.readAt (Elt Ideal) arg4.view (Rect.unit (s := S1x8192x1024) oK ![1, 1024, 128] bK).toLoadRect (harg4.unread k)
    let Q := View.readAt (Elt Ideal) arg3.view (Rect.unit (s := S1x512x1024) oQ ![1, 512, 128] bQ).toLoadRect (harg3.unread q)
    let W := View.readAt (Elt Ideal) arg5.view (Rect.unit (s := S1x1024x8192) oV ![1, 128, 1024] bV).toLoadRect (harg5.unread v)
    HeadOK (score q k j h) (value v h) (n + 1024) (k0_pay125 m (k0_pay3 K Q)) (k0_pay126 m a (k0_pay3 K Q) W) :=
  hH.tileWide hS hn (fun w c => read_at3 harg4 k bK eK w c) (fun x c => read_at3 harg3 q bQ eQ x c)
    (fun d w => read_at3 harg5 v bV eV d w)

/-- One trip of the first loop carries the eight heads on by 1024 positions. -/
theorem trip_wide (hS : ∀ h x κ, score q k (i 2).val h x κ ≠ ⊤) {arg2 v0 v1 v2 v3 v4 v5 v6 v7 v8 v9 v10 v11 v12 v13 v14 v15 v32 z}
    (t : Fin (k0_t1_loop i).trips) {s : State} (h : StateOK q k v (i 2).val (1024 * t.val) s) :
    StateOK q k v (i 2).val (1024 * t.val + 1024)
      (tripR_k0_t1 (F := Ideal) 𝒱 c bd i arg3 harg3 arg4 harg4 arg5 harg5 arg6 harg6 arg2 v0 v1 v2 v3 v4 v5 v6 v7 v8 v9
        v10 v11 v12 v13 v14 v15 v32 z (harg3.unread q) (harg4.unread k) (harg5.unread v) t s) := by
  have ht : 1024 * t.val + 1024 ≤ 512 * (i 2).val := by
    have := lt_of_lt_of_eq t.isLt (trips_wide i); omega
  obtain ⟨h0, h1, h2, h3, h4, h5, h6, h7⟩ := h
  obtain ⟨o0, o1, o2, o3, o4, o5, o6, o7⟩ := offs_wide i t
  unfold tripR_k0_t1 trip_k0_t1
  dsimp only
  exact ⟨h0.readWide harg3 harg4 harg5 (hS 0) ht o0.1 rfl o0.2 _ _ _,
    h1.readWide harg3 harg4 harg5 (hS 1) ht o1.1 rfl o1.2 _ _ _,
    h2.readWide harg3 harg4 harg5 (hS 2) ht o2.1 rfl o2.2 _ _ _,
    h3.readWide harg3 harg4 harg5 (hS 3) ht o3.1 rfl o3.2 _ _ _,
    h4.readWide harg3 harg4 harg5 (hS 4) ht o4.1 rfl o4.2 _ _ _,
    h5.readWide harg3 harg4 harg5 (hS 5) ht o5.1 rfl o5.2 _ _ _,
    h6.readWide harg3 harg4 harg5 (hS 6) ht o6.1 rfl o6.2 _ _ _,
    h7.readWide harg3 harg4 harg5 (hS 7) ht o7.1 rfl o7.2 _ _ _⟩

/-- Before any trip every head's pair is the start's. -/
theorem StateOK.init {j : ℕ} : StateOK q k v j 0
    (k0_pay109, k0_pay110, k0_pay111, k0_pay112, k0_pay113, k0_pay114, k0_pay115, k0_pay116, k0_pay117, k0_pay118,
      k0_pay119, k0_pay120, k0_pay121, k0_pay122, k0_pay123, k0_pay124) :=
  ⟨HeadOK.init, HeadOK.init, HeadOK.init, HeadOK.init, HeadOK.init, HeadOK.init, HeadOK.init, HeadOK.init⟩

/-- Head `h` after a tile of 512 keys before the block, read from the block's buffers. -/
theorem HeadOK.readNarrow {j h n : ℕ} {m : FVec Ideal S1x512 .f32} {a : FVec Ideal S128x512 .f32}
    (hS : ∀ x κ, score q k j h x κ ≠ ⊤) (hH : HeadOK (score q k j h) (value v h) n m a) (hn : n + 512 ≤ 512 * j)
    {oK oQ oV : Fin 3 → ℕ} (eK : oK = ![0, n, 128 * h]) (eQ : oQ = ![0, 0, 128 * h]) (eV : oV = ![0, 128 * h, n])
    (bK : ∀ d, oK d + (![1, 512, 128] : Fin 3 → ℕ) d ≤ S1x8192x1024.size d)
    (bQ : ∀ d, oQ d + (![1, 512, 128] : Fin 3 → ℕ) d ≤ S1x512x1024.size d)
    (bV : ∀ d, oV d + (![1, 128, 512] : Fin 3 → ℕ) d ≤ S1x1024x8192.size d) :
    let K := View.readAt (Elt Ideal) arg4.view (Rect.unit (s := S1x8192x1024) oK ![1, 512, 128] bK).toLoadRect (harg4.unread k)
    let Q := View.readAt (Elt Ideal) arg3.view (Rect.unit (s := S1x512x1024) oQ ![1, 512, 128] bQ).toLoadRect (harg3.unread q)
    let W := View.readAt (Elt Ideal) arg5.view (Rect.unit (s := S1x1024x8192) oV ![1, 128, 512] bV).toLoadRect (harg5.unread v)
    HeadOK (score q k j h) (value v h) (n + 512) (k0_pay130 m (k0_pay53 K Q)) (k0_pay131 m a (k0_pay53 K Q) W) :=
  hH.tileNarrow hS hn (fun w c => read_at3 harg4 k bK eK w c) (fun x c => read_at3 harg3 q bQ eQ x c)
    (fun d w => read_at3 harg5 v bV eV d w)

/-- Head `h` after the block's own tile under a mask of the chunks, read from the block's buffers. -/
theorem HeadOK.readMasked {j h : ℕ} {m : FVec Ideal S1x512 .f32} {a : FVec Ideal S128x512 .f32}
    (hS : ∀ x κ, score q k j h x κ ≠ ⊤) (hH : HeadOK (score q k j h) (value v h) (512 * j) m a)
    {M : IVec S512x512 1} (hM : ∀ (w x : Fin 512), M (ix2 w x) = 1 ↔ w.val / 64 ≤ x.val / 64)
    {oK oQ oV : Fin 3 → ℕ} (eK : oK = ![0, 512 * j, 128 * h]) (eQ : oQ = ![0, 0, 128 * h]) (eV : oV = ![0, 128 * h, 512 * j])
    (bK : ∀ d, oK d + (![1, 512, 128] : Fin 3 → ℕ) d ≤ S1x8192x1024.size d)
    (bQ : ∀ d, oQ d + (![1, 512, 128] : Fin 3 → ℕ) d ≤ S1x512x1024.size d)
    (bV : ∀ d, oV d + (![1, 128, 512] : Fin 3 → ℕ) d ≤ S1x1024x8192.size d) :
    let K := View.readAt (Elt Ideal) arg4.view (Rect.unit (s := S1x8192x1024) oK ![1, 512, 128] bK).toLoadRect (harg4.unread k)
    let Q := View.readAt (Elt Ideal) arg3.view (Rect.unit (s := S1x512x1024) oQ ![1, 512, 128] bQ).toLoadRect (harg3.unread q)
    let W := View.readAt (Elt Ideal) arg5.view (Rect.unit (s := S1x1024x8192) oV ![1, 128, 512] bV).toLoadRect (harg5.unread v)
    HeadOK (score q k j h) (value v h) (512 * j + 512) (k0_pay130 m (k0_pay146 M K Q)) (k0_pay131 m a (k0_pay146 M K Q) W) :=
  hH.tileMasked hS hM (fun w c => read_at3 harg4 k bK eK w c) (fun x c => read_at3 harg3 q bQ eQ x c)
    (fun d w => read_at3 harg5 v bV eV d w)

/-- The trip an odd block adds carries the eight heads on by 512 positions. -/
theorem trip_narrow (hS : ∀ h x κ, score q k (i 2).val h x κ ≠ ⊤) {arg2 v0 v1 v2 v3 v4 v5 v6 v7 v8 v9 v10 v11 v12 v13 v14 v15 v32 z}
    (t : Fin (k0_t3_loop i).trips) {s : State} (h : StateOK q k v (i 2).val (512 * ((i 2).val - 1)) s) :
    StateOK q k v (i 2).val (512 * ((i 2).val - 1) + 512)
      (tripR_k0_t3 (F := Ideal) 𝒱 c bd i arg3 harg3 arg4 harg4 arg5 harg5 arg6 harg6 arg2 v0 v1 v2 v3 v4 v5 v6 v7 v8 v9
        v10 v11 v12 v13 v14 v15 v32 z (harg3.unread q) (harg4.unread k) (harg5.unread v) t s) := by
  have ht : 512 * ((i 2).val - 1) + 512 ≤ 512 * (i 2).val := by
    have := lt_of_lt_of_eq t.isLt (trips_narrow i); omega
  obtain ⟨h0, h1, h2, h3, h4, h5, h6, h7⟩ := h
  obtain ⟨o0, o1, o2, o3, o4, o5, o6, o7⟩ := offs_narrow i t
  unfold tripR_k0_t3 trip_k0_t3
  dsimp only
  exact ⟨h0.readNarrow harg3 harg4 harg5 (hS 0) ht o0.1 rfl o0.2 _ _ _,
    h1.readNarrow harg3 harg4 harg5 (hS 1) ht o1.1 rfl o1.2 _ _ _,
    h2.readNarrow harg3 harg4 harg5 (hS 2) ht o2.1 rfl o2.2 _ _ _,
    h3.readNarrow harg3 harg4 harg5 (hS 3) ht o3.1 rfl o3.2 _ _ _,
    h4.readNarrow harg3 harg4 harg5 (hS 4) ht o4.1 rfl o4.2 _ _ _,
    h5.readNarrow harg3 harg4 harg5 (hS 5) ht o5.1 rfl o5.2 _ _ _,
    h6.readNarrow harg3 harg4 harg5 (hS 6) ht o6.1 rfl o6.2 _ _ _,
    h7.readNarrow harg3 harg4 harg5 (hS 7) ht o7.1 rfl o7.2 _ _ _⟩

/-! ## The loops -/

/-- The first loop, trip by trip. -/
theorem loop_wide (hS : ∀ h x κ, score q k (i 2).val h x κ ≠ ⊤) {arg2 v0 v1 v2 v3 v4 v5 v6 v7 v8 v9 v10 v11 v12 v13 v14 v15 v32 z} {s : State}
    (h : StateOK q k v (i 2).val 0 s) (j : ℕ) (hj : j ≤ (k0_t1_loop i).trips) :
    StateOK q k v (i 2).val (1024 * j)
      (st_k0_t1 (F := Ideal) 𝒱 c bd i arg3 harg3 arg4 harg4 arg5 harg5 arg6 harg6 arg2 v0 v1 v2 v3 v4 v5 v6 v7 v8 v9
        v10 v11 v12 v13 v14 v15 v32 z (harg3.unread q) (harg4.unread k) (harg5.unread v) s j) := by
  induction j with
  | zero => exact h
  | succ j ih =>
    rw [st_k0_t1_succ (k := ⟨j, hj⟩)]
    exact trip_wide harg3 harg4 harg5 hS ⟨j, hj⟩ (ih (by omega))

/-- The remainder of the first loop leaves what it finds. -/
theorem loop_wide_rest {n : ℕ} {arg2 v0 v1 v2 v3 v4 v5 v6 v7 v8 v9 v10 v11 v12 v13 v14 v15 v32 z v37} {s : State} (h : StateOK q k v (i 2).val n s) :
    StateOK q k v (i 2).val n
      (st_k0_t2 (F := Ideal) 𝒱 c bd i arg3 harg3 arg4 harg4 arg5 harg5 arg6 harg6 arg2 v0 v1 v2 v3 v4 v5 v6 v7 v8 v9
        v10 v11 v12 v13 v14 v15 v32 z v37 (harg3.unread q) (harg4.unread k) (harg5.unread v) s (k0_t2_loop i).trips) := by
  rw [trips_wide_rest]; exact h

/-- The second loop, run after the first: an odd block's tile is added, an even block has none. -/
theorem loop_narrow (hS : ∀ h x κ, score q k (i 2).val h x κ ≠ ⊤) {arg2 v0 v1 v2 v3 v4 v5 v6 v7 v8 v9 v10 v11 v12 v13 v14 v15 v32 z} {s : State}
    (h : StateOK q k v (i 2).val (1024 * ((i 2).val / 2)) s) :
    StateOK q k v (i 2).val (512 * (i 2).val)
      (st_k0_t3 (F := Ideal) 𝒱 c bd i arg3 harg3 arg4 harg4 arg5 harg5 arg6 harg6 arg2 v0 v1 v2 v3 v4 v5 v6 v7 v8 v9
        v10 v11 v12 v13 v14 v15 v32 z (harg3.unread q) (harg4.unread k) (harg5.unread v) s (k0_t3_loop i).trips) := by
  have ht := trips_narrow i
  obtain h0 | h1 : (i 2).val % 2 = 0 ∨ (i 2).val % 2 = 1 := by omega
  · rw [ht, h0]
    have e : 512 * (i 2).val = 1024 * ((i 2).val / 2) := by omega
    rw [e]; exact h
  · rw [ht, h1]
    have hlt : 0 < (k0_t3_loop i).trips := by omega
    have e : 512 * (i 2).val = 512 * ((i 2).val - 1) + 512 := by omega
    have e' : 1024 * ((i 2).val / 2) = 512 * ((i 2).val - 1) := by omega
    rw [show (1 : ℕ) = (⟨0, hlt⟩ : Fin (k0_t3_loop i).trips).val + 1 from rfl, st_k0_t3_succ (k := ⟨0, hlt⟩), e]
    exact trip_narrow harg3 harg4 harg5 hS ⟨0, hlt⟩ (e' ▸ h)

/-- The remainder of the second loop leaves what it finds. -/
theorem loop_narrow_rest {n : ℕ} {arg2 v0 v1 v2 v3 v4 v5 v6 v7 v8 v9 v10 v11 v12 v13 v14 v15 v32 z v54} {s : State} (h : StateOK q k v (i 2).val n s) :
    StateOK q k v (i 2).val n
      (st_k0_t4 (F := Ideal) 𝒱 c bd i arg3 harg3 arg4 harg4 arg5 harg5 arg6 harg6 arg2 v0 v1 v2 v3 v4 v5 v6 v7 v8 v9
        v10 v11 v12 v13 v14 v15 v32 z v54 (harg3.unread q) (harg4.unread k) (harg5.unread v) s (k0_t4_loop i).trips) := by
  rw [trips_narrow_rest]; exact h

end Cert.Mla
-- ==== Proof.Block.lean ====
/-
  One block: 512 queries, all keys, all values, the eight heads.

  After the loops and the block's own masked tile each head's pair is the maximum and the weighted sums over the
  first `512 (i + 1)` key positions; the block written is every head's weighted sums over its sum of weights, which
  the kernel keeps as row 64 of the same sums.
-/
module

public import proofs.«01_k».proof.Proof.Trips
public import Idealize.ShloMosaic.Lib.WritesUnit
public import Idealize.ShloMosaic.Lib.Pointwise

@[expose] public section

set_option maxRecDepth 16384

noncomputable section

namespace Cert.Mla

open Idealize.ShloMosaic
open Cert.KernelIdeal Cert.KernelIdeal.Gen

/-! ## The mask of the block's own tile -/

/-- The word of a position's chunk of 64, as both programs compute a floor division by 64. -/
def chunkWord (w : BitVec 32) : BitVec 32 :=
  Scalar.select
    (IntOp.andi
      (IntOp.cmpi .ne (IntOp.subi (BitVec.setWidth 32 (IntOp.cmpi .sgt w 0#32)) (BitVec.setWidth 32 (IntOp.cmpi .slt w 0#32))) 1#32)
      (IntOp.cmpi .ne (IntOp.remsi .vector w 64#32) 0#32))
    (IntOp.subi (IntOp.divsi .vector w 64#32) 1#32) (IntOp.divsi .vector w 64#32)

/-- It is the position over 64. -/
theorem chunkWord_eq : ∀ w : Fin 512, chunkWord (BitVec.ofNat 32 w.val) = BitVec.ofNat 32 (w.val / 64) := by
  decide +kernel

/-- Comparing two chunk words compares the chunks. -/
theorem chunkWord_le : ∀ a b : Fin 8, IntOp.cmpi .sle (BitVec.ofNat 32 a.val) (BitVec.ofNat 32 b.val) = 1 ↔ a.val ≤ b.val := by
  decide +kernel

/-- Whether key `w` of the tile is unmasked for query `x` of the block: its chunk of 64 is not after the query's. -/
theorem mask_iff (w x : Fin 512) :
    k0_pay137 (iota .tc S512x512 32 [0] iota_S512x512_d0_w32) 64#32 k0_pay135 k0_pay136 1#32 (ix2 w x) = 1
      ↔ w.val / 64 ≤ x.val / 64 := by
  have e : k0_pay137 (iota .tc S512x512 32 [0] iota_S512x512_d0_w32) 64#32 k0_pay135 k0_pay136 1#32 (ix2 w x)
      = IntOp.cmpi .sle (chunkWord (BitVec.ofNat 32 w.val)) (chunkWord (BitVec.ofNat 32 x.val)) := by
    unfold k0_pay137 k0_pay135 k0_pay136
    pointwise
    rfl
  rw [e, chunkWord_eq, chunkWord_eq]
  exact chunkWord_le ⟨w.val / 64, by omega⟩ ⟨x.val / 64, by omega⟩

/-! ## What the block holds -/

/-- Column `y` of the block's result for query `x`: the head's weighted sum of the values over its sum of weights. -/
def blockOut (q : S1x512x1024.Idx → EReal) (k : S1x8192x1024.Idx → EReal) (v : S1x1024x8192.Idx → EReal) (i : ℕ)
    (x : Fin 512) (h d : ℕ) : EReal :=
  Ideal.div (wsum (score q k i h x) (value v h d) (512 * i + 512)) (wsum (score q k i h x) (value v h 64) (512 * i + 512))

/-- Two heads side by side, each its weighted sums over its sum of weights. -/
theorem pair_apply (a b : FVec Ideal S128x512 .f32) (x : Fin 512) (r : Fin 128) :
    k0_pay160 a b (ix3 0 x r) = if h : r.val < 64 then Ideal.div (a (ix2 r x)) (a (ix2 64 x))
      else Ideal.div (b (ix2 ⟨r.val - 64, by omega⟩ x)) (b (ix2 64 x)) := by
  unfold k0_pay160
  pointwise

variable {c : Dev nD} {i : grid0.Coords}
  {arg3 : Memref sig .tc .vmem S1x512x1024 .bf16} (harg3 : arg3.IsWhole)
  {arg4 : Memref sig .tc .vmem S1x8192x1024 .bf16} (harg4 : arg4.IsWhole)
  {arg5 : Memref sig .tc .vmem S1x1024x8192 .bf16} (harg5 : arg5.IsWhole)
  {arg6 : Memref sig .tc .vmem S1x512x512 .bf16} (harg6 : arg6.IsWhole)
  {q : S1x512x1024.Idx → EReal} {k : S1x8192x1024.Idx → EReal} {v : S1x1024x8192.Idx → EReal}

/-- After the loops every head has gone through the `512 i` positions before the block. -/
theorem state_before (hS : ∀ h x κ, score q k (i 2).val h x κ ≠ ⊤) :
    StateOK q k v (i 2).val (512 * (i 2).val)
      (kernelRun0_A.sl.r (F := Ideal) c i arg3 harg3 arg4 harg4 arg5 harg5 arg6 harg6 q k v,
       kernelRun0_A.sl.r_1 (F := Ideal) c i arg3 harg3 arg4 harg4 arg5 harg5 arg6 harg6 q k v,
       kernelRun0_A.sl.r_2 (F := Ideal) c i arg3 harg3 arg4 harg4 arg5 harg5 arg6 harg6 q k v,
       kernelRun0_A.sl.r_3 (F := Ideal) c i arg3 harg3 arg4 harg4 arg5 harg5 arg6 harg6 q k v,
       kernelRun0_A.sl.r_4 (F := Ideal) c i arg3 harg3 arg4 harg4 arg5 harg5 arg6 harg6 q k v,
       kernelRun0_A.sl.r_5 (F := Ideal) c i arg3 harg3 arg4 harg4 arg5 harg5 arg6 harg6 q k v,
       kernelRun0_A.sl.r_6 (F := Ideal) c i arg3 harg3 arg4 harg4 arg5 harg5 arg6 harg6 q k v,
       kernelRun0_A.sl.r_7 (F := Ideal) c i arg3 harg3 arg4 harg4 arg5 harg5 arg6 harg6 q k v,
       kernelRun0_A.sl.r_8 (F := Ideal) c i arg3 harg3 arg4 harg4 arg5 harg5 arg6 harg6 q k v,
       kernelRun0_A.sl.r_9 (F := Ideal) c i arg3 harg3 arg4 harg4 arg5 harg5 arg6 harg6 q k v,
       kernelRun0_A.sl.r_10 (F := Ideal) c i arg3 harg3 arg4 harg4 arg5 harg5 arg6 harg6 q k v,
       kernelRun0_A.sl.r_11 (F := Ideal) c i arg3 harg3 arg4 harg4 arg5 harg5 arg6 harg6 q k v,
       kernelRun0_A.sl.r_12 (F := Ideal) c i arg3 harg3 arg4 harg4 arg5 harg5 arg6 harg6 q k v,
       kernelRun0_A.sl.r_13 (F := Ideal) c i arg3 harg3 arg4 harg4 arg5 harg5 arg6 harg6 q k v,
       kernelRun0_A.sl.r_14 (F := Ideal) c i arg3 harg3 arg4 harg4 arg5 harg5 arg6 harg6 q k v,
       kernelRun0_A.sl.r_15 (F := Ideal) c i arg3 harg3 arg4 harg4 arg5 harg5 arg6 harg6 q k v) := by
  unfold kernelRun0_A.sl.r kernelRun0_A.sl.r_1 kernelRun0_A.sl.r_2 kernelRun0_A.sl.r_3 kernelRun0_A.sl.r_4 kernelRun0_A.sl.r_5 kernelRun0_A.sl.r_6 kernelRun0_A.sl.r_7 kernelRun0_A.sl.r_8 kernelRun0_A.sl.r_9 kernelRun0_A.sl.r_10 kernelRun0_A.sl.r_11 kernelRun0_A.sl.r_12 kernelRun0_A.sl.r_13 kernelRun0_A.sl.r_14 kernelRun0_A.sl.r_15
  simp only [Prod.mk.eta]
  refine loop_narrow_rest harg3 harg4 harg5 ?_
  refine loop_narrow harg3 harg4 harg5 hS ?_
  refine loop_wide_rest harg3 harg4 harg5 ?_
  rw [← trips_wide]
  exact loop_wide harg3 harg4 harg5 hS StateOK.init (k0_t1_loop i).trips le_rfl

/-- The eight heads' sums after the block's own tile. -/
theorem sums_after (hS : ∀ h x κ, score q k (i 2).val h x κ ≠ ⊤) :
    (∀ (d : Fin 128) x, kernelRun0_A.sl.r_19 (F := Ideal) c i arg3 harg3 arg4 harg4 arg5 harg5 arg6 harg6 q k v (ix2 d x)
      = wsum (score q k (i 2).val 0 x) (value v 0 d) (512 * (i 2).val + 512)) ∧
    (∀ (d : Fin 128) x, kernelRun0_A.sl.r_23 (F := Ideal) c i arg3 harg3 arg4 harg4 arg5 harg5 arg6 harg6 q k v (ix2 d x)
      = wsum (score q k (i 2).val 1 x) (value v 1 d) (512 * (i 2).val + 512)) ∧
    (∀ (d : Fin 128) x, kernelRun0_A.sl.r_25 (F := Ideal) c i arg3 harg3 arg4 harg4 arg5 harg5 arg6 harg6 q k v (ix2 d x)
      = wsum (score q k (i 2).val 2 x) (value v 2 d) (512 * (i 2).val + 512)) ∧
    (∀ (d : Fin 128) x, kernelRun0_A.sl.r_27 (F := Ideal) c i arg3 harg3 arg4 harg4 arg5 harg5 arg6 harg6 q k v (ix2 d x)
      = wsum (score q k (i 2).val 3 x) (value v 3 d) (512 * (i 2).val + 512)) ∧
    (∀ (d : Fin 128) x, kernelRun0_A.sl.r_31 (F := Ideal) c i arg3 harg3 arg4 harg4 arg5 harg5 arg6 harg6 q k v (ix2 d x)
      = wsum (score q k (i 2).val 4 x) (value v 4 d) (512 * (i 2).val + 512)) ∧
    (∀ (d : Fin 128) x, kernelRun0_A.sl.r_33 (F := Ideal) c i arg3 harg3 arg4 harg4 arg5 harg5 arg6 harg6 q k v (ix2 d x)
      = wsum (score q k (i 2).val 5 x) (value v 5 d) (512 * (i 2).val + 512)) ∧
    (∀ (d : Fin 128) x, kernelRun0_A.sl.r_36 (F := Ideal) c i arg3 harg3 arg4 harg4 arg5 harg5 arg6 harg6 q k v (ix2 d x)
      = wsum (score q k (i 2).val 6 x) (value v 6 d) (512 * (i 2).val + 512)) ∧
    (∀ (d : Fin 128) x, kernelRun0_A.sl.r_37 (F := Ideal) c i arg3 harg3 arg4 harg4 arg5 harg5 arg6 harg6 q k v (ix2 d x)
      = wsum (score q k (i 2).val 7 x) (value v 7 d) (512 * (i 2).val + 512)) := by
  obtain ⟨h0, h1, h2, h3, h4, h5, h6, h7⟩ := state_before (c := c) (harg6 := harg6) harg3 harg4 harg5 (v := v) hS
  obtain ⟨o0, o1, o2, o3, o4, o5, o6, o7⟩ := offs_own i
  exact ⟨(h0.readMasked harg3 harg4 harg5 (hS 0) mask_iff o0.1 rfl o0.2 _ _ _).acc_eq,
    (h1.readMasked harg3 harg4 harg5 (hS 1) mask_iff o1.1 rfl o1.2 _ _ _).acc_eq,
    (h2.readMasked harg3 harg4 harg5 (hS 2) mask_iff o2.1 rfl o2.2 _ _ _).acc_eq,
    (h3.readMasked harg3 harg4 harg5 (hS 3) mask_iff o3.1 rfl o3.2 _ _ _).acc_eq,
    (h4.readMasked harg3 harg4 harg5 (hS 4) mask_iff o4.1 rfl o4.2 _ _ _).acc_eq,
    (h5.readMasked harg3 harg4 harg5 (hS 5) mask_iff o5.1 rfl o5.2 _ _ _).acc_eq,
    (h6.readMasked harg3 harg4 harg5 (hS 6) mask_iff o6.1 rfl o6.2 _ _ _).acc_eq,
    (h7.readMasked harg3 harg4 harg5 (hS 7) mask_iff o7.1 rfl o7.2 _ _ _).acc_eq⟩

/-- A pair of heads' columns of the block. -/
theorem pair_value {a b : FVec Ideal S128x512 .f32} {S S' : Fin 512 → ℕ → EReal} {V V' : ℕ → ℕ → EReal} {n : ℕ}
    (ha : ∀ (d : Fin 128) x, a (ix2 d x) = wsum (S x) (V d) n) (hb : ∀ (d : Fin 128) x, b (ix2 d x) = wsum (S' x) (V' d) n)
    (x : Fin 512) (r : Fin 128) :
    k0_pay160 a b (ix3 0 x r) = if r.val < 64 then Ideal.div (wsum (S x) (V r) n) (wsum (S x) (V 64) n)
      else Ideal.div (wsum (S' x) (V' (r - 64)) n) (wsum (S' x) (V' 64) n) := by
  rw [pair_apply]
  split <;> simp only [ha, hb] <;> rfl

/-- Reading the block at a column of the newest store's 128 columns reads that store. -/
theorem read_piece {P : ℕ} {off : Fin 3 → ℕ} (ho : off = ![0, 0, 128 * P])
    (inb : ∀ a, off a + (![1, 512, 128] : Fin 3 → ℕ) a ≤ S1x512x512.size a)
    (w : S1x512x128.Idx → EReal) (L : List (View.Piece (Elt Ideal) S1x512x512 .bf16)) (x y : Fin 512) (hy : y.val / 128 = P) :
    VO0_3.read (Elt Ideal) (VO0_3.writes (Elt Ideal) VO0_3.junk
      ((⟨Rect.unit (s := S1x512x512) off ![1, 512, 128] inb, w⟩ : View.Piece (Elt Ideal) S1x512x512 .bf16) :: L)) (ix3 0 x y)
      = w (ix3 0 x ⟨y.val % 128, by omega⟩) :=
  View.read_writes_cons_unit_of_mem VO0_3 VO0_3.junk inb w L (ix3 0 x y) (ix3 0 x ⟨y.val % 128, by omega⟩) ho fun a => by
    fin_cases a
    · rfl
    · exact (Nat.zero_add _).symm
    · show y.val = 128 * P + y.val % 128
      omega

/-- Reading it at a column of another store reads the stores before. -/
theorem read_other (f : VO0_3.ty.Contents (Elt Ideal)) {P : ℕ} {off : Fin 3 → ℕ} (ho : off = ![0, 0, 128 * P])
    (inb : ∀ a, off a + (![1, 512, 128] : Fin 3 → ℕ) a ≤ S1x512x512.size a)
    (w : S1x512x128.Idx → EReal) (L : List (View.Piece (Elt Ideal) S1x512x512 .bf16)) (x y : Fin 512) (hy : y.val / 128 ≠ P) :
    VO0_3.read (Elt Ideal) (VO0_3.writes (Elt Ideal) f
      ((⟨Rect.unit (s := S1x512x512) off ![1, 512, 128] inb, w⟩ : View.Piece (Elt Ideal) S1x512x512 .bf16) :: L)) (ix3 0 x y)
      = VO0_3.read (Elt Ideal) (VO0_3.writes (Elt Ideal) f L) (ix3 0 x y) := by
  have h : y.val < 128 * P ∨ 128 * P + 128 ≤ y.val := by omega
  exact View.read_writes_cons_unit_of_not_mem VO0_3 f inb w L (ix3 0 x y) ho (2 : Fin 3) h

/-- Column `y` of the block among the pair of heads `2 P` and `2 P + 1`. -/
theorem column_of_pair {P : ℕ} {i : ℕ} {x y : Fin 512} (hy : y.val / 128 = P) {e : EReal}
    (he : e = if y.val % 128 < 64
      then Ideal.div (wsum (score q k i (2 * P) x) (value v (2 * P) (y.val % 128)) (512 * i + 512))
        (wsum (score q k i (2 * P) x) (value v (2 * P) 64) (512 * i + 512))
      else Ideal.div (wsum (score q k i (2 * P + 1) x) (value v (2 * P + 1) (y.val % 128 - 64)) (512 * i + 512))
        (wsum (score q k i (2 * P + 1) x) (value v (2 * P + 1) 64) (512 * i + 512))) :
    e = blockOut q k v i x (y.val / 64) (y.val % 64) := by
  rw [he, blockOut]
  split
  · rw [show y.val / 64 = 2 * P by omega, show y.val % 128 = y.val % 64 by omega]
  · rw [show y.val / 64 = 2 * P + 1 by omega, show y.val % 128 - 64 = y.val % 64 by omega]

/-- **The block's result**: at query `x`, column `64 h + d`, head `h`'s weighted sum of value column `d` over its sum of
weights. -/
theorem block_apply (hS : ∀ h x κ, score q k (i 2).val h x κ ≠ ⊤) (x : Fin 512) (y : Fin 512) :
    out0_A_3 (F := Ideal) c i arg3 harg3 arg4 harg4 arg5 harg5 arg6 harg6 q k v (ix3 0 x y)
      = blockOut q k v (i 2).val x (y / 64) (y % 64) := by
  obtain ⟨a0, a1, a2, a3, a4, a5, a6, a7⟩ := sums_after (c := c) (harg6 := harg6) harg3 harg4 harg5 (v := v) hS
  unfold out0_A_3 kernelRun0_A
  dsimp only
  have hy := y.isLt
  obtain h | h | h | h : y.val / 128 = 3 ∨ y.val / 128 = 2 ∨ y.val / 128 = 1 ∨ y.val / 128 = 0 := by omega
  · exact column_of_pair h ((read_piece rfl _ _ _ x y h).trans (pair_value a6 a7 x _))
  · exact column_of_pair h ((read_other VO0_3.junk (P := 3) rfl _ _ _ x y (by omega)).trans
      ((read_piece rfl _ _ _ x y h).trans (pair_value a4 a5 x _)))
  · exact column_of_pair h ((read_other VO0_3.junk (P := 3) rfl _ _ _ x y (by omega)).trans
      ((read_other VO0_3.junk (P := 2) rfl _ _ _ x y (by omega)).trans ((read_piece rfl _ _ _ x y h).trans (pair_value a2 a3 x _))))
  · exact column_of_pair h ((read_other VO0_3.junk (P := 3) rfl _ _ _ x y (by omega)).trans
      ((read_other VO0_3.junk (P := 2) rfl _ _ _ x y (by omega)).trans ((read_other VO0_3.junk (P := 1) rfl _ _ _ x y (by omega)).trans
        ((read_piece rfl _ _ _ x y h).trans (pair_value a0 a1 x _)))))

end Cert.Mla
-- ==== Proof.Host.lean ====
/- The arrays the attention is launched on, read at an index: each query row is a head's nope columns, its rope
   columns and zeros, times the scale; each key row the same without the scale; each value column a head's values, a
   one, and zeros. -/
module

public import proofs.«01_k».proof.Proof.Block
public import proofs.«01_k».proof.Proof.Gen.KernelIdeal.Value
public import Idealize.ShloMosaic.Lib.StableHlo.ReadAt

@[expose] public section

set_option maxRecDepth 16384

noncomputable section

namespace Cert.Mla

open Idealize.ShloMosaic
open Cert.KernelIdeal Cert.KernelIdeal.Gen

variable (m : (ℓ : Loc nD τ sig) → Buf (Elt Ideal) ℓ) (c : Dev nD)

/-- The queries' nope columns, as launched. -/
abbrev qn : (⟨4, ![4, 8192, 8, 64]⟩ : Shape).Idx → EReal := m (c.tc.loc main_arg0)
/-- The queries' rope columns, as launched. -/
abbrev qr : (⟨4, ![4, 8192, 8, 32]⟩ : Shape).Idx → EReal := m (c.tc.loc main_arg1)
/-- The keys' nope columns, as launched. -/
abbrev kn : (⟨4, ![4, 8192, 8, 64]⟩ : Shape).Idx → EReal := m (c.tc.loc main_arg2)
/-- The keys' rope columns, one for all heads, as launched. -/
abbrev kr : (⟨3, ![4, 8192, 32]⟩ : Shape).Idx → EReal := m (c.tc.loc main_arg3)
/-- The values, as launched. -/
abbrev vals : (⟨4, ![4, 8192, 8, 64]⟩ : Shape).Idx → EReal := m (c.tc.loc main_arg4)

/-- The scale of the queries, as the program computes it. -/
def qscale : EReal :=
  Ideal.div 1 (Ideal.sqrt (Ideal.ofBits FTy.f32 1119879168#32) * Ideal.log (Ideal.ofBits FTy.f32 1073741824#32))

/-- The word of 96. -/
theorem ninety_six : Ideal.ofBits FTy.f32 1119879168#32 = ((96 : ℝ) : EReal) := by
  simp [Ideal.ofBits, Ideal.ieee, -EReal.coe_mul]; norm_num

/-- The word of 2. -/
theorem two : Ideal.ofBits FTy.f32 1073741824#32 = ((2 : ℝ) : EReal) := by
  simp [Ideal.ofBits, Ideal.ieee, -EReal.coe_mul]; norm_num

/-- The scale is one over √96 · log 2. -/
theorem qscale_eq : qscale = ((1 / (Real.sqrt 96 * Real.log 2) : ℝ) : EReal) := by
  have h : Real.sqrt 96 * Real.log 2 ≠ 0 := (mul_pos (by positivity) (Real.log_pos (by norm_num))).ne'
  have e : (1 : EReal) = ((1 : ℝ) : EReal) := rfl
  rw [qscale, ninety_six, two, Ideal.sqrt_coe, Ideal.log_coe, if_neg (by norm_num), if_neg (by norm_num), ← EReal.coe_mul, Ideal.div_coe h, one_mul]

/-- The launched queries at an index. -/
theorem queries_apply (b : Fin 4) (p : Fin 8192) (r : Fin 1024) :
    (V m c main_v17 : (⟨3, ![4, 8192, 1024]⟩ : Shape).Idx → EReal) (ix3 b p r) =
      (if h₁ : r.val % 128 < 64 then qn m c (ix4 b p ⟨r / 128, by omega⟩ ⟨r % 128, h₁⟩)
        else if h₂ : r.val % 128 - 64 < 32 then qr m c (ix4 b p ⟨r / 128, by omega⟩ ⟨r % 128 - 64, h₂⟩) else 0) * qscale := by
  unfold V
  after_reads_at
  unfold qscale
  congr 1
  by_cases h₁ : r.val % 128 < 64
  · simp only [h₁, dite_true]
    after_reads_at
  · by_cases h₂ : r.val % 128 - 64 < 32
    · simp only [h₁, h₂, dite_false, dite_true, if_true]
      after_reads_at
    · simp only [h₁, h₂, dite_false, if_false]
      after_reads_at

/-- The launched keys at an index. -/
theorem keys_apply (b : Fin 4) (p : Fin 8192) (r : Fin 1024) :
    (V m c main_v18 : (⟨3, ![4, 8192, 1024]⟩ : Shape).Idx → EReal) (ix3 b p r) =
      (if h₁ : r.val % 128 < 64 then kn m c (ix4 b p ⟨r / 128, by omega⟩ ⟨r % 128, h₁⟩)
        else if h₂ : r.val % 128 - 64 < 32 then kr m c (ix3 b p ⟨r % 128 - 64, h₂⟩) else 0) := by
  unfold V
  after_reads_at
  by_cases h₁ : r.val % 128 < 64
  · simp only [h₁, dite_true]
    after_reads_at
  · by_cases h₂ : r.val % 128 - 64 < 32
    · simp only [h₁, h₂, dite_false, dite_true, if_true]
      after_reads_at
    · simp only [h₁, h₂, dite_false, if_false]
      after_reads_at

/-- The launched values at an index: a head's values, then a one, then zeros. -/
theorem values_apply (b : Fin 4) (p : Fin 8192) (r : Fin 1024) :
    (V m c main_v20 : (⟨3, ![4, 1024, 8192]⟩ : Shape).Idx → EReal) (ix3 b r p) =
      (if h₁ : r.val % 128 < 64 then vals m c (ix4 b p ⟨r / 128, by omega⟩ ⟨r % 128, h₁⟩)
        else if r.val % 128 - 64 < 1 then 1 else 0) := by
  unfold V
  after_reads_at
  by_cases h₁ : r.val % 128 < 64
  · simp only [h₁, dite_true]
    after_reads_at
  · by_cases h₂ : r.val % 128 - 64 < 1
    · simp only [h₁, h₂, dite_false, dite_true, if_true]
      after_reads_at
    · simp only [h₁, h₂, dite_false, if_false]
      after_reads_at

end Cert.Mla
-- ==== Proof.Result.lean ====
/- The result array after the run: each query's block of the grid leaves the attention of its batch, so every entry is
   the quotient of two weighted sums over the launched arrays of its batch. -/
module

public import proofs.«01_k».proof.Proof.Host
public import Idealize.ShloMosaic.Lib.Pipeline.ValueKit

@[expose] public section

set_option maxRecDepth 16384

noncomputable section

namespace Cert.Mla

open Idealize.ShloMosaic
open Cert.KernelIdeal Cert.KernelIdeal.Gen

variable (m : (ℓ : Loc nD τ sig) → Buf (Elt Ideal) ℓ) (c : Dev nD)

/-- The rows of one block of queries of a batch. -/
def qBlock (b : Fin 4) (i : Fin 16) : S1x512x1024.Idx → EReal := fun z =>
  (V m c main_v17 : (⟨3, ![4, 8192, 1024]⟩ : Shape).Idx → EReal) (ix3 b ⟨512 * i + (z 1).val, by have := (z 1).isLt; have := i.isLt; change _ < 512 at *; omega⟩ (z 2))

/-- The keys of a batch. -/
def kBlock (b : Fin 4) : S1x8192x1024.Idx → EReal := fun z =>
  (V m c main_v18 : (⟨3, ![4, 8192, 1024]⟩ : Shape).Idx → EReal) (ix3 b (z 1) (z 2))

/-- The values of a batch. -/
def vBlock (b : Fin 4) : S1x1024x8192.Idx → EReal := fun z =>
  (V m c main_v20 : (⟨3, ![4, 1024, 8192]⟩ : Shape).Idx → EReal) (ix3 b (z 1) (z 2))

/-- The block indices of the queries' window. -/
theorem index_queries : ∀ t : Fin cfg0.N, win0_0.index t = ![(grid0.coords t 0).val, (grid0.coords t 2).val, 0] :=
  (by decide +kernel : ∀ t : Fin grid0.N, win0_0.index t = ![(grid0.coords t 0).val, (grid0.coords t 2).val, 0])

/-- The block indices of the keys' window. -/
theorem index_keys : ∀ t : Fin cfg0.N, win0_1.index t = ![(grid0.coords t 0).val, 0, 0] :=
  (by decide +kernel : ∀ t : Fin grid0.N, win0_1.index t = ![(grid0.coords t 0).val, 0, 0])

/-- The block indices of the values' window. -/
theorem index_values : ∀ t : Fin cfg0.N, win0_2.index t = ![(grid0.coords t 0).val, 0, 0] :=
  (by decide +kernel : ∀ t : Fin grid0.N, win0_2.index t = ![(grid0.coords t 0).val, 0, 0])

/-- The block indices of the result's window. -/
theorem index_result : ∀ t : Fin cfg0.N, win0_3.index t = ![(grid0.coords t 0).val, (grid0.coords t 2).val, 0] :=
  (by decide +kernel : ∀ t : Fin grid0.N, win0_3.index t = ![(grid0.coords t 0).val, (grid0.coords t 2).val, 0])

/-- The block of queries at a point of the grid. -/
theorem iblk_queries (t : Fin cfg0.N) : iblk m c 0 t = qBlock m c (grid0.coords t 0) (grid0.coords t 2) := by
  unfold iblk qBlock
  generalize V m c = W
  funext z
  rw [View.read_apply, cast_eq]
  refine congrArg (W main_v17) (funext fun a => Fin.ext ?_)
  blk_simp [index_queries]
  have h₀ : (z 0).val < 1 := (z 0).isLt
  match a with
  | ⟨0, _⟩ => show (grid0.coords t 0).val * 1 + (z 0).val = (grid0.coords t 0).val; omega
  | ⟨1, _⟩ => show (grid0.coords t 2).val * 512 + (z 1).val = 512 * (grid0.coords t 2).val + (z 1).val; omega
  | ⟨2, _⟩ => show 0 * _ + (z 2).val = (z 2).val; omega

/-- The keys at a point of the grid. -/
theorem iblk_keys (t : Fin cfg0.N) : iblk m c 1 t = kBlock m c (grid0.coords t 0) := by
  unfold iblk kBlock
  generalize V m c = W
  funext z
  rw [View.read_apply, cast_eq]
  refine congrArg (W main_v18) (funext fun a => Fin.ext ?_)
  blk_simp [index_keys]
  have h₀ : (z 0).val < 1 := (z 0).isLt
  match a with
  | ⟨0, _⟩ => show (grid0.coords t 0).val * 1 + (z 0).val = (grid0.coords t 0).val; omega
  | ⟨1, _⟩ => show 0 * _ + (z 1).val = (z 1).val; omega
  | ⟨2, _⟩ => show 0 * _ + (z 2).val = (z 2).val; omega

/-- The values at a point of the grid. -/
theorem iblk_values (t : Fin cfg0.N) : iblk m c 2 t = vBlock m c (grid0.coords t 0) := by
  unfold iblk vBlock
  generalize V m c = W
  funext z
  rw [View.read_apply, cast_eq]
  refine congrArg (W main_v20) (funext fun a => Fin.ext ?_)
  blk_simp [index_values]
  have h₀ : (z 0).val < 1 := (z 0).isLt
  match a with
  | ⟨0, _⟩ => show (grid0.coords t 0).val * 1 + (z 0).val = (grid0.coords t 0).val; omega
  | ⟨1, _⟩ => show 0 * _ + (z 1).val = (z 1).val; omega
  | ⟨2, _⟩ => show 0 * _ + (z 2).val = (z 2).val; omega

/-- What the run leaves at an entry of the result. -/
def outAt (b : Fin 4) (p : Fin 8192) (y : Fin 512) : EReal :=
  blockOut (qBlock m c b ⟨p / 512, by omega⟩) (kBlock m c b) (vBlock m c b) (p / 512) ⟨p % 512, Nat.mod_lt _ (by decide)⟩ (y / 64) (y % 64)

/-- The result array of the run. -/
theorem result_eq (hS : ∀ b i h x κ, score (qBlock m c b i) (kBlock m c b) i.val h x κ ≠ ⊤) :
    (dats m 0 c).arrAt 3 cfg0.N = fun j => outAt m c (j 0) (j 1) (j 2) := by
  refine (dats m 0 c).arrAt_eq_of_covers 3 _ (by decide +kernel) fun t hf y => ?_
  blk_simp
  rw [after0_3]
  unfold outsAt0
  rw [iblk_queries, iblk_keys, iblk_values]
  have y0 : (y 0).val < 1 := (y 0).isLt
  have y1 : (y 1).val < 512 := (y 1).isLt
  have e0 : (win0_3.blk t).view.emb y 0 = grid0.coords t 0 := by
    refine Fin.ext ?_
    blk_simp [index_result]
  have e1 : ((win0_3.blk t).view.emb y 1).val = 512 * (grid0.coords t 2).val + (y 1).val := by
    blk_simp [index_result]
    show (grid0.coords t 2).val * 512 + (y 1).val = _
    omega
  have e2 : (win0_3.blk t).view.emb y 2 = y 2 := by
    refine Fin.ext ?_
    blk_simp [index_result]
  have hy : y = ix3 0 (y 1) (y 2) := funext fun a => Fin.ext <| by
    match a with
    | ⟨0, _⟩ => show (y 0).val = 0; omega
    | ⟨1, _⟩ => rfl
    | ⟨2, _⟩ => rfl
  have a1 : ((win0_3.blk t).view.emb y 1).val / 512 = (grid0.coords t 2).val := by omega
  have a2 : ((win0_3.blk t).view.emb y 1).val % 512 = (y 1).val := by omega
  unfold outAt
  rw [e0, e2]
  simp only [a1, a2]
  refine (congrArg _ hy).trans ?_
  refine block_apply (i := grid0.coords t) (hs0_0 t) (hs0_1 t) (hs0_2 t) (harg6 := hs0_3 t) (hS _ _) (y 1) (y 2)

end Cert.Mla
-- ==== Proof.Scores.lean ====
/- The scores of the launched arrays: a head's score of a query and a key is the scaled sum of the products of their
   nope and rope columns, real where the queries and the keys are; and the values' rows with the row of ones. -/
module

public import proofs.«01_k».proof.Proof.Result

@[expose] public section

set_option maxRecDepth 16384

noncomputable section

namespace Cert.Mla

open Finset
open Idealize.ShloMosaic
open Cert.KernelIdeal Cert.KernelIdeal.Gen

/-! ## Sums of products -/

/-- A sum of reals is real. -/
theorem real_sum {n : ℕ} (f : Fin n → EReal) (h : ∀ k, ∃ r : ℝ, f k = r) : ∃ r : ℝ, ∑ k, f k = r := by
  choose g hg using h
  exact ⟨∑ k, g k, by rw [coe_sum]; exact sum_congr rfl fun k _ => hg k⟩

/-- A product of reals is real. -/
theorem real_mul {x y : EReal} (hx : ∃ r : ℝ, x = r) (hy : ∃ r : ℝ, y = r) : ∃ r : ℝ, x * y = r := by
  obtain ⟨a, rfl⟩ := hx
  obtain ⟨b, rfl⟩ := hy
  exact ⟨a * b, (EReal.coe_mul a b).symm⟩

/-- A sum of two reals is real. -/
theorem real_add {x y : EReal} (hx : ∃ r : ℝ, x = r) (hy : ∃ r : ℝ, y = r) : ∃ r : ℝ, x + y = r := by
  obtain ⟨a, rfl⟩ := hx
  obtain ⟨b, rfl⟩ := hy
  exact ⟨a + b, (EReal.coe_add a b).symm⟩

/-- A column of a padded row: one of 64, then one of 32, then a zero. -/
def padded (a : Fin 64 → EReal) (b : Fin 32 → EReal) (d : Fin 128) : EReal :=
  if h₁ : d.val < 64 then a ⟨d, h₁⟩ else if h₂ : d.val - 64 < 32 then b ⟨d - 64, h₂⟩ else 0

/-- The products of two padded rows, one of them scaled, sum to the products of their parts, scaled. -/
theorem sum_padded (a a' : Fin 64 → EReal) (b b' : Fin 32 → EReal) {σ : ℝ} (hσ : 0 ≤ σ) :
    ∑ d : Fin 128, padded a b d * (padded a' b' d * σ) = (∑ d, a' d * a d + ∑ d, b d * b' d) * σ := by
  have e₁ : ∀ d : Fin 64, padded a b (Fin.castAdd 64 d) * (padded a' b' (Fin.castAdd 64 d) * σ) = σ * (a' d * a d) := fun d => by
    have h : (Fin.castAdd 64 d : Fin 128).val < 64 := d.isLt
    unfold padded
    rw [dif_pos h, dif_pos h]
    show a d * (a' d * σ) = _
    rw [mul_comm (a d), mul_comm (a' d), mul_assoc]
  have e₂ : ∀ d : Fin 32, padded a b (Fin.natAdd 64 (Fin.castAdd 32 d)) * (padded a' b' (Fin.natAdd 64 (Fin.castAdd 32 d)) * σ) = σ * (b d * b' d) := fun d => by
    have h : ¬ (Fin.natAdd 64 (Fin.castAdd 32 d) : Fin 128).val < 64 := by simp
    have h' : (Fin.natAdd 64 (Fin.castAdd 32 d) : Fin 128).val - 64 < 32 := by simp
    have i : (⟨(Fin.natAdd 64 (Fin.castAdd 32 d) : Fin 128).val - 64, h'⟩ : Fin 32) = d := Fin.ext (by simp)
    unfold padded
    rw [dif_neg h, dif_neg h, dif_pos h', dif_pos h', i, mul_comm (b' d), ← mul_assoc, mul_comm (b d), mul_assoc]
  have e₃ : ∀ d : Fin 32, padded a b (Fin.natAdd 64 (Fin.natAdd 32 d)) * (padded a' b' (Fin.natAdd 64 (Fin.natAdd 32 d)) * σ) = 0 := fun d => by
    have h : ¬ (Fin.natAdd 64 (Fin.natAdd 32 d) : Fin 128).val < 64 := by simp
    have h' : ¬ (Fin.natAdd 64 (Fin.natAdd 32 d) : Fin 128).val - 64 < 32 := by simp
    unfold padded
    rw [dif_neg h, dif_neg h', zero_mul]
  have s : ∀ f : Fin 128 → EReal, ∑ d, f d = ∑ d : Fin 64, f (Fin.castAdd 64 d)
      + (∑ d : Fin 32, f (Fin.natAdd 64 (Fin.castAdd 32 d)) + ∑ d : Fin 32, f (Fin.natAdd 64 (Fin.natAdd 32 d))) := fun f => by
    rw [← Fin.sum_univ_add (fun d : Fin (32 + 32) => f (Fin.natAdd 64 d))]
    exact Fin.sum_univ_add (a := 64) (b := 64) f
  rw [s]
  simp only [e₁, e₂, e₃, sum_const_zero, add_zero]
  rw [← real_mul_sum _ hσ, ← real_mul_sum _ hσ, mul_comm _ (σ : EReal),
    EReal.left_distrib_of_nonneg_of_ne_top (EReal.coe_nonneg.2 hσ) (EReal.coe_ne_top σ)]

/-! ## The arrays' rows -/

variable (m : (ℓ : Loc nD τ sig) → Buf (Elt Ideal) ℓ) (c : Dev nD)

/-- A column of a head's key. -/
theorem key_at (b : Fin 4) (h : Fin 8) (κ : Fin 8192) (d : Fin 128) :
    at3 (kBlock m c b) κ (128 * h + d) = padded (fun d => kn m c (ix4 b κ h d)) (fun d => kr m c (ix3 b κ d)) d := by
  have hr : 128 * h.val + d.val < 1024 := by omega
  have e₁ : (128 * h.val + d.val) / 128 = h.val := by omega
  have e₂ : (128 * h.val + d.val) % 128 = d.val := by omega
  unfold at3
  rw [dif_pos ⟨κ.isLt, hr⟩]
  refine (keys_apply m c b κ ⟨_, hr⟩).trans ?_
  simp only [e₁, e₂]
  rfl

/-- A column of a head's query. -/
theorem query_at (b : Fin 4) (i : Fin 16) (h : Fin 8) (x : Fin 512) (d : Fin 128) :
    at3 (qBlock m c b i) x (128 * h + d) =
      padded (fun d => qn m c (ix4 b ⟨512 * i + x, by omega⟩ h d)) (fun d => qr m c (ix4 b ⟨512 * i + x, by omega⟩ h d)) d * qscale := by
  have hr : 128 * h.val + d.val < 1024 := by omega
  have e₁ : (128 * h.val + d.val) / 128 = h.val := by omega
  have e₂ : (128 * h.val + d.val) % 128 = d.val := by omega
  unfold at3
  rw [dif_pos ⟨x.isLt, hr⟩]
  refine (queries_apply m c b ⟨512 * i + x, by omega⟩ ⟨_, hr⟩).trans ?_
  simp only [e₁, e₂]
  rfl

/-- A row of a head's values. -/
theorem value_at (b : Fin 4) (h : Fin 8) (d : Fin 64) (κ : Fin 8192) :
    value (vBlock m c b) h d κ = vals m c (ix4 b κ h d) := by
  have hr : 128 * h.val + d.val < 1024 := by omega
  have e₁ : (128 * h.val + d.val) / 128 = h.val := by omega
  have e₂ : (128 * h.val + d.val) % 128 = d.val := by omega
  unfold value at3
  rw [dif_pos ⟨hr, κ.isLt⟩]
  refine (values_apply m c b κ ⟨_, hr⟩).trans ?_
  have e₂' : d.val < 64 := d.isLt
  simp only [e₁, e₂, e₂', dite_true]

/-- The row of ones. -/
theorem one_at (b : Fin 4) (h : Fin 8) (κ : Fin 8192) : value (vBlock m c b) h 64 κ = 1 := by
  have hr : 128 * h.val + 64 < 1024 := by omega
  have e₂ : (128 * h.val + 64) % 128 = 64 := by omega
  unfold value at3
  rw [dif_pos ⟨hr, κ.isLt⟩]
  refine (values_apply m c b κ ⟨_, hr⟩).trans ?_
  simp [e₂]

/-! ## The scores -/

/-- The scale of the queries as a real. -/
def scale : ℝ := 1 / (Real.sqrt 96 * Real.log 2)

/-- The scale is not negative. -/
theorem scale_nonneg : 0 ≤ scale := by
  have := Real.log_pos (show (1 : ℝ) < 2 by norm_num)
  unfold scale
  positivity

/-- The unscaled score of a query and a key. -/
def rawScore (b : Fin 4) (p : Fin 8192) (h : Fin 8) (k : Fin 8192) : EReal :=
  ∑ d, qn m c (ix4 b p h d) * kn m c (ix4 b k h d) + ∑ d, kr m c (ix3 b k d) * qr m c (ix4 b p h d)

/-- A head's score is the scaled one, masked. -/
theorem score_at (b : Fin 4) (i : Fin 16) (h : Fin 8) (x : Fin 512) (κ : Fin 8192) :
    score (qBlock m c b i) (kBlock m c b) i h x κ =
      if κ.val / 64 ≤ (512 * i.val + x) / 64 then rawScore m c b ⟨512 * i + x, by omega⟩ h κ * (scale : EReal) else ⊥ := by
  unfold score
  by_cases hv : κ.val / 64 ≤ (512 * i.val + x) / 64
  · rw [if_pos hv, if_pos hv]
    simp only [key_at, query_at, qscale_eq]
    exact sum_padded _ _ _ _ scale_nonneg
  · rw [if_neg hv, if_neg hv]

/-- The queries and the keys of the launch are real. -/
structure RealArgs : Prop where
  qn : ∀ j, ∃ r : ℝ, qn m c j = r
  qr : ∀ j, ∃ r : ℝ, qr m c j = r
  kn : ∀ j, ∃ r : ℝ, kn m c j = r
  kr : ∀ j, ∃ r : ℝ, kr m c j = r

variable {m c}

/-- Every unscaled score is real. -/
theorem RealArgs.raw (H : RealArgs m c) (b : Fin 4) (p : Fin 8192) (h : Fin 8) (k : Fin 8192) : ∃ r : ℝ, rawScore m c b p h k = r :=
  real_add (real_sum _ fun _ => real_mul (H.qn _) (H.kn _)) (real_sum _ fun _ => real_mul (H.kr _) (H.qr _))

/-- A padded row of reals is real. -/
theorem real_padded {a : Fin 64 → EReal} {b : Fin 32 → EReal} (ha : ∀ d, ∃ r : ℝ, a d = r) (hb : ∀ d, ∃ r : ℝ, b d = r) (d : Fin 128) :
    ∃ r : ℝ, padded a b d = r := by
  unfold padded
  split_ifs
  exacts [ha _, hb _, ⟨0, rfl⟩]

/-- Every entry of the keys is real. -/
theorem RealArgs.key (H : RealArgs m c) (b : Fin 4) (κ r : ℕ) : ∃ y : ℝ, at3 (kBlock m c b) κ r = y := by
  by_cases hh : κ < 8192 ∧ r < 1024
  · have := key_at m c b ⟨r / 128, by omega⟩ ⟨κ, hh.1⟩ ⟨r % 128, by omega⟩
    rw [show 128 * (r / 128) + r % 128 = r by omega] at this
    rw [this]
    exact real_padded (fun _ => H.kn _) (fun _ => H.kr _) _
  · exact ⟨0, dif_neg hh⟩

/-- Every entry of a block of queries is real. -/
theorem RealArgs.query (H : RealArgs m c) (b : Fin 4) (i : Fin 16) (x r : ℕ) : ∃ y : ℝ, at3 (qBlock m c b i) x r = y := by
  by_cases hh : x < 512 ∧ r < 1024
  · have := query_at m c b i ⟨r / 128, by omega⟩ ⟨x, hh.1⟩ ⟨r % 128, by omega⟩
    rw [show 128 * (r / 128) + r % 128 = r by omega] at this
    rw [this, qscale_eq]
    exact real_mul (real_padded (fun _ => H.qn _) (fun _ => H.qr _) _) ⟨_, rfl⟩
  · exact ⟨0, dif_neg hh⟩

/-- No score is the greatest value. -/
theorem RealArgs.score_ne (H : RealArgs m c) (b : Fin 4) (i : Fin 16) (h : ℕ) (x : Fin 512) (κ : ℕ) :
    score (qBlock m c b i) (kBlock m c b) i h x κ ≠ ⊤ := by
  unfold score
  split_ifs
  · obtain ⟨r, hr⟩ := real_sum _ fun d : Fin 128 => real_mul (H.key b κ (128 * h + d)) (H.query b i x (128 * h + d))
    rw [hr]
    exact EReal.coe_ne_top r
  · exact bot_ne_top

end Cert.Mla
-- ==== Proof.Finite.lean ====
/- What the precondition says: every entry of the queries and of the keys is real. -/
module

public import proofs.«01_k».proof.Proof.Scores
public import proofs.«01_k».proof.Defs
public import proofs.«01_k».proof.Proof.Gen.Pre_finite_scores
public import Idealize.ShloMosaic.Lib.ReduceAll

@[expose] public section

set_option maxRecDepth 16384

noncomputable section

namespace Cert.Mla

open Idealize.ShloMosaic

/-- A value whose absolute value lies below infinity is real. -/
theorem real_of_abs_lt {x : EReal} (h : Ideal.cmp .olt (max x (-x)) (Ideal.ofBits FTy.f32 0x7F800000#32) = 1#1) : ∃ r : ℝ, x = r := by
  have ht : Ideal.ofBits FTy.f32 0x7F800000#32 = ⊤ := by simp [Ideal.ofBits, Ideal.ieee]
  rw [ht] at h
  have hlt : max x (-x) < ⊤ := by
    by_contra hc
    have : decide (max x (-x) < ⊤) = false := decide_eq_false hc
    change BitVec.ofBool (decide (max x (-x) < ⊤)) = 1#1 at h
    rw [this] at h
    exact absurd h (by decide)
  have h₁ : x ≠ ⊤ := fun e => by subst e; simp at hlt
  have h₂ : x ≠ ⊥ := fun e => by subst e; simp at hlt
  exact ⟨x.toReal, (EReal.coe_toReal h₁ h₂).symm⟩

/-- A conjunction of two words of one bit is 1 when both are. -/
theorem and_eq_one (a b : BitVec 1) (h : a &&& b = 1#1) : a = 1#1 ∧ b = 1#1 := by
  revert a b
  decide

/-- The scalars' shape has one index. -/
instance : Subsingleton (⟨0, ![]⟩ : Shape).Idx := ⟨fun a b => funext fun i => i.elim0⟩

/-- The precondition: the queries and the keys of the launch are real. -/
theorem real_args [Cert.Pre_finite_scores.Facts]
    (m : (ℓ : Loc Cert.KernelIdeal.nD Cert.KernelIdeal.τ Cert.KernelIdeal.sig) → Buf (Elt Ideal) ℓ)
    (h : Cert.Pre_KernelIdeal_finite_scores m) (c : Dev Cert.KernelIdeal.nD) : RealArgs m c := by
  have e := congrFun (h c) (fun i => i.elim0)
  dsimp only [Cert.Pre_finite_scores.fn, Cert.Pre_finite_scores.fn_part1] at e
  obtain ⟨e₁, h₃⟩ := and_eq_one _ _ e
  obtain ⟨e₂, h₂⟩ := and_eq_one _ _ e₁
  obtain ⟨h₀, h₁⟩ := and_eq_one _ _ e₂
  exact ⟨fun j => real_of_abs_lt (Host.reduce_andi_all _ _ _ _ _ h₀ j), fun j => real_of_abs_lt (Host.reduce_andi_all _ _ _ _ _ h₁ j),
    fun j => real_of_abs_lt (Host.reduce_andi_all _ _ _ _ _ h₂ j), fun j => real_of_abs_lt (Host.reduce_andi_all _ _ _ _ _ h₃ j)⟩

end Cert.Mla
-- ==== Proof.Softmax.lean ====
/- The quotient that the online softmax ends with is the softmax average: base 2 against base e, and the keys that are
   never looked at weigh nothing. -/
module

public import proofs.«01_k».proof.Proof.Online

@[expose] public section

noncomputable section

namespace Cert.Mla

open Finset Idealize.ShloMosaic
open scoped BigOperators

/-- Keys of score −∞ past the first `n` change no maximum. -/
theorem top_extend {s : ℕ → EReal} {n N : ℕ} (h : n ≤ N) (hs : ∀ k, n ≤ k → k < N → s k = ⊥) : top s N = top s n :=
  le_antisymm (Finset.sup_le fun k hk => by
    rcases Nat.lt_or_ge k n with h' | h'
    · exact le_top h'
    · rw [hs k h' (mem_range.1 hk)]; exact bot_le) (top_mono s h)

/-- Keys of score −∞ past the first `n` add nothing to a weighted sum. -/
theorem wsum_extend {s : ℕ → EReal} (v : ℕ → EReal) {n N : ℕ} (h : n ≤ N) (hs : ∀ k, n ≤ k → k < N → s k = ⊥) :
    wsum s v N = wsum s v n := by
  unfold wsum
  rw [top_extend h hs]
  refine (sum_subset (range_subset_range.2 h) fun k hk hk' => ?_).symm
  rw [hs k (not_lt.1 fun h' => hk' (mem_range.2 h')) (mem_range.1 hk)]
  simp

/-- A power of two is the exponential of the exponent times log 2. -/
theorem exp_log_two (a b : EReal) (ha : a ≠ ⊤) (r : ℝ) (hb : b = r) :
    Ideal.exp (a * ((Real.log 2 : ℝ) : EReal) - b * ((Real.log 2 : ℝ) : EReal)) = Ideal.exp2 (a - b) := by
  subst hb
  have hl : (0 : ℝ) < Real.log 2 := Real.log_pos one_lt_two
  induction a with
  | top => exact absurd rfl ha
  | bot => rw [EReal.bot_mul_coe_of_pos hl]; simp
  | coe a =>
    rw [← EReal.coe_mul, ← EReal.coe_mul, ← EReal.coe_sub, ← EReal.coe_sub, Ideal.exp_coe, Ideal.exp2_coe]
    congr 1
    show _ = (2 : ℝ) ^ (a - r)
    rw [Real.rpow_def_of_pos two_pos]
    congr 1
    ring

/-- A factor log 2 on every score is a factor log 2 on the greatest. -/
theorem top_mul_log_two (s : ℕ → EReal) (N : ℕ) :
    (univ : Finset (Fin N)).fold max ⊥ (fun k : Fin N => s k * ((Real.log 2 : ℝ) : EReal)) = top s N * ((Real.log 2 : ℝ) : EReal) := by
  have hl : (0 : ℝ) < Real.log 2 := Real.log_pos one_lt_two
  have hmono : Monotone fun x : EReal => x * ((Real.log 2 : ℝ) : EReal) := fun x y h =>
    mul_le_mul_of_nonneg_right h (EReal.coe_nonneg.2 hl.le)
  have e : top s N = (univ : Finset (Fin N)).fold max ⊥ (fun k : Fin N => s k) := by
    have := top_add s 0 N
    simpa [top_zero] using this.symm
  rw [e]
  exact (Finset.comp_sup_eq_sup_comp_of_is_total (s := univ) (f := fun k : Fin N => s k) _ hmono (EReal.bot_mul_coe_of_pos hl)).symm

/-- **The online softmax is the softmax.** The weighted sum over the total weight, over the first `n` keys in base 2, is the
average under the weights `exp (t k − max t) / Σ exp (t · − max t)` over all `N` keys, where `t` is the score times log 2 and
the keys past `n` have score −∞; one key at least has a finite score. -/
theorem softmax_eq {s : ℕ → EReal} (v : ℕ → EReal) {n N : ℕ} (hn : n ≤ N) (hs : ∀ k, s k ≠ ⊤)
    (hbot : ∀ k, n ≤ k → k < N → s k = ⊥) (k₀ : ℕ) (hk₀ : k₀ < n) (h₀ : s k₀ ≠ ⊥) (t : Fin N → EReal)
    (ht : ∀ k : Fin N, t k = s k * ((Real.log 2 : ℝ) : EReal)) :
    Ideal.div (wsum s v n) (wsum s (fun _ => 1) n)
      = ∑ k : Fin N, v k * Ideal.div (Ideal.exp (t k - (univ : Finset (Fin N)).fold max ⊥ t))
          (∑ j : Fin N, Ideal.exp (t j - (univ : Finset (Fin N)).fold max ⊥ t)) := by
  obtain rfl : t = fun k : Fin N => s k * ((Real.log 2 : ℝ) : EReal) := funext ht
  rw [← wsum_extend v hn hbot, ← wsum_extend (fun _ => 1) hn hbot]
  have hne : top s N ≠ ⊥ := fun h => h₀ (le_bot_iff.1 (h ▸ le_top (Nat.lt_of_lt_of_le hk₀ hn)))
  obtain ⟨μ, hμ⟩ : ∃ μ : ℝ, top s N = μ := ⟨_, (EReal.coe_toReal (top_ne_top hs N) hne).symm⟩
  have he : ∀ k : Fin N, Ideal.exp (s k * ((Real.log 2 : ℝ) : EReal) - (univ : Finset (Fin N)).fold max ⊥ (fun k : Fin N => s k * ((Real.log 2 : ℝ) : EReal)))
      = Ideal.exp2 (s k - top s N) := fun k => by
    rw [top_mul_log_two]; exact exp_log_two _ _ (hs _) μ hμ
  simp only [he]
  have hr : ∀ k : ℕ, ∃ r : ℝ, k < N → 0 ≤ r ∧ Ideal.exp2 (s k - top s N) = r := fun k => by
    by_cases h : k < N
    · obtain ⟨r, h1, h2⟩ := exp2_real (le_top (s := s) h) (top_ne_top hs N); exact ⟨r, fun _ => ⟨h1, h2⟩⟩
    · exact ⟨0, fun h' => absurd h' h⟩
  choose r hr using hr
  have hz : ∑ j : Fin N, Ideal.exp2 (s j - top s N) = ((∑ j : Fin N, r j : ℝ) : EReal) := by
    rw [coe_sum]
    exact sum_congr rfl fun j _ => (hr j j.isLt).2
  have hw : wsum s (fun _ => 1) N = ((∑ j : Fin N, r j : ℝ) : EReal) := by
    rw [← hz]; unfold wsum; rw [Finset.sum_range]; exact sum_congr rfl fun j _ => one_mul _
  have hpos : 0 < ∑ j : Fin N, r j := by
    refine sum_pos' (fun j _ => (hr j j.isLt).1) ⟨⟨k₀, Nat.lt_of_lt_of_le hk₀ hn⟩, mem_univ _, ?_⟩
    obtain ⟨-, h2⟩ := hr k₀ (Nat.lt_of_lt_of_le hk₀ hn)
    obtain ⟨a, ha⟩ : ∃ a : ℝ, s k₀ = a := ⟨_, (EReal.coe_toReal (hs k₀) h₀).symm⟩
    rw [ha, hμ, ← EReal.coe_sub, Ideal.exp2_coe, EReal.coe_eq_coe_iff] at h2
    show 0 < r k₀
    rw [← h2]
    exact Real.rpow_pos_of_pos two_pos _
  rw [hw, hz]
  simp only [Ideal.div_coe hpos.ne']
  unfold wsum
  rw [mul_comm, real_mul_sum _ (one_div_pos.2 hpos).le, Finset.sum_range]
  exact sum_congr rfl fun k _ => by rw [mul_comm, mul_assoc]

end Cert.Mla

end
-- ==== Proof.Attention.lean ====
/- The reference's attention read at an index: a query's scaled scores, masked past its own chunk, their softmax, and
   the values weighted by it. -/
module

public import proofs.«01_k».proof.Proof.Gen.ReferenceIdeal.Run
public import proofs.«01_k».proof.Proof.Host
public import Idealize.ShloMosaic.Lib.Pointwise
public import Idealize.ShloMosaic.Lib.IdealHost
public import Idealize.ShloMosaic.Lib.KernelVsHost

@[expose] public section

set_option maxRecDepth 16384

noncomputable section

namespace Cert.Mla

open Idealize.ShloMosaic
open Cert.ReferenceIdeal Cert.ReferenceIdeal.Gen

/-- A token's chunk as the reference computes it: the floor of its number over 64. -/
def chunkOf (n : ℕ) : BitVec 32 :=
  Scalar.select
    (IntOp.andi
      (IntOp.cmpi CmpIPredicate.ne
        (if BitVec.ofNat 32 n = 0 then (0 : BitVec 32) else if (BitVec.ofNat 32 n).msb = true then -1 else 1)
        (if (64#32 : BitVec 32) = 0 then (0 : BitVec 32) else if (64#32 : BitVec 32).msb = true then -1 else 1))
      (IntOp.cmpi CmpIPredicate.ne (IntOp.remsi ArithUnit.host (BitVec.ofNat 32 n) 64#32) 0#32))
    (IntOp.subi (IntOp.divsi ArithUnit.host (BitVec.ofNat 32 n) 64#32) 1#32)
    (IntOp.divsi ArithUnit.host (BitVec.ofNat 32 n) 64#32)

/-- The chunk of a token is its number over 64. -/
theorem chunkOf_eq : ∀ n : Fin 8192, chunkOf n = BitVec.ofNat 32 (n / 64) := by decide +kernel

/-- Comparing two chunks as words compares their numbers. -/
theorem chunk_le : ∀ a b : Fin 128,
    IntOp.cmpi CmpIPredicate.sle (BitVec.ofNat 32 a) (BitVec.ofNat 32 b) = if a.val ≤ b.val then 1#1 else 0#1 := by
  decide +kernel

/-- The scaled score of a query and a key, masked past the query's chunk, from the launched arrays. -/
def refScore (qn : (⟨4, ![4, 8192, 8, 64]⟩ : Shape).Idx → EReal) (qr : (⟨4, ![4, 8192, 8, 32]⟩ : Shape).Idx → EReal)
    (kn : (⟨4, ![4, 8192, 8, 64]⟩ : Shape).Idx → EReal) (kr : (⟨3, ![4, 8192, 32]⟩ : Shape).Idx → EReal)
    (b : Fin 4) (p : Fin 8192) (h : Fin 8) (k : Fin 8192) : EReal :=
  if k.val / 64 ≤ p.val / 64 then
    (∑ d, qn (ix4 b p h d) * kn (ix4 b k h d) + ∑ d, kr (ix3 b k d) * qr (ix4 b p h d)) *
      Ideal.div 1 (Ideal.sqrt (Ideal.ofBits FTy.f32 1119879168#32))
  else ⊥

/-- The same, as the reference computes it: a choice by the comparison of the chunks' words. -/
def hostScore (qn : (⟨4, ![4, 8192, 8, 64]⟩ : Shape).Idx → EReal) (qr : (⟨4, ![4, 8192, 8, 32]⟩ : Shape).Idx → EReal)
    (kn : (⟨4, ![4, 8192, 8, 64]⟩ : Shape).Idx → EReal) (kr : (⟨3, ![4, 8192, 32]⟩ : Shape).Idx → EReal)
    (b : Fin 4) (p : Fin 8192) (h : Fin 8) (k : Fin 8192) : EReal :=
  Scalar.select (IntOp.cmpi CmpIPredicate.sle (chunkOf k) (chunkOf p))
    ((∑ d, qn (ix4 b p h d) * kn (ix4 b k h d) + ∑ d, kr (ix3 b k d) * qr (ix4 b p h d)) *
      Ideal.div 1 (Ideal.sqrt (Ideal.ofBits FTy.f32 1119879168#32)))
    (Ideal.ofBits FTy.f32 4286578688#32)

/-- The choice is the mask. -/
theorem hostScore_eq (qn : (⟨4, ![4, 8192, 8, 64]⟩ : Shape).Idx → EReal) (qr : (⟨4, ![4, 8192, 8, 32]⟩ : Shape).Idx → EReal)
    (kn : (⟨4, ![4, 8192, 8, 64]⟩ : Shape).Idx → EReal) (kr : (⟨3, ![4, 8192, 32]⟩ : Shape).Idx → EReal)
    (b : Fin 4) (p : Fin 8192) (h : Fin 8) (k : Fin 8192) :
    hostScore qn qr kn kr b p h k = refScore qn qr kn kr b p h k := by
  have hk : k.val / 64 < 128 := by omega
  have hp : p.val / 64 < 128 := by omega
  unfold hostScore refScore
  rw [chunkOf_eq, chunkOf_eq, chunk_le ⟨_, hk⟩ ⟨_, hp⟩, neg_inf_f32]
  by_cases h : k.val / 64 ≤ p.val / 64
  · simp only [h, if_true]; rfl
  · simp only [h, if_false]; rfl

/-- The softmax of a row of scores, weighing a row of values. -/
def attend (t v : Fin 8192 → EReal) : EReal :=
  ∑ k, v k * Ideal.div (Ideal.exp (t k - Finset.univ.fold max ⊥ t)) (∑ j, Ideal.exp (t j - Finset.univ.fold max ⊥ t))

variable (m : (ℓ : Loc nD τ sig) → Buf (Elt Ideal) ℓ) (c : Dev nD)

/-- The queries' nope columns the reference is launched on. -/
abbrev refQn : (⟨4, ![4, 8192, 8, 64]⟩ : Shape).Idx → EReal := m (c.tc.loc main_arg0)
/-- The queries' rope columns the reference is launched on. -/
abbrev refQr : (⟨4, ![4, 8192, 8, 32]⟩ : Shape).Idx → EReal := m (c.tc.loc main_arg1)
/-- The keys' nope columns the reference is launched on. -/
abbrev refKn : (⟨4, ![4, 8192, 8, 64]⟩ : Shape).Idx → EReal := m (c.tc.loc main_arg2)
/-- The keys' rope columns the reference is launched on. -/
abbrev refKr : (⟨3, ![4, 8192, 32]⟩ : Shape).Idx → EReal := m (c.tc.loc main_arg3)
/-- The values the reference is launched on. -/
abbrev refV : (⟨4, ![4, 8192, 8, 64]⟩ : Shape).Idx → EReal := m (c.tc.loc main_arg4)

/-- The chunk of every token. -/
def hostChunks : IVec S8192 32 :=
  select (andi (cmpi .ne (signi (iotaInDim S8192 32 0)) (broadcastInDim S8192 ![] bcast_S_S8192 (signi (id (constantI S_ 32 64#32))))) (cmpi .ne (Host.remsi (iotaInDim S8192 32 0) (broadcastInDim S8192 ![] bcast_S_S8192 (id (constantI S_ 32 64#32)))) (broadcastInDim S8192 ![] bcast_S_S8192 (constantI S_ 32 0#32)))) (subi (Host.divsi (iotaInDim S8192 32 0) (broadcastInDim S8192 ![] bcast_S_S8192 (id (constantI S_ 32 64#32)))) (broadcastInDim S8192 ![] bcast_S_S8192 (constantI S_ 32 1#32))) (Host.divsi (iotaInDim S8192 32 0) (broadcastInDim S8192 ![] bcast_S_S8192 (id (constantI S_ 32 64#32))))

/-- Which key each query sees. -/
def hostMask : IVec S8192x8192 1 :=
  cmpi .sle (broadcastInDim S8192x8192 ![0, 1] bcast_S1x8192_S8192x8192_0_1 (broadcastInDim S1x8192 ![1] bcast_S8192_S1x8192_1 hostChunks))
    (broadcastInDim S8192x8192 ![0, 1] bcast_S8192x1_S8192x8192_0_1 (broadcastInDim S8192x1 ![0] bcast_S8192_S8192x1_0 hostChunks))

/-- The masked scores. -/
def hostScores (q0 : FVec Ideal S4x8192x8x64 .f32) (q1 : FVec Ideal S4x8192x8x32 .f32) (k0 : FVec Ideal S4x8192x8x64 .f32)
    (k1 : FVec Ideal S4x8192x32 .f32) : FVec Ideal S4x8x8192x8192 .f32 :=
  select (broadcastInDim S4x8x8192x8192 ![2, 3] bcast_S8192x8192_S4x8x8192x8192_2_3 hostMask) (mulf (addf (Host.dotGeneral dot_S4x8192x8x64_S4x8192x8x64_S4x8x8192x8192_3_3_1_1_02_02 none q0 k0) (transpose S4x8x8192x8192 [0, 3, 2, 1] (Host.dotGeneral dot_S4x8192x32_S4x8192x8x32_S4x8192x8192x8_2_3_1_12_0_0 none k1 q1) transposes_S4x8192x8192x8_S4x8x8192x8192_0_3_2_1)) (broadcastInDim S4x8x8192x8192 ![] bcast_S_S4x8x8192x8192 (Host.divf (constant S_ .f32 0x3F800000#32) (Host.sqrt (constant S_ .f32 0x42C00000#32))))) (broadcastInDim S4x8x8192x8192 ![] bcast_S_S4x8x8192x8192 (id (constant S_ .f32 0xFF800000#32)))

/-- The greatest score of every row. -/
def hostTop (s : FVec Ideal S4x8x8192x8192 .f32) : FVec Ideal S4x8x8192 .f32 :=
  maximumf (broadcastInDim S4x8x8192 ![] bcast_S_S4x8x8192 (constant S_ .f32 0xFF800000#32)) (Host.reduce FloatOps.maximumf s (constant S_ .f32 0xFF800000#32) reducesTo_S4x8x8192x8192_S4x8x8192_d3 h_S_)

/-- The exponentials of the scores, each less its row's greatest. -/
def hostExp (s : FVec Ideal S4x8x8192x8192 .f32) (t : FVec Ideal S4x8x8192 .f32) : FVec Ideal S4x8x8192x8192 .f32 :=
  Host.exp (subf s (broadcastInDim S4x8x8192x8192 ![0, 1, 2, 3] bcast_S4x8x8192x1_S4x8x8192x8192_0_1_2_3 (broadcastInDim S4x8x8192x1 ![0, 1, 2] bcast_S4x8x8192_S4x8x8192x1_0_1_2 t)))

/-- The sum of every row. -/
def hostSum (e : FVec Ideal S4x8x8192x8192 .f32) : FVec Ideal S4x8x8192 .f32 :=
  Host.reduceAdd e (constant S_ .f32 0x00000000#32) reducesTo_S4x8x8192x8192_S4x8x8192_d3 h_S_

/-- Every entry over its row's number. -/
def hostQuot (e : FVec Ideal S4x8x8192x8192 .f32) (t : FVec Ideal S4x8x8192 .f32) : FVec Ideal S4x8x8192x8192 .f32 :=
  Host.divf e (broadcastInDim S4x8x8192x8192 ![0, 1, 2, 3] bcast_S4x8x8192x1_S4x8x8192x8192_0_1_2_3 (broadcastInDim S4x8x8192x1 ![0, 1, 2] bcast_S4x8x8192_S4x8x8192x1_0_1_2 t))

/-- The values weighted by every row, laid out by tokens. -/
def hostOut (v : FVec Ideal S4x8192x8x64 .f32) (w : FVec Ideal S4x8x8192x8192 .f32) : FVec Ideal S4x8192x512 .bf16 :=
  truncf .bf16 (shapeCast _ (transpose S4x8192x8x64 [0, 3, 1, 2] (Host.dotGeneral dot_S4x8192x8x64_S4x8x8192x8192_S4x8x64x8192_1_3_3_2_02_01 none v w) transposes_S4x8x64x8192_S4x8192x8x64_0_3_1_2) shapeCasts_S4x8192x8x64_S4x8192x512) bitsLt_bf16_f32

variable (q0 : FVec Ideal S4x8192x8x64 .f32) (q1 : FVec Ideal S4x8192x8x32 .f32) (k0 : FVec Ideal S4x8192x8x64 .f32)
  (k1 : FVec Ideal S4x8192x32 .f32) (v : FVec Ideal S4x8192x8x64 .f32) (s : FVec Ideal S4x8x8192x8192 .f32)
  (t : FVec Ideal S4x8x8192 .f32)

/-- The mask at a query and a key compares their chunks. -/
theorem hostMask_apply (p k : Fin 8192) : hostMask (ix2 p k) = IntOp.cmpi CmpIPredicate.sle (chunkOf k) (chunkOf p) := by
  unfold hostMask hostChunks
  pointwise
  rfl

/-- A masked score at a head, a query and a key. -/
theorem hostScores_apply (b : Fin 4) (h : Fin 8) (p k : Fin 8192) :
    hostScores q0 q1 k0 k1 (ix4 b h p k) = hostScore q0 q1 k0 k1 b p h k := by
  unfold hostScores
  pointwise
  rw [hostMask_apply]
  rfl

/-- A row of scores is the array's last axis. -/
theorem rows_reduce : S4x8x8192x8192.Reduces [3] S4x8x8192 := by decide

/-- Key `k` of a row. -/
theorem rows_lift (b : Fin 4) (h : Fin 8) (p k : Fin 8192) : rows_reduce.lift (ix3 b h p) k = ix4 b h p k := by
  funext a
  refine Fin.ext ?_
  match a with
  | ⟨0, _⟩ => rfl
  | ⟨1, _⟩ => rfl
  | ⟨2, _⟩ => rfl
  | ⟨3, _⟩ => rfl

/-- The greatest score of every row, as a reduction from the least value. -/
theorem rows_max : Host.reduce FloatOps.maximumf s (constant S_ .f32 0xFF800000#32) reducesTo_S4x8x8192x8192_S4x8x8192_d3 h_S_ =
    multiReduction .maximumf [3] S4x8x8192 s 0xFF800000#32 rows_reduce (.inl rfl) rfl :=
  hostReduce_maximumf_eq_multiReduction s 0xFF800000#32 reducesTo_S4x8x8192x8192_S4x8x8192_d3 h_S_ rows_reduce (.inl rfl) rfl

/-- The least value takes no part in a maximum. -/
theorem max_floor (x : FVec Ideal S4x8x8192 .f32) (b : Fin 4) (h : Fin 8) (p : Fin 8192) :
    maximumf (broadcastInDim S4x8x8192 ![] bcast_S_S4x8x8192 (constant S_ .f32 0xFF800000#32)) x (ix3 b h p) = x (ix3 b h p) := by
  pointwise
  rw [neg_inf_f32, max_eq_right bot_le]

/-- The greatest score of a head's query. -/
theorem hostTop_apply (b : Fin 4) (h : Fin 8) (p : Fin 8192) :
    hostTop s (ix3 b h p) = Finset.univ.fold max ⊥ fun k : Fin 8192 => s (ix4 b h p k) := by
  unfold hostTop
  rw [rows_max, max_floor]
  refine (Ideal.multiReduction_maximumf_single s _ rows_reduce (.inl rfl) rfl (ix3 b h p)).trans ?_
  have e : (s ∘ rows_reduce.lift (ix3 b h p)) = fun k : Fin 8192 => s (ix4 b h p k) := funext fun k => congrArg s (rows_lift b h p k)
  have e' : FloatOps.ofBits (F := Ideal) .f32 0xFF800000#32 = (⊥ : EReal) := neg_inf_f32
  rw [e]
  exact congrArg (fun z : EReal => Finset.fold max z (fun k : Fin 8192 => (s (ix4 b h p k) : EReal)) Finset.univ) e'

/-- The exponential of a score less the greatest of its row. -/
theorem hostExp_apply (b : Fin 4) (h : Fin 8) (p k : Fin 8192) :
    hostExp s t (ix4 b h p k) = Ideal.exp (s (ix4 b h p k) - t (ix3 b h p)) := by
  unfold hostExp
  pointwise

/-- The sum of a row's exponentials. -/
theorem hostSum_apply (b : Fin 4) (h : Fin 8) (p : Fin 8192) :
    hostSum s (ix3 b h p) = ∑ k : Fin 8192, s (ix4 b h p k) := by
  unfold hostSum
  pointwise

/-- A weight: the exponential over its row's sum. -/
theorem hostQuot_apply (b : Fin 4) (h : Fin 8) (p k : Fin 8192) :
    hostQuot s t (ix4 b h p k) = Ideal.div (s (ix4 b h p k)) (t (ix3 b h p)) := by
  unfold hostQuot
  pointwise

/-- The weighted sum of the values, at a query and a column of the result. -/
theorem hostOut_apply (b : Fin 4) (p : Fin 8192) (y : Fin 512) :
    hostOut v s (ix3 b p y) = ∑ k : Fin 8192, v (ix4 b k ⟨y / 64, by omega⟩ ⟨y % 64, by omega⟩) * s (ix4 b ⟨y / 64, by omega⟩ p k) := by
  unfold hostOut
  pointwise

/-- The reference's result by its stages. -/
theorem result_stages : Cert.ReferenceIdeal.Value.res_main_v30 m c =
    hostOut (refV m c) (hostQuot (hostExp (hostScores (refQn m c) (refQr m c) (refKn m c) (refKr m c)) (hostTop (hostScores (refQn m c) (refQr m c) (refKn m c) (refKr m c))))
      (hostSum (hostExp (hostScores (refQn m c) (refQr m c) (refKn m c) (refKr m c)) (hostTop (hostScores (refQn m c) (refQr m c) (refKn m c) (refKr m c)))))) := rfl

/-- The reference's result at an index: the masked scores' softmax, weighing the values. -/
theorem reference_apply (b : Fin 4) (p : Fin 8192) (y : Fin 512) :
    (Cert.ReferenceIdeal.Value.res_main_v30 m c : (⟨3, ![4, 8192, 512]⟩ : Shape).Idx → EReal) (ix3 b p y) =
      attend (refScore (refQn m c) (refQr m c) (refKn m c) (refKr m c) b p ⟨y / 64, by omega⟩)
        (fun k => refV m c (ix4 b k ⟨y / 64, by omega⟩ ⟨y % 64, by omega⟩)) := by
  rw [result_stages, hostOut_apply]
  simp only [hostQuot_apply, hostSum_apply, hostExp_apply, hostTop_apply, hostScores_apply, hostScore_eq]
  rfl

end Cert.Mla
-- ==== Proof.Equation.lean ====
/- The value of the attention: from real queries and keys, the kernel's result is the reference's, entry by entry. -/
module

public import proofs.«01_k».proof.Proof.Finite
public import proofs.«01_k».proof.Proof.Softmax
public import proofs.«01_k».proof.Proof.Attention
public import proofs.«01_k».proof.Proof.Gen.KernelIdeal.Value
public import proofs.«01_k».proof.Proof.Gen.ReferenceIdeal.Run

@[expose] public section

set_option maxRecDepth 16384

noncomputable section

namespace Cert.Mla

open Finset
open Idealize.ShloMosaic Idealize.SL.Sem

/-- The reference's scale, a square root on the host. -/
theorem ref_scale : Ideal.div 1 (Ideal.sqrt (Ideal.ofBits FTy.f32 1119879168#32)) = ((1 / Real.sqrt 96 : ℝ) : EReal) := by
  have h : Real.sqrt 96 ≠ 0 := by positivity
  rw [ninety_six, Ideal.sqrt_coe, if_neg (by norm_num), Ideal.div_coe h, one_mul]

/-- The kernel's scale in the base of two is the reference's in the natural base. -/
theorem scale_log : scale * Real.log 2 = 1 / Real.sqrt 96 := by
  have h : Real.log 2 ≠ 0 := (Real.log_pos (by norm_num)).ne'
  have h' : Real.sqrt 96 ≠ 0 := by positivity
  unfold scale
  field_simp

variable {m : (ℓ : Loc Cert.KernelIdeal.nD Cert.KernelIdeal.τ Cert.KernelIdeal.sig) → Buf (Elt Ideal) ℓ} {c : Dev Cert.KernelIdeal.nD}

/-- The reference's score of a query and a key is the kernel's, changed from the base of two to the natural one. -/
theorem refScore_eq (b : Fin 4) (i : Fin 16) (h : Fin 8) (x : Fin 512) (κ : Fin 8192) :
    refScore (qn m c) (qr m c) (kn m c) (kr m c) b ⟨512 * i + x, by omega⟩ h κ
      = score (qBlock m c b i) (kBlock m c b) i h x κ * ((Real.log 2 : ℝ) : EReal) := by
  rw [score_at, refScore, ref_scale]
  by_cases hv : κ.val / 64 ≤ (512 * i.val + x.val) / 64
  · rw [if_pos hv, if_pos hv, mul_assoc, ← EReal.coe_mul, scale_log]
    rfl
  · rw [if_neg hv, if_neg hv, EReal.bot_mul_coe_of_pos (Real.log_pos (by norm_num))]

/-- A head's row of a block: its weighted sum of the values over its sum of weights is the reference's softmax. -/
theorem block_row (H : RealArgs m c) (b : Fin 4) (i : Fin 16) (x : Fin 512) (h : Fin 8) (d : Fin 64) :
    blockOut (qBlock m c b i) (kBlock m c b) (vBlock m c b) i x h d
      = attend (refScore (qn m c) (qr m c) (kn m c) (kr m c) b ⟨512 * i + x, by omega⟩ h) (fun k => vals m c (ix4 b k h d)) := by
  have hn : 512 * i.val + 512 ≤ 8192 := by omega
  have ones : wsum (score (qBlock m c b i) (kBlock m c b) i h x) (value (vBlock m c b) h 64) (512 * i + 512)
      = wsum (score (qBlock m c b i) (kBlock m c b) i h x) (fun _ => 1) (512 * i + 512) :=
    sum_congr rfl fun k hk => by
      have : k < 8192 := by have := mem_range.1 hk; omega
      rw [one_at m c b h ⟨k, this⟩]
  have unmasked : score (qBlock m c b i) (kBlock m c b) i h x (512 * i.val + x.val) ≠ ⊥ := by
    have hp : 512 * i.val + x.val < 8192 := by omega
    have e := score_at m c b i h x ⟨512 * i + x, hp⟩
    obtain ⟨r, hr⟩ := real_mul (H.raw b ⟨512 * i + x, hp⟩ h ⟨512 * i + x, hp⟩) ⟨scale, rfl⟩
    rw [if_pos (le_refl _), hr] at e
    exact e.trans_ne (EReal.coe_ne_bot r)
  rw [blockOut, ones, softmax_eq _ hn (H.score_ne b i h x)
    (fun k hk _ => if_neg (by omega)) (512 * i + x) (by omega) unmasked _ (refScore_eq b i h x)]
  refine sum_congr rfl fun k _ => ?_
  rw [value_at]

/-- Every entry the kernel leaves is the reference's. -/
theorem out_eq (H : RealArgs m c) (b : Fin 4) (p : Fin 8192) (y : Fin 512) :
    outAt m c b p y = attend (refScore (qn m c) (qr m c) (kn m c) (kr m c) b p ⟨y / 64, by omega⟩)
      (fun k => vals m c (ix4 b k ⟨y / 64, by omega⟩ ⟨y % 64, by omega⟩)) := by
  refine (block_row H b ⟨p / 512, by omega⟩ ⟨p % 512, by omega⟩ ⟨y / 64, by omega⟩ ⟨y % 64, by omega⟩).trans ?_
  have e : (⟨512 * (p.val / 512) + p.val % 512, by omega⟩ : Fin 8192) = p := Fin.ext (by show 512 * (p.val / 512) + p.val % 512 = p.val; omega)
  exact congrArg (fun p => attend (refScore (qn m c) (qr m c) (kn m c) (kr m c) b p ⟨y / 64, by omega⟩) _) e

/-- The kernel and the reference, launched on the same real queries and keys and the same values, leave equal results and
    their arguments as they were. -/
theorem attention_eq : Cert.algebraic_KernelIdeal_ReferenceIdeal_pre_finite_scores
    (hKernelIdeal := Cert.KernelIdeal.Gen.facts) (hReferenceIdeal := Cert.ReferenceIdeal.Gen.facts)
    (hPre_finite_scores := Cert.Pre_finite_scores.Gen.facts) := by
  intro m g m' g' hpre hagree
  have H := fun c => real_args m hpre c
  refine ⟨fun c => (Cert.KernelIdeal.Gen.dats m 0 c).arrAt 3 Cert.KernelIdeal.cfg0.N, Cert.KernelIdeal.Value.run_blocks m g,
    (θ_run _ _ _).mono (fun r h c => ⟨(h c).1.trans ?_, (h c).2⟩) (Cert.ReferenceIdeal.Value.run m' g')⟩
  obtain ⟨h0, h1, h2, h3, h4⟩ := hagree c
  refine Eq.trans (funext fun j => ?_) (result_eq m c fun b i h x κ => (H c).score_ne b i h x κ).symm
  refine (congrArg _ (eq_ix3 (n0 := 4) (n1 := 8192) (n2 := 512) j)).trans ?_
  refine (reference_apply m' c (j 0) (j 1) (j 2)).trans ?_
  refine Eq.trans ?_ (out_eq (H c) (j 0) (j 1) (j 2)).symm
  unfold refQn refQr refKn refKr refV
  rw [h0, h1, h2, h3, h4]

end Cert.Mla
-- ==== Proof.ExpertsRun.lean ====
/- The expert kernel's body on one row block, path by path: the block whose expert's weights are loaded into the
   scratch buffers first, the block that finds them there, and the block past the used ones, which is zeroed. -/
module

public import proofs.«01_k».proof.Defs
public import proofs.«01_k».proof.Proof.Gen.Kernel2Ideal
public import proofs.«01_k».proof.Proof.Gen.Kernel2Ideal.Launch
public import proofs.«01_k».proof.Proof.Gen.Kernel2Ideal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The tables and the scratch buffers, whole. -/
abbrev tableE : Memref sig .tc .smem S288 .i32 := Memref.whole main_v19
abbrev tableN : Memref sig .tc .smem S1 .i32 := Memref.whole main_v21
abbrev scratchG : Memref sig .tc .vmem S1024x2048 .bf16 := Memref.whole cc0_scratch0
abbrev scratchD : Memref sig .tc .vmem S1024x1024 .bf16 := Memref.whole cc0_scratch1

/-- The number of used blocks, the block's expert and the expert of the block before, as the body reads them. -/
abbrev usedWord (T1 : S1.Idx → Elt F .i32) : Elt F .i32 :=
  View.readAt (Elt F) tableN.view (Rect.unit (s := S1) ![0] S1.size inb_S1_S1_0).toLoadRect T1 (Shape.Idx.first (numel1_S1.symm ▸ Nat.one_pos))
abbrev expertWord (i : grid0.Coords) (T0 : S288.Idx → Elt F .i32) : Elt F .i32 :=
  View.readAt (Elt F) tableE.view (Rect.unit (s := S288) (k0_off1 i) S1.size (k0_off1_inb i)).toLoadRect T0 (Shape.Idx.first (numel1_S1.symm ▸ Nat.one_pos))
abbrev beforeWord (i : grid0.Coords) (T0 : S288.Idx → Elt F .i32) : Elt F .i32 :=
  View.readAt (Elt F) tableE.view (Rect.unit (s := S288) (k0_off2 i) S1.size (k0_off2_inb i)).toLoadRect T0 (Shape.Idx.first (numel1_S1.symm ▸ Nat.one_pos))

/-- Whether the body loads the expert's weights. -/
abbrev loadBit (i : grid0.Coords) (T0 : S288.Idx → Elt F .i32) (T1 : S1.Idx → Elt F .i32) : BitVec 1 :=
  Scalar.cmpi .ne (Scalar.extui (Scalar.andi (Scalar.cmpi .slt (BitVec.ofNat 32 (i 0).val) (usedWord T1))
    (Scalar.ori (Scalar.cmpi .eq (BitVec.ofNat 32 (i 0).val) 0#32) (Scalar.cmpi .ne (expertWord i T0) (beforeWord i T0))))) 0#32

set_option backward.proofsInPublic true in
set_option maxHeartbeats 8000000 in
/-- A used block whose expert is another than the block before's. -/
noncomputable def runLoad (c : Dev nD) (i : grid0.Coords) (arg3 : Memref sig .tc .vmem S512x512 .i32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole)
    (arg7 : Memref sig .tc .vmem S1x1x1024 .f32) (harg7 : arg7.IsWhole) (arg8 : Memref sig .tc .vmem S512x1024 .bf16) (harg8 : arg8.IsWhole)
    (T0 : S288.Idx → Elt F .i32) (T1 : S1.Idx → Elt F .i32)
    (x0 : S512x512.Idx → Elt F .i32) (x1 : S1x1024x2048.Idx → Elt F .f32) (x2 : S1x1x2048.Idx → Elt F .f32) (x3 : S1x1024x1024.Idx → Elt F .f32) (x4 : S1x1x1024.Idx → Elt F .f32)
    (hc0 : loadBit i T0 T1 = 1#1) (k0_h2 : k0_cond2 i (usedWord T1) = 1#1) (k0_h3 : ¬(k0_cond3 i (usedWord T1) = 1#1)) :
    Σ' (out0 : List (View.Piece (Elt F) S512x1024 .bf16)) (out1 : Buf (Elt F) ((c : Thread nD τ).loc cc0_scratch0)), { out2 : Buf (Elt F) ((c : Thread nD τ).loc cc0_scratch1) //
      ∀ (xa0 : Buf (Elt F) ((c : Thread nD τ).loc cc0_scratch0)) (xa1 : Buf (Elt F) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tableE.view.loc (c : Thread nD τ) ↦{fullShare.right} T0)
          ∗ (tableN.view.loc (c : Thread nD τ) ↦{fullShare.right} T1)
          ∗ (∃ d, owns (c : Thread nD τ) arg8 fullShare d)
          ∗ (scratchG.view.loc (c : Thread nD τ) ↦{fullShare} xa0)
          ∗ (scratchD.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tableE.view.loc (c : Thread nD τ) ↦{fullShare.right} T0)
              ∗ (tableN.view.loc (c : Thread nD τ) ↦{fullShare.right} T1)
              ∗ (∃ f, arg8.view.loc (c : Thread nD τ) ↦[arg8.view.set]{fullShare} arg8.view.writes (Elt F) f out0)
              ∗ (scratchG.view.loc (c : Thread nD τ) ↦{fullShare} out1)
              ∗ (scratchD.view.loc (c : Thread nD τ) ↦{fullShare} out2)) -∗ K ⟨⟩))
          ⊢ wp frame (wpE (defs₀ (F := F)) Variants.none c none) Set.univ (cc0_experts i tableE (Memref.isWhole_whole _) tableN (Memref.isWhole_whole _) arg3 harg3 arg4 harg4 arg5 harg5 arg6 harg6 arg7 harg7 arg8 harg8 scratchG (Memref.isWhole_whole _) scratchD (Memref.isWhole_whole _)) K } :=
  ⟨_, _, _, fun xa0 xa1 K => by
    unfold owns
    rw [cc0_experts_eq_skeleton]; unfold cc0_experts_skel
    iintro ⟨H0, H1, H2, H3, H4, HT0, HT1, ⟨%d5, %f5, -, HO5⟩, HS0, HS1, Hk⟩
    have hS0 : scratchG.IsWhole := Memref.isWhole_whole _
    have hS1 : scratchD.IsWhole := Memref.isWhole_whole _
    have hT0 : tableE.IsWhole := Memref.isWhole_whole _
    have hT1 : tableN.IsWhole := Memref.isWhole_whole _
    sl_exec! (disch := first | (guard_target = Scalar.cmpi = _; exact hc0) | (guard_target = k0_cond2 _ _ = _; exact k0_h2) | (guard_target = ¬(k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

/-- The pieces it writes tile the block. -/
theorem coverLoad (c : Dev nD) (i : grid0.Coords) (arg3 : Memref sig .tc .vmem S512x512 .i32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole)
    (arg7 : Memref sig .tc .vmem S1x1x1024 .f32) (harg7 : arg7.IsWhole) (arg8 : Memref sig .tc .vmem S512x1024 .bf16) (harg8 : arg8.IsWhole)
    (T0 : S288.Idx → Elt F .i32) (T1 : S1.Idx → Elt F .i32)
    (x0 : S512x512.Idx → Elt F .i32) (x1 : S1x1024x2048.Idx → Elt F .f32) (x2 : S1x1x2048.Idx → Elt F .f32) (x3 : S1x1024x1024.Idx → Elt F .f32) (x4 : S1x1x1024.Idx → Elt F .f32)
    (hc0 : loadBit i T0 T1 = 1#1) (k0_h2 : k0_cond2 i (usedWord T1) = 1#1) (k0_h3 : ¬(k0_cond3 i (usedWord T1) = 1#1)) (y : S512x1024.Idx) :
    ∃ pc ∈ (runLoad c i arg3 harg3 arg4 harg4 arg5 harg5 arg6 harg6 arg7 harg7 arg8 harg8 T0 T1 x0 x1 x2 x3 x4 hc0 k0_h2 k0_h3).1, y ∈ pc.1.set :=
  View.cover_of_tiledL (runLoad c i arg3 harg3 arg4 harg4 arg5 harg5 arg6 harg6 arg7 harg7 arg8 harg8 T0 T1 x0 x1 x2 x3 x4 hc0 k0_h2 k0_h3).1 S256x1024.size (by sl_kernel_rfl) y

set_option backward.proofsInPublic true in
set_option maxHeartbeats 8000000 in
/-- A used block of the same expert as the block before. -/
noncomputable def runReuse (c : Dev nD) (i : grid0.Coords) (arg3 : Memref sig .tc .vmem S512x512 .i32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole)
    (arg7 : Memref sig .tc .vmem S1x1x1024 .f32) (harg7 : arg7.IsWhole) (arg8 : Memref sig .tc .vmem S512x1024 .bf16) (harg8 : arg8.IsWhole)
    (T0 : S288.Idx → Elt F .i32) (T1 : S1.Idx → Elt F .i32)
    (x0 : S512x512.Idx → Elt F .i32) (x1 : S1x1024x2048.Idx → Elt F .f32) (x2 : S1x1x2048.Idx → Elt F .f32) (x3 : S1x1024x1024.Idx → Elt F .f32) (x4 : S1x1x1024.Idx → Elt F .f32)
    (xa0 : Buf (Elt F) ((c : Thread nD τ).loc cc0_scratch0)) (xa1 : Buf (Elt F) ((c : Thread nD τ).loc cc0_scratch1))
    (hc0 : ¬(loadBit i T0 T1 = 1#1)) (k0_h2 : k0_cond2 i (usedWord T1) = 1#1) (k0_h3 : ¬(k0_cond3 i (usedWord T1) = 1#1)) :
    Σ' (out0 : List (View.Piece (Elt F) S512x1024 .bf16)) (out1 : Buf (Elt F) ((c : Thread nD τ).loc cc0_scratch0)), { out2 : Buf (Elt F) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tableE.view.loc (c : Thread nD τ) ↦{fullShare.right} T0)
          ∗ (tableN.view.loc (c : Thread nD τ) ↦{fullShare.right} T1)
          ∗ (∃ d, owns (c : Thread nD τ) arg8 fullShare d)
          ∗ (scratchG.view.loc (c : Thread nD τ) ↦{fullShare} xa0)
          ∗ (scratchD.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tableE.view.loc (c : Thread nD τ) ↦{fullShare.right} T0)
              ∗ (tableN.view.loc (c : Thread nD τ) ↦{fullShare.right} T1)
              ∗ (∃ f, arg8.view.loc (c : Thread nD τ) ↦[arg8.view.set]{fullShare} arg8.view.writes (Elt F) f out0)
              ∗ (scratchG.view.loc (c : Thread nD τ) ↦{fullShare} out1)
              ∗ (scratchD.view.loc (c : Thread nD τ) ↦{fullShare} out2)) -∗ K ⟨⟩))
          ⊢ wp frame (wpE (defs₀ (F := F)) Variants.none c none) Set.univ (cc0_experts i tableE (Memref.isWhole_whole _) tableN (Memref.isWhole_whole _) arg3 harg3 arg4 harg4 arg5 harg5 arg6 harg6 arg7 harg7 arg8 harg8 scratchG (Memref.isWhole_whole _) scratchD (Memref.isWhole_whole _)) K } :=
  ⟨_, _, _, fun K => by
    unfold owns
    rw [cc0_experts_eq_skeleton]; unfold cc0_experts_skel
    iintro ⟨H0, H1, H2, H3, H4, HT0, HT1, ⟨%d5, %f5, -, HO5⟩, HS0, HS1, Hk⟩
    have hS0 : scratchG.IsWhole := Memref.isWhole_whole _
    have hS1 : scratchD.IsWhole := Memref.isWhole_whole _
    have hT0 : tableE.IsWhole := Memref.isWhole_whole _
    have hT1 : tableN.IsWhole := Memref.isWhole_whole _
    sl_exec! (disch := first | (guard_target = ¬(Scalar.cmpi = _); exact hc0) | (guard_target = k0_cond2 _ _ = _; exact k0_h2) | (guard_target = ¬(k0_cond3 _ _ = _); exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

/-- The pieces it writes tile the block. -/
theorem coverReuse (c : Dev nD) (i : grid0.Coords) (arg3 : Memref sig .tc .vmem S512x512 .i32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole)
    (arg7 : Memref sig .tc .vmem S1x1x1024 .f32) (harg7 : arg7.IsWhole) (arg8 : Memref sig .tc .vmem S512x1024 .bf16) (harg8 : arg8.IsWhole)
    (T0 : S288.Idx → Elt F .i32) (T1 : S1.Idx → Elt F .i32)
    (x0 : S512x512.Idx → Elt F .i32) (x1 : S1x1024x2048.Idx → Elt F .f32) (x2 : S1x1x2048.Idx → Elt F .f32) (x3 : S1x1024x1024.Idx → Elt F .f32) (x4 : S1x1x1024.Idx → Elt F .f32)
    (xa0 : Buf (Elt F) ((c : Thread nD τ).loc cc0_scratch0)) (xa1 : Buf (Elt F) ((c : Thread nD τ).loc cc0_scratch1))
    (hc0 : ¬(loadBit i T0 T1 = 1#1)) (k0_h2 : k0_cond2 i (usedWord T1) = 1#1) (k0_h3 : ¬(k0_cond3 i (usedWord T1) = 1#1)) (y : S512x1024.Idx) :
    ∃ pc ∈ (runReuse c i arg3 harg3 arg4 harg4 arg5 harg5 arg6 harg6 arg7 harg7 arg8 harg8 T0 T1 x0 x1 x2 x3 x4 xa0 xa1 hc0 k0_h2 k0_h3).1, y ∈ pc.1.set :=
  View.cover_of_tiledL (runReuse c i arg3 harg3 arg4 harg4 arg5 harg5 arg6 harg6 arg7 harg7 arg8 harg8 T0 T1 x0 x1 x2 x3 x4 xa0 xa1 hc0 k0_h2 k0_h3).1 S256x1024.size (by sl_kernel_rfl) y

set_option backward.proofsInPublic true in
set_option maxHeartbeats 8000000 in
/-- A block past the used ones. -/
noncomputable def runZero (c : Dev nD) (i : grid0.Coords) (arg3 : Memref sig .tc .vmem S512x512 .i32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole)
    (arg7 : Memref sig .tc .vmem S1x1x1024 .f32) (harg7 : arg7.IsWhole) (arg8 : Memref sig .tc .vmem S512x1024 .bf16) (harg8 : arg8.IsWhole)
    (T0 : S288.Idx → Elt F .i32) (T1 : S1.Idx → Elt F .i32)
    (x0 : S512x512.Idx → Elt F .i32) (x1 : S1x1024x2048.Idx → Elt F .f32) (x2 : S1x1x2048.Idx → Elt F .f32) (x3 : S1x1024x1024.Idx → Elt F .f32) (x4 : S1x1x1024.Idx → Elt F .f32)
    (xa0 : Buf (Elt F) ((c : Thread nD τ).loc cc0_scratch0)) (xa1 : Buf (Elt F) ((c : Thread nD τ).loc cc0_scratch1))
    (hc0 : ¬(loadBit i T0 T1 = 1#1)) (k0_h2 : ¬(k0_cond2 i (usedWord T1) = 1#1)) (k0_h3 : k0_cond3 i (usedWord T1) = 1#1) :
    Σ' (out0 : List (View.Piece (Elt F) S512x1024 .bf16)) (out1 : Buf (Elt F) ((c : Thread nD τ).loc cc0_scratch0)), { out2 : Buf (Elt F) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (arg7.view.loc (c : Thread nD τ) ↦[arg7.view.set]{fullShare} arg7.view.rep x4)
          ∗ (tableE.view.loc (c : Thread nD τ) ↦{fullShare.right} T0)
          ∗ (tableN.view.loc (c : Thread nD τ) ↦{fullShare.right} T1)
          ∗ (∃ d, owns (c : Thread nD τ) arg8 fullShare d)
          ∗ (scratchG.view.loc (c : Thread nD τ) ↦{fullShare} xa0)
          ∗ (scratchD.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (arg7.view.loc (c : Thread nD τ) ↦[arg7.view.set]{fullShare} arg7.view.rep x4)
              ∗ (tableE.view.loc (c : Thread nD τ) ↦{fullShare.right} T0)
              ∗ (tableN.view.loc (c : Thread nD τ) ↦{fullShare.right} T1)
              ∗ (∃ f, arg8.view.loc (c : Thread nD τ) ↦[arg8.view.set]{fullShare} arg8.view.writes (Elt F) f out0)
              ∗ (scratchG.view.loc (c : Thread nD τ) ↦{fullShare} out1)
              ∗ (scratchD.view.loc (c : Thread nD τ) ↦{fullShare} out2)) -∗ K ⟨⟩))
          ⊢ wp frame (wpE (defs₀ (F := F)) Variants.none c none) Set.univ (cc0_experts i tableE (Memref.isWhole_whole _) tableN (Memref.isWhole_whole _) arg3 harg3 arg4 harg4 arg5 harg5 arg6 harg6 arg7 harg7 arg8 harg8 scratchG (Memref.isWhole_whole _) scratchD (Memref.isWhole_whole _)) K } :=
  ⟨_, _, _, fun K => by
    unfold owns
    rw [cc0_experts_eq_skeleton]; unfold cc0_experts_skel
    iintro ⟨H0, H1, H2, H3, H4, HT0, HT1, ⟨%d5, %f5, -, HO5⟩, HS0, HS1, Hk⟩
    have hS0 : scratchG.IsWhole := Memref.isWhole_whole _
    have hS1 : scratchD.IsWhole := Memref.isWhole_whole _
    have hT0 : tableE.IsWhole := Memref.isWhole_whole _
    have hT1 : tableN.IsWhole := Memref.isWhole_whole _
    sl_exec! (disch := first | (guard_target = ¬(Scalar.cmpi = _); exact hc0) | (guard_target = ¬(k0_cond2 _ _ = _); exact k0_h2) | (guard_target = k0_cond3 _ _ = _; exact k0_h3))
    sl_step
    iapply Hk
    isplitl [H0]; · iexact H0
    isplitl [H1]; · iexact H1
    isplitl [H2]; · iexact H2
    isplitl [H3]; · iexact H3
    isplitl [H4]; · iexact H4
    isplitl [HT0]; · iexact HT0
    isplitl [HT1]; · iexact HT1
    isplitl [HO5]; · iexists _; iexact HO5
    isplitl [HS0]; · iexact HS0
    iexact HS1⟩

/-- The pieces it writes tile the block. -/
theorem coverZero (c : Dev nD) (i : grid0.Coords) (arg3 : Memref sig .tc .vmem S512x512 .i32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole)
    (arg7 : Memref sig .tc .vmem S1x1x1024 .f32) (harg7 : arg7.IsWhole) (arg8 : Memref sig .tc .vmem S512x1024 .bf16) (harg8 : arg8.IsWhole)
    (T0 : S288.Idx → Elt F .i32) (T1 : S1.Idx → Elt F .i32)
    (x0 : S512x512.Idx → Elt F .i32) (x1 : S1x1024x2048.Idx → Elt F .f32) (x2 : S1x1x2048.Idx → Elt F .f32) (x3 : S1x1024x1024.Idx → Elt F .f32) (x4 : S1x1x1024.Idx → Elt F .f32)
    (xa0 : Buf (Elt F) ((c : Thread nD τ).loc cc0_scratch0)) (xa1 : Buf (Elt F) ((c : Thread nD τ).loc cc0_scratch1))
    (hc0 : ¬(loadBit i T0 T1 = 1#1)) (k0_h2 : ¬(k0_cond2 i (usedWord T1) = 1#1)) (k0_h3 : k0_cond3 i (usedWord T1) = 1#1) (y : S512x1024.Idx) :
    ∃ pc ∈ (runZero c i arg3 harg3 arg4 harg4 arg5 harg5 arg6 harg6 arg7 harg7 arg8 harg8 T0 T1 x0 x1 x2 x3 x4 xa0 xa1 hc0 k0_h2 k0_h3).1, y ∈ pc.1.set :=
  View.cover_of_tiledL (runZero c i arg3 harg3 arg4 harg4 arg5 harg5 arg6 harg6 arg7 harg7 arg8 harg8 T0 T1 x0 x1 x2 x3 x4 xa0 xa1 hc0 k0_h2 k0_h3).1 S512x1024.size (by sl_kernel_rfl) y

end Cert.Experts

end
-- ==== Proof.ExpertsBlock.lean ====
/- What the expert kernel's body leaves in the block, as a function of the block's rows, the expert's weights rounded in
   the scratch buffers, and the expert's biases. -/
module

public import proofs.«01_k».proof.Proof.ExpertsRun
public import Idealize.ShloMosaic.Lib.VecWindow
public import Idealize.ShloMosaic.Lib.Pipeline.ValueKit

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- Half a block's rows through the expert. -/
def half (x : IVec S256x512 32) (G : S1024x2048.Idx → Elt F .bf16) (b : S1x1x2048.Idx → Elt F .f32)
    (D : S1024x1024.Idx → Elt F .bf16) (b' : S1x1x1024.Idx → Elt F .f32) : FVec F S256x1024 .bf16 :=
  let lo : Vec F S512x2048 .bf16 := View.ld (Val := Elt F) G (Rect.unit (s := S1024x2048) ![0, 0] S512x2048.size inb_S1024x2048_S512x2048_0_0)
  let hi : Vec F S512x2048 .bf16 := View.ld (Val := Elt F) G (Rect.unit (s := S1024x2048) ![512, 0] S512x2048.size inb_S1024x2048_S512x2048_512_0)
  k0_pay9 (k0_pay5 x lo hi b) D b'

/-- A block's rows through the expert, half by half. -/
def block (x : S512x512.Idx → Elt F .i32) (G : S1024x2048.Idx → Elt F .bf16) (b : S1x1x2048.Idx → Elt F .f32)
    (D : S1024x1024.Idx → Elt F .bf16) (b' : S1x1x1024.Idx → Elt F .f32) : S512x1024.Idx → Elt F .bf16 :=
  View.canon (Val := Elt F) (s := S512x1024) (e := .bf16)
    [⟨Rect.unit (s := S512x1024) ![256, 0] S256x1024.size inb_S512x1024_S256x1024_256_0,
      half (View.ld (Val := Elt F) (e' := .i32) x (Rect.unit (s := S512x512) ![256, 0] S256x512.size inb_S512x512_S256x512_256_0)) G b D b'⟩,
     ⟨Rect.unit (s := S512x1024) ![0, 0] S256x1024.size inb_S512x1024_S256x1024_0_0,
      half (View.ld (Val := Elt F) (e' := .i32) x (Rect.unit (s := S512x512) ![0, 0] S256x512.size inb_S512x512_S256x512_0_0)) G b D b'⟩]

section
variable (c : Dev nD) (i : grid0.Coords) (arg3 : Memref sig .tc .vmem S512x512 .i32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole)
    (arg7 : Memref sig .tc .vmem S1x1x1024 .f32) (harg7 : arg7.IsWhole) (arg8 : Memref sig .tc .vmem S512x1024 .bf16) (harg8 : arg8.IsWhole)
    (T0 : S288.Idx → Elt F .i32) (T1 : S1.Idx → Elt F .i32)
    (x0 : S512x512.Idx → Elt F .i32) (x1 : S1x1024x2048.Idx → Elt F .f32) (x2 : S1x1x2048.Idx → Elt F .f32) (x3 : S1x1024x1024.Idx → Elt F .f32) (x4 : S1x1x1024.Idx → Elt F .f32)

/-- A block of another expert than the one before's: the weights are rounded into the scratch buffers, -/
theorem load_gate (hc0 : loadBit i T0 T1 = 1#1) (k0_h2 : k0_cond2 i (usedWord T1) = 1#1) (k0_h3 : ¬(k0_cond3 i (usedWord T1) = 1#1)) : (runLoad c i arg3 harg3 arg4 harg4 arg5 harg5 arg6 harg6 arg7 harg7 arg8 harg8 T0 T1 x0 x1 x2 x3 x4 hc0 k0_h2 k0_h3).2.1 = k0_pay1 x1 := by
  unfold runLoad
  dsimp only
  unfold runLoad.sl.HS0_1
  rw [← View.read_whole (Val := Elt F) cc0_scratch0 ((View.whole cc0_scratch0).writes (Elt F) _ _)]
  refine (View.read_writes_junk_eq_canon (Val := Elt F) (View.whole cc0_scratch0) _).trans ?_
  refine (View.canon_cons_unit_lit (S := S1024x2048) (e := .bf16) inb_S1024x2048_S1024x2048_0_0 _ [] (by decide)).trans ?_
  exact congrArg k0_pay1 (View.readAt_rep_full arg4.view x1 inb_S1x1024x2048_S1x1024x2048_0_0_0)

theorem load_down (hc0 : loadBit i T0 T1 = 1#1) (k0_h2 : k0_cond2 i (usedWord T1) = 1#1) (k0_h3 : ¬(k0_cond3 i (usedWord T1) = 1#1)) : (runLoad c i arg3 harg3 arg4 harg4 arg5 harg5 arg6 harg6 arg7 harg7 arg8 harg8 T0 T1 x0 x1 x2 x3 x4 hc0 k0_h2 k0_h3).2.2.1 = k0_pay2 x3 := by
  unfold runLoad
  dsimp only
  unfold runLoad.sl.HS1_1
  rw [← View.read_whole (Val := Elt F) cc0_scratch1 ((View.whole cc0_scratch1).writes (Elt F) _ _)]
  refine (View.read_writes_junk_eq_canon (Val := Elt F) (View.whole cc0_scratch1) _).trans ?_
  refine (View.canon_cons_unit_lit (S := S1024x1024) (e := .bf16) inb_S1024x1024_S1024x1024_0_0 _ [] (by decide)).trans ?_
  exact congrArg k0_pay2 (View.readAt_rep_full arg6.view x3 inb_S1x1024x1024_S1x1024x1024_0_0_0)

/-- and used from there; -/
theorem load_block (hc0 : loadBit i T0 T1 = 1#1) (k0_h2 : k0_cond2 i (usedWord T1) = 1#1) (k0_h3 : ¬(k0_cond3 i (usedWord T1) = 1#1)) : View.canon (runLoad c i arg3 harg3 arg4 harg4 arg5 harg5 arg6 harg6 arg7 harg7 arg8 harg8 T0 T1 x0 x1 x2 x3 x4 hc0 k0_h2 k0_h3).1 = block x0 (k0_pay1 x1) x2 (k0_pay2 x3) x4 := by
  have e0 : View.canon (runLoad.sl.HS0_1 arg4 x1) = k0_pay1 x1 := by
    unfold runLoad.sl.HS0_1
    exact (View.canon_cons_unit_lit (S := S1024x2048) (e := .bf16) inb_S1024x2048_S1024x2048_0_0 _ [] (by decide)).trans
      (congrArg k0_pay1 (View.readAt_rep_full arg4.view x1 inb_S1x1024x2048_S1x1024x2048_0_0_0))
  have lo : runLoad.sl.v28 arg4 x1 = View.ld (Val := Elt F) (k0_pay1 x1) (Rect.unit (s := S1024x2048) ![0, 0] S512x2048.size inb_S1024x2048_S512x2048_0_0) :=
    (View.readCov_eq_canon' (s := S1024x2048) (e := .bf16) scratchG.view (runLoad.sl.HS0_1 arg4 x1) _).trans (by rw [e0])
  have hi : runLoad.sl.v31 arg4 x1 = View.ld (Val := Elt F) (k0_pay1 x1) (Rect.unit (s := S1024x2048) ![512, 0] S512x2048.size inb_S1024x2048_S512x2048_512_0) :=
    (View.readCov_eq_canon' (s := S1024x2048) (e := .bf16) scratchG.view (runLoad.sl.HS0_1 arg4 x1) _).trans (by rw [e0])
  have dn : runLoad.sl.v74 arg6 x3 = k0_pay2 x3 :=
    (View.readCov_full (s := S1024x1024) (e := .bf16) scratchD.view inb_S1024x1024_S1024x1024_0_0 inb_S1024x1024_S1024x1024_0_0 _ []).trans
      (congrArg k0_pay2 (View.readAt_rep_full arg6.view x3 inb_S1x1024x1024_S1x1024x1024_0_0_0))
  unfold runLoad
  dsimp only
  unfold runLoad.sl.HO5_2 runLoad.sl.r_8 runLoad.sl.r_7 runLoad.sl.r_6 runLoad.sl.r_5 runLoad.sl.r_4 runLoad.sl.r_3
  rw [lo, hi, dn, View.readAt_rep_full arg5.view x2 inb_S1x1x2048_S1x1x2048_0_0_0, View.readAt_rep_full arg7.view x4 inb_S1x1x1024_S1x1x1024_0_0_0,
    View.readAt_rep arg3.view (Rect.unit (s := S512x512) ![256, 0] S256x512.size inb_S512x512_S256x512_256_0).toLoadRect x0,
    View.readAt_rep arg3.view (Rect.unit (s := S512x512) ![0, 0] S256x512.size inb_S512x512_S256x512_0_0).toLoadRect x0]
  rfl
end

section
variable (c : Dev nD) (i : grid0.Coords) (arg3 : Memref sig .tc .vmem S512x512 .i32) (harg3 : arg3.IsWhole) (arg4 : Memref sig .tc .vmem S1x1024x2048 .f32) (harg4 : arg4.IsWhole)
    (arg5 : Memref sig .tc .vmem S1x1x2048 .f32) (harg5 : arg5.IsWhole) (arg6 : Memref sig .tc .vmem S1x1024x1024 .f32) (harg6 : arg6.IsWhole)
    (arg7 : Memref sig .tc .vmem S1x1x1024 .f32) (harg7 : arg7.IsWhole) (arg8 : Memref sig .tc .vmem S512x1024 .bf16) (harg8 : arg8.IsWhole)
    (T0 : S288.Idx → Elt F .i32) (T1 : S1.Idx → Elt F .i32)
    (x0 : S512x512.Idx → Elt F .i32) (x1 : S1x1024x2048.Idx → Elt F .f32) (x2 : S1x1x2048.Idx → Elt F .f32) (x3 : S1x1024x1024.Idx → Elt F .f32) (x4 : S1x1x1024.Idx → Elt F .f32)
    (xa0 : Buf (Elt F) ((c : Thread nD τ).loc cc0_scratch0)) (xa1 : Buf (Elt F) ((c : Thread nD τ).loc cc0_scratch1))

/-- a block of the same expert uses what is there; -/
theorem reuse_block (hc0 : ¬(loadBit i T0 T1 = 1#1)) (k0_h2 : k0_cond2 i (usedWord T1) = 1#1) (k0_h3 : ¬(k0_cond3 i (usedWord T1) = 1#1)) : View.canon (runReuse c i arg3 harg3 arg4 harg4 arg5 harg5 arg6 harg6 arg7 harg7 arg8 harg8 T0 T1 x0 x1 x2 x3 x4 xa0 xa1 hc0 k0_h2 k0_h3).1 = block x0 xa0 x2 xa1 x4 := by
  unfold runReuse
  dsimp only
  unfold runReuse.sl.HO5_2 runReuse.sl.r_8 runReuse.sl.r_7 runReuse.sl.r_6 runReuse.sl.r_5 runReuse.sl.r_4 runReuse.sl.r_3
  rw [View.readAt_rep_full arg5.view x2 inb_S1x1x2048_S1x1x2048_0_0_0, View.readAt_rep_full arg7.view x4 inb_S1x1x1024_S1x1x1024_0_0_0,
    View.readAt_rep arg3.view (Rect.unit (s := S512x512) ![256, 0] S256x512.size inb_S512x512_S256x512_256_0).toLoadRect x0,
    View.readAt_rep arg3.view (Rect.unit (s := S512x512) ![0, 0] S256x512.size inb_S512x512_S256x512_0_0).toLoadRect x0,
    View.readAt_full (s := S1024x1024) (e := .bf16) scratchD.view xa1 inb_S1024x1024_S1024x1024_0_0]
  rfl

theorem reuse_gate (hc0 : ¬(loadBit i T0 T1 = 1#1)) (k0_h2 : k0_cond2 i (usedWord T1) = 1#1) (k0_h3 : ¬(k0_cond3 i (usedWord T1) = 1#1)) : (runReuse c i arg3 harg3 arg4 harg4 arg5 harg5 arg6 harg6 arg7 harg7 arg8 harg8 T0 T1 x0 x1 x2 x3 x4 xa0 xa1 hc0 k0_h2 k0_h3).2.1 = xa0 := rfl
theorem reuse_down (hc0 : ¬(loadBit i T0 T1 = 1#1)) (k0_h2 : k0_cond2 i (usedWord T1) = 1#1) (k0_h3 : ¬(k0_cond3 i (usedWord T1) = 1#1)) : (runReuse c i arg3 harg3 arg4 harg4 arg5 harg5 arg6 harg6 arg7 harg7 arg8 harg8 T0 T1 x0 x1 x2 x3 x4 xa0 xa1 hc0 k0_h2 k0_h3).2.2.1 = xa1 := rfl

/-- a block past the used ones is zero. -/
theorem zero_block (hc0 : ¬(loadBit i T0 T1 = 1#1)) (k0_h2 : ¬(k0_cond2 i (usedWord T1) = 1#1)) (k0_h3 : k0_cond3 i (usedWord T1) = 1#1) : View.canon (runZero c i arg3 harg3 arg4 harg4 arg5 harg5 arg6 harg6 arg7 harg7 arg8 harg8 T0 T1 x0 x1 x2 x3 x4 xa0 xa1 hc0 k0_h2 k0_h3).1 = k0_pay4 (F := F) := by
  unfold runZero
  dsimp only
  unfold runZero.sl.HO5_1
  exact View.canon_cons_unit_lit (S := S512x1024) (e := .bf16) inb_S512x1024_S512x1024_0_0 _ [] (by decide)

theorem zero_gate (hc0 : ¬(loadBit i T0 T1 = 1#1)) (k0_h2 : ¬(k0_cond2 i (usedWord T1) = 1#1)) (k0_h3 : k0_cond3 i (usedWord T1) = 1#1) : (runZero c i arg3 harg3 arg4 harg4 arg5 harg5 arg6 harg6 arg7 harg7 arg8 harg8 T0 T1 x0 x1 x2 x3 x4 xa0 xa1 hc0 k0_h2 k0_h3).2.1 = xa0 := rfl
theorem zero_down (hc0 : ¬(loadBit i T0 T1 = 1#1)) (k0_h2 : ¬(k0_cond2 i (usedWord T1) = 1#1)) (k0_h3 : k0_cond3 i (usedWord T1) = 1#1) : (runZero c i arg3 harg3 arg4 harg4 arg5 harg5 arg6 harg6 arg7 harg7 arg8 harg8 T0 T1 x0 x1 x2 x3 x4 xa0 xa1 hc0 k0_h2 k0_h3).2.2.1 = xa1 := rfl
end

end Cert.Experts

end
-- ==== Proof.ExpertsWords.lean ====
/- The words the expert kernel steers by: the number of used blocks, a block's expert and the expert of the block before;
   the body's conditions and the windows' index maps in terms of them. -/
module

public import proofs.«01_k».proof.Proof.ExpertsBlock
public import Idealize.ShloMosaic.Lib.Pointwise.Index

@[expose] public section

set_option maxRecDepth 16384

noncomputable section

namespace Cert.Experts

open Cert.Kernel2Ideal Cert.Kernel2Ideal.Gen
open Idealize.ShloMosaic

variable {F : FTy → Type} [FloatOps F]

/-- The tables' words. -/
def nUsed (T1 : S1.Idx → Elt F .i32) : BitVec 32 := T1 (ix1 0)
def expertOf (T0 : S288.Idx → Elt F .i32) (j : Fin 288) : BitVec 32 := T0 (ix1 j)

/-- Where in the tables the body's and the index maps' loads read. -/
theorem at_one : ∀ a, ((Rect.unit (s := S1) ![0] S1.size inb_S1_S1_0).emb (Shape.Idx.first (numel1_S1.symm ▸ Nat.one_pos))) a = (ix1 0 : S1.Idx) a := by decide +kernel
theorem at_block : ∀ (i : grid0.Coords) (a : Fin 1), (((Rect.unit (s := S288) (k0_off1 i) S1.size (k0_off1_inb i)).emb (Shape.Idx.first (numel1_S1.symm ▸ Nat.one_pos))) a).val = (i 0).val := by decide +kernel
theorem at_before : ∀ (i : grid0.Coords) (a : Fin 1), (((Rect.unit (s := S288) (k0_off2 i) S1.size (k0_off2_inb i)).emb (Shape.Idx.first (numel1_S1.symm ▸ Nat.one_pos))) a).val = (i 0).val - 1 := by decide +kernel

theorem used_eq (T1 : S1.Idx → Elt F .i32) : usedWord T1 = nUsed T1 := congrArg T1 (funext at_one)
theorem expert_eq (i : grid0.Coords) (T0 : S288.Idx → Elt F .i32) : expertWord i T0 = expertOf T0 (i 0) :=
  congrArg T0 (funext fun a => Fin.ext ((at_block i a).trans (by match a with | ⟨0, _⟩ => rfl)))
theorem before_eq (i : grid0.Coords) (T0 : S288.Idx → Elt F .i32) :
    beforeWord i T0 = expertOf T0 ⟨(i 0).val - 1, Nat.lt_of_le_of_lt (Nat.sub_le _ _) (i 0).isLt⟩ :=
  congrArg T0 (funext fun a => Fin.ext ((at_before i a).trans (by match a with | ⟨0, _⟩ => rfl)))

/-- A block is used: it lies below the number of used blocks. -/
def Used (T1 : S1.Idx → Elt F .i32) (j : ℕ) : Prop := (j : ℤ) < (nUsed T1).toInt

theorem toInt_small (j : ℕ) (h : j < 288) : (BitVec.ofNat 32 j).toInt = (j : ℤ) := by
  rw [BitVec.toInt_eq_toNat_cond, BitVec.toNat_ofNat]
  omega

theorem ofBool_one : ∀ b : Bool, BitVec.ofBool b = 1#1 ↔ b = true := by decide

theorem bit_ne : ∀ b : BitVec 1, Scalar.cmpi .ne (Scalar.extui b : BitVec 32) 0#32 = b := by decide

theorem slt_iff (j : Fin 288) (w : BitVec 32) : Scalar.cmpi .slt (BitVec.ofNat 32 j.val) w = 1#1 ↔ (j.val : ℤ) < w.toInt := by
  rw [← toInt_small j.val j.isLt]
  unfold Scalar.cmpi IntOp.cmpi
  simp [BitVec.slt, ofBool_one]

theorem cond2_iff (i : grid0.Coords) (T1 : S1.Idx → Elt F .i32) : k0_cond2 i (usedWord T1) = 1#1 ↔ Used T1 (i 0).val := by
  rw [used_eq]
  exact (iff_of_eq (congrArg (· = 1#1) (bit_ne _))).trans (slt_iff (i 0) _)

theorem cond3_iff (i : grid0.Coords) (T1 : S1.Idx → Elt F .i32) : k0_cond3 i (usedWord T1) = 1#1 ↔ ¬Used T1 (i 0).val := by
  rw [used_eq]
  refine (iff_of_eq (congrArg (· = 1#1) (bit_ne _))).trans ?_
  unfold Used
  rw [← toInt_small (i 0).val (i 0).isLt]
  unfold Scalar.cmpi IntOp.cmpi
  simp [BitVec.sle, ofBool_one]

theorem load_iff (i : grid0.Coords) (T0 : S288.Idx → Elt F .i32) (T1 : S1.Idx → Elt F .i32) :
    loadBit i T0 T1 = 1#1 ↔ Used T1 (i 0).val ∧
      ((i 0).val = 0 ∨ expertOf T0 (i 0) ≠ expertOf T0 ⟨(i 0).val - 1, Nat.lt_of_le_of_lt (Nat.sub_le _ _) (i 0).isLt⟩) := by
  have and_one : ∀ a b : BitVec 1, Scalar.andi a b = 1#1 ↔ a = 1#1 ∧ b = 1#1 := by decide
  have or_one : ∀ a b : BitVec 1, Scalar.ori a b = 1#1 ↔ a = 1#1 ∨ b = 1#1 := by decide
  rw [← expert_eq, ← before_eq]
  refine (iff_of_eq (congrArg (· = 1#1) (bit_ne _))).trans ((and_one _ _).trans (and_congr ?_ ((or_one _ _).trans (or_congr ?_ ?_))))
  · rw [used_eq]; exact slt_iff (i 0) _
  · have : ∀ j : Fin 288, Scalar.cmpi .eq (BitVec.ofNat 32 j.val) 0#32 = 1#1 ↔ j.val = 0 := by decide +kernel
    exact this (i 0)
  · generalize expertWord i T0 = x, beforeWord i T0 = y
    unfold Scalar.cmpi IntOp.cmpi
    simp [ofBool_one]

/-- The windows' blocks. -/
theorem map_result : ∀ i : grid0.Coords, cc0_transform_5 i = ![(i 0).val, 0] := by decide +kernel

theorem map_gate (pf : pre0.Contents (Elt F)) (i : grid0.Coords) :
    cc0_transform_1 k0_off1_inb numel1_S1 pf i = ![(expertOf (pf 0) (i 0)).toNat, 0, 0] :=
  congrArg (fun x : BitVec 32 => (![x.toNat, 0, 0] : Fin 3 → Nat)) (expert_eq i (pf 0))

theorem map_gateBias (pf : pre0.Contents (Elt F)) (i : grid0.Coords) :
    cc0_transform_2 k0_off1_inb numel1_S1 pf i = ![(expertOf (pf 0) (i 0)).toNat, 0, 0] :=
  congrArg (fun x : BitVec 32 => (![x.toNat, 0, 0] : Fin 3 → Nat)) (expert_eq i (pf 0))

theorem map_down (pf : pre0.Contents (Elt F)) (i : grid0.Coords) :
    cc0_transform_3 k0_off1_inb numel1_S1 pf i = ![(expertOf (pf 0) (i 0)).toNat, 0, 0] :=
  congrArg (fun x : BitVec 32 => (![x.toNat, 0, 0] : Fin 3 → Nat)) (expert_eq i (pf 0))

theorem map_downBias (pf : pre0.Contents (Elt F)) (i : grid0.Coords) :
    cc0_transform_4 k0_off1_inb numel1_S1 pf i = ![(expertOf (pf 0) (i 0)).toNat, 0, 0] :=
  congrArg (fun x : BitVec 32 => (![x.toNat, 0, 0] : Fin 3 → Nat)) (expert_eq i (pf 0))

theorem map_rows (pf : pre0.Contents (Elt F)) (i : grid0.Coords) :
    cc0_transform_0 inb_S1_S1_0 numel1_S1 pf i = ![(Scalar.minsi (BitVec.ofNat 32 (i 0).val) (Scalar.subi (nUsed (pf 1)) 1#32)).toNat, 0] :=
  congrArg (fun x : BitVec 32 => (![(Scalar.minsi (BitVec.ofNat 32 (i 0).val) (Scalar.subi x 1#32)).toNat, 0] : Fin 2 → Nat)) (used_eq (pf 1))

/-- The rows of a used block are its own; -/
theorem rows_used (w : BitVec 32) (h1 : 1 ≤ w.toInt) (j : Fin 288) (h : (j.val : ℤ) < w.toInt) :
    (Scalar.minsi (BitVec.ofNat 32 j.val) (Scalar.subi w 1#32)).toNat = j.val := by
  have hs : (w - 1#32).toInt = w.toInt - 1 := by
    rw [BitVec.toInt_eq_toNat_cond] at h1 h ⊢
    rw [BitVec.toInt_eq_toNat_cond, BitVec.toNat_sub]
    simp only [BitVec.toNat_ofNat]
    omega
  have hj := toInt_small j.val j.isLt
  unfold Scalar.minsi Scalar.subi IntOp.minsi IntOp.subi
  by_cases e : (BitVec.ofNat 32 j.val).slt (w - 1#32) = true
  · rw [if_pos e, BitVec.toNat_ofNat]; omega
  · rw [if_neg e]
    rw [BitVec.slt, decide_eq_true_eq, hj, hs] at e
    have e2 : (w - 1#32).toInt = j.val := by omega
    rw [BitVec.toInt_eq_toNat_cond] at e2
    omega

/-- of a block behind them, the last used one's. -/
theorem rows_lt (w : BitVec 32) (h1 : 1 ≤ w.toInt) (j : Fin 288) :
    (Scalar.minsi (BitVec.ofNat 32 j.val) (Scalar.subi w 1#32)).toNat < 288 := by
  have hs : (w - 1#32).toInt = w.toInt - 1 := by
    rw [BitVec.toInt_eq_toNat_cond] at h1 ⊢
    rw [BitVec.toInt_eq_toNat_cond, BitVec.toNat_sub]
    simp only [BitVec.toNat_ofNat]
    omega
  unfold Scalar.minsi Scalar.subi IntOp.minsi IntOp.subi
  by_cases e : (BitVec.ofNat 32 j.val).slt (w - 1#32) = true
  · rw [if_pos e, BitVec.toNat_ofNat]; have := j.isLt; omega
  · rw [if_neg e]
    have hj := toInt_small j.val j.isLt
    rw [BitVec.slt, decide_eq_true_eq, hj, hs] at e
    rw [BitVec.toInt_eq_toNat_cond] at hs
    have := j.isLt
    omega

/-- The tables the kernel is stated for: every block's expert is one of the 32, and some block is used. -/
structure TablesOk (T0 : S288.Idx → Elt F .i32) (T1 : S1.Idx → Elt F .i32) : Prop where
  expert : ∀ j, (expertOf T0 j).toNat < 32
  one_le : 1 ≤ (nUsed T1).toInt

theorem inside₂ {n : ℕ} (h : n < 288) : ∀ a : Fin 2, ((![n, 0] : Fin 2 → ℕ) a + 1) * (![512, 512] : Fin 2 → ℕ) a ≤ (![147456, 512] : Fin 2 → ℕ) a
  | ⟨0, _⟩ => show (n + 1) * 512 ≤ 147456 by omega
  | ⟨1, _⟩ => show (0 + 1) * 512 ≤ 512 by omega

theorem inside₃ {n : ℕ} (h : n < 32) (p q : ℕ) : ∀ a : Fin 3, ((![n, 0, 0] : Fin 3 → ℕ) a + 1) * (![1, p, q] : Fin 3 → ℕ) a ≤ (![32, p, q] : Fin 3 → ℕ) a
  | ⟨0, _⟩ => show (n + 1) * 1 ≤ 32 by omega
  | ⟨1, _⟩ => show (0 + 1) * p ≤ p by omega
  | ⟨2, _⟩ => show (0 + 1) * q ≤ q by omega

/-- With such tables every window's block lies in its array. -/
theorem ok_of_tables (pf : pre0.Contents (Elt F)) (h : TablesOk (pf 0) (pf 1)) : ok0 pf := by
  refine ⟨fun i => ⟨?_, .inl rfl⟩,
    fun i => ⟨?_, .inl rfl⟩, fun i => ⟨?_, .inl rfl⟩, fun i => ⟨?_, .inl rfl⟩, fun i => ⟨?_, .inl rfl⟩⟩
  · rw [map_rows]
    exact inside₂ (rows_lt _ h.one_le (i 0))
  · rw [map_gate]
    exact inside₃ (h.expert (i 0)) _ _
  · rw [map_gateBias]
    exact inside₃ (h.expert (i 0)) _ _
  · rw [map_down]
    exact inside₃ (h.expert (i 0)) _ _
  · rw [map_downBias]
    exact inside₃ (h.expert (i 0)) _ _

end Cert.Experts

end
-- ==== Proof.ExpertsGrid.lean ====
/- The expert kernel's grid at any admissible tables: a point's coordinate, its staging buffers, and what each input window
   holds there: the block's rows, its expert's weights and biases. -/
module

public import proofs.«01_k».proof.Proof.ExpertsWords
public import Idealize.ShloMosaic.Lib.Pipeline.Quiescent

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm)

/-- The pipeline at the tables `a`, and the tables. -/
abbrev cfgA : Pipeline.Cfg sig Λ₀ := cfg0 a
abbrev experts : S288.Idx → Elt F .i32 := a.1 0
abbrev count : S1.Idx → Elt F .i32 := a.1 1

/-- A point's coordinate and staging buffers. -/
abbrev crd (t : Fin (cfgA a).N) : grid0.Coords := (cfgA a).grid.coords t
abbrev buf0 (t : Fin (cfgA a).N) : Memref sig .tc .vmem S512x512 .i32 := spec0_0.stage ((cfgA a).slots t (0 : Fin 6))
abbrev whole0 (t : Fin (cfgA a).N) : (buf0 a t).IsWhole := hstage0_0 (((cfgA a).slots t (0 : Fin 6)).cast nbuf0_0)
abbrev buf1 (t : Fin (cfgA a).N) : Memref sig .tc .vmem S1x1024x2048 .f32 := spec0_1.stage ((cfgA a).slots t (1 : Fin 6))
abbrev whole1 (t : Fin (cfgA a).N) : (buf1 a t).IsWhole := hstage0_1 (((cfgA a).slots t (1 : Fin 6)).cast nbuf0_1)
abbrev buf2 (t : Fin (cfgA a).N) : Memref sig .tc .vmem S1x1x2048 .f32 := spec0_2.stage ((cfgA a).slots t (2 : Fin 6))
abbrev whole2 (t : Fin (cfgA a).N) : (buf2 a t).IsWhole := hstage0_2 (((cfgA a).slots t (2 : Fin 6)).cast nbuf0_2)
abbrev buf3 (t : Fin (cfgA a).N) : Memref sig .tc .vmem S1x1024x1024 .f32 := spec0_3.stage ((cfgA a).slots t (3 : Fin 6))
abbrev whole3 (t : Fin (cfgA a).N) : (buf3 a t).IsWhole := hstage0_3 (((cfgA a).slots t (3 : Fin 6)).cast nbuf0_3)
abbrev buf4 (t : Fin (cfgA a).N) : Memref sig .tc .vmem S1x1x1024 .f32 := spec0_4.stage ((cfgA a).slots t (4 : Fin 6))
abbrev whole4 (t : Fin (cfgA a).N) : (buf4 a t).IsWhole := hstage0_4 (((cfgA a).slots t (4 : Fin 6)).cast nbuf0_4)
abbrev buf5 (t : Fin (cfgA a).N) : Memref sig .tc .vmem S512x1024 .bf16 := spec0_5.stage ((cfgA a).slots t (5 : Fin 6))
abbrev whole5 (t : Fin (cfgA a).N) : (buf5 a t).IsWhole := hstage0_5 (((cfgA a).slots t (5 : Fin 6)).cast nbuf0_5)

theorem coord_point : ∀ t : Fin grid0.N, (grid0.coords t 0).val = t.val := by decide +kernel
theorem crd_val (t : Fin (cfgA a).N) : (crd a t 0).val = t.val := coord_point t

variable (V : (c : Dev nD) → (b : Ref sig .tc) → Buf (Elt F) ((c : Thread nD τ).loc b)) (c : Dev nD)

/-- Window `w`'s block at a point, read off its array as the grid is entered. -/
def inBlock (w : Fin (cfgA a).W) (t : Fin (cfgA a).N) : (((cfgA a).win w).xblock ((cfgA a).grid.coords t)).Idx → Elt F ((cfgA a).win w).elt :=
  (((cfgA a).win w).blk t).view.read (Elt F) (V c ((cfgA a).win w).arr.view.ref)

/-- A word as an expert's number. -/
def expertNo (w : BitVec 32) : Fin 32 := ⟨w.toNat % 32, Nat.mod_lt _ (by decide)⟩

/-- An expert's weights and biases, and a block's rows. -/
def gateOf (w : BitVec 32) : S1x1024x2048.Idx → Elt F .f32 := fun y =>
  (V c main_arg2 : S32x1024x2048.Idx → Elt F .f32) (ix3 (expertNo w) (y 1) (y 2))
def gateBiasOf (w : BitVec 32) : S1x1x2048.Idx → Elt F .f32 := fun y =>
  (V c main_v22 : S32x1x2048.Idx → Elt F .f32) (ix3 (expertNo w) (y 1) (y 2))
def downOf (w : BitVec 32) : S1x1024x1024.Idx → Elt F .f32 := fun y =>
  (V c main_arg4 : S32x1024x1024.Idx → Elt F .f32) (ix3 (expertNo w) (y 1) (y 2))
def downBiasOf (w : BitVec 32) : S1x1x1024.Idx → Elt F .f32 := fun y =>
  (V c main_v23 : S32x1x1024.Idx → Elt F .f32) (ix3 (expertNo w) (y 1) (y 2))
def rowsOf (j : Fin 288) : S512x512.Idx → Elt F .i32 := fun y =>
  (V c main_arg0 : S147456x512.Idx → Elt F .i32)
    (ix2 ⟨512 * j.val + (y 0).val, by have := (y 0).isLt; have := j.isLt; change _ < 512 at *; omega⟩ (y 1))

variable {a} (h : TablesOk (experts a) (count a))
include h

theorem inBlock_gate (t : Fin (cfgA a).N) : inBlock a V c (1 : Fin 6) t = gateOf V c (expertOf (experts a) (crd a t 0)) := by
  have he := h.expert (crd a t 0)
  have hix : ((cfgA a).win (1 : Fin 6)).index t = ![(expertOf (experts a) (crd a t 0)).toNat, 0, 0] := map_gate a.1 (crd a t)
  unfold inBlock gateOf
  funext z
  rw [View.read_apply, cast_eq]
  refine congrArg (V c main_arg2) (funext fun b => Fin.ext ?_)
  blk_simp [hix]
  have h₀ : (z 0).val < 1 := (z 0).isLt
  match b with
  | ⟨0, _⟩ => show (expertOf (experts a) (crd a t 0)).toNat * 1 + (z 0).val = (expertOf (experts a) (crd a t 0)).toNat % 32; omega
  | ⟨1, _⟩ => show 0 * _ + (z 1).val = (z 1).val; omega
  | ⟨2, _⟩ => show 0 * _ + (z 2).val = (z 2).val; omega

theorem inBlock_gateBias (t : Fin (cfgA a).N) : inBlock a V c (2 : Fin 6) t = gateBiasOf V c (expertOf (experts a) (crd a t 0)) := by
  have he := h.expert (crd a t 0)
  have hix : ((cfgA a).win (2 : Fin 6)).index t = ![(expertOf (experts a) (crd a t 0)).toNat, 0, 0] := map_gateBias a.1 (crd a t)
  unfold inBlock gateBiasOf
  funext z
  rw [View.read_apply, cast_eq]
  refine congrArg (V c main_v22) (funext fun b => Fin.ext ?_)
  blk_simp [hix]
  have h₀ : (z 0).val < 1 := (z 0).isLt
  match b with
  | ⟨0, _⟩ => show (expertOf (experts a) (crd a t 0)).toNat * 1 + (z 0).val = (expertOf (experts a) (crd a t 0)).toNat % 32; omega
  | ⟨1, _⟩ => show 0 * _ + (z 1).val = (z 1).val; omega
  | ⟨2, _⟩ => show 0 * _ + (z 2).val = (z 2).val; omega

theorem inBlock_down (t : Fin (cfgA a).N) : inBlock a V c (3 : Fin 6) t = downOf V c (expertOf (experts a) (crd a t 0)) := by
  have he := h.expert (crd a t 0)
  have hix : ((cfgA a).win (3 : Fin 6)).index t = ![(expertOf (experts a) (crd a t 0)).toNat, 0, 0] := map_down a.1 (crd a t)
  unfold inBlock downOf
  funext z
  rw [View.read_apply, cast_eq]
  refine congrArg (V c main_arg4) (funext fun b => Fin.ext ?_)
  blk_simp [hix]
  have h₀ : (z 0).val < 1 := (z 0).isLt
  match b with
  | ⟨0, _⟩ => show (expertOf (experts a) (crd a t 0)).toNat * 1 + (z 0).val = (expertOf (experts a) (crd a t 0)).toNat % 32; omega
  | ⟨1, _⟩ => show 0 * _ + (z 1).val = (z 1).val; omega
  | ⟨2, _⟩ => show 0 * _ + (z 2).val = (z 2).val; omega

theorem inBlock_downBias (t : Fin (cfgA a).N) : inBlock a V c (4 : Fin 6) t = downBiasOf V c (expertOf (experts a) (crd a t 0)) := by
  have he := h.expert (crd a t 0)
  have hix : ((cfgA a).win (4 : Fin 6)).index t = ![(expertOf (experts a) (crd a t 0)).toNat, 0, 0] := map_downBias a.1 (crd a t)
  unfold inBlock downBiasOf
  funext z
  rw [View.read_apply, cast_eq]
  refine congrArg (V c main_v23) (funext fun b => Fin.ext ?_)
  blk_simp [hix]
  have h₀ : (z 0).val < 1 := (z 0).isLt
  match b with
  | ⟨0, _⟩ => show (expertOf (experts a) (crd a t 0)).toNat * 1 + (z 0).val = (expertOf (experts a) (crd a t 0)).toNat % 32; omega
  | ⟨1, _⟩ => show 0 * _ + (z 1).val = (z 1).val; omega
  | ⟨2, _⟩ => show 0 * _ + (z 2).val = (z 2).val; omega

theorem inBlock_rows (t : Fin (cfgA a).N) (hu : Used (count a) t.val) : inBlock a V c (0 : Fin 6) t = rowsOf V c (crd a t 0) := by
  have hix : ((cfgA a).win (0 : Fin 6)).index t = ![(crd a t 0).val, 0] :=
    (map_rows a.1 (crd a t)).trans (congrArg (fun n => (![n, 0] : Fin 2 → ℕ))
      (rows_used (nUsed (count a)) h.one_le (crd a t 0) (by rw [crd_val]; exact hu)))
  unfold inBlock rowsOf
  funext z
  rw [View.read_apply, cast_eq]
  refine congrArg (V c main_arg0) (funext fun b => Fin.ext ?_)
  blk_simp [hix]
  match b with
  | ⟨0, _⟩ => show (crd a t 0).val * 512 + (z 0).val = 512 * (crd a t 0).val + (z 0).val; omega
  | ⟨1, _⟩ => show 0 * _ + (z 1).val = (z 1).val; omega

end Cert.Experts

end
-- ==== Proof.ExpertsPipeline.lean ====
/- The expert kernel's pipeline at any admissible tables: what each block's point leaves, the invariant of the scratch buffers
   (the weights of the block before's expert, where that block is used), and the body's obligation at every point. -/
module

public import proofs.«01_k».proof.Proof.ExpertsGrid

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

variable {F : FTy → Type} [FloatOps F]

local notation "𝕄" => MT nD τ sig Unit (Elt F) ℕ (UR sig nD τ) ℕ

instance (T1 : S1.Idx → Elt F .i32) (j : ℕ) : Decidable (Used T1 j) := inferInstanceAs (Decidable (_ < _))

variable (a : (pcfg0 (F := F)).Adm) (V : (c : Dev nD) → (b : Ref sig .tc) → Buf (Elt F) ((c : Thread nD τ).loc b))

/-- What a point leaves in its block of the result: the rows through the expert, or zero behind the used blocks. -/
def outBlock (c : Dev nD) (t : Fin (cfgA a).N) : S512x1024.Idx → Elt F .bf16 :=
  if Used (count a) t.val then
    block (inBlock a V c (0 : Fin 6) t) (k0_pay1 (inBlock a V c (1 : Fin 6) t)) (inBlock a V c (2 : Fin 6) t)
      (k0_pay2 (inBlock a V c (3 : Fin 6) t)) (inBlock a V c (4 : Fin 6) t)
  else k0_pay4

/-- Before a point: each scratch buffer holds the weights of the block before's expert, if that block is used; the body's
    halves of the tables. -/
def Inv (c : Dev nD) (n : ℕ) : sProp 𝕄 :=
  iprop((∃ g : Buf (Elt F) ((c : Thread nD τ).loc cc0_scratch0), ⌜∀ j : Fin 288, j.val + 1 = n → Used (count a) j.val → g = k0_pay1 (gateOf V c (expertOf (experts a) j))⌝
      ∗ (scratchG.view.loc (c : Thread nD τ) ↦{fullShare} g))
    ∗ (∃ d : Buf (Elt F) ((c : Thread nD τ).loc cc0_scratch1), ⌜∀ j : Fin 288, j.val + 1 = n → Used (count a) j.val → d = k0_pay2 (downOf V c (expertOf (experts a) j))⌝
      ∗ (scratchD.view.loc (c : Thread nD τ) ↦{fullShare} d))
    ∗ (tableE.view.loc (c : Thread nD τ) ↦{fullShare.right} experts a) ∗ (tableN.view.loc (c : Thread nD τ) ↦{fullShare.right} count a))

/-- The pipeline's proof data. -/
def dats (_ : Fin 1) (c : Dev nD) : Dat τ (Elt F) Unit ℕ (UR sig nD τ) ℕ (cfgA a) c where
  A w := V c ((cfgA a).win w).arr.view.ref
  after w t := match w with
    | ⟨0, _⟩ => inBlock a V c (0 : Fin 6) t
    | ⟨1, _⟩ => inBlock a V c (1 : Fin 6) t
    | ⟨2, _⟩ => inBlock a V c (2 : Fin 6) t
    | ⟨3, _⟩ => inBlock a V c (3 : Fin 6) t
    | ⟨4, _⟩ => inBlock a V c (4 : Fin 6) t
    | ⟨5, _⟩ => outBlock a V c t
  Φ t := Inv a V c t.val
  q _ := fullShare
  owed _ := 0

theorem after_0 (c : Dev nD) (t : Fin (cfgA a).N) : (dats a V 0 c).after (0 : Fin 6) t = inBlock a V c (0 : Fin 6) t := rfl
theorem after_1 (c : Dev nD) (t : Fin (cfgA a).N) : (dats a V 0 c).after (1 : Fin 6) t = inBlock a V c (1 : Fin 6) t := rfl
theorem after_2 (c : Dev nD) (t : Fin (cfgA a).N) : (dats a V 0 c).after (2 : Fin 6) t = inBlock a V c (2 : Fin 6) t := rfl
theorem after_3 (c : Dev nD) (t : Fin (cfgA a).N) : (dats a V 0 c).after (3 : Fin 6) t = inBlock a V c (3 : Fin 6) t := rfl
theorem after_4 (c : Dev nD) (t : Fin (cfgA a).N) : (dats a V 0 c).after (4 : Fin 6) t = inBlock a V c (4 : Fin 6) t := rfl
theorem after_5 (c : Dev nD) (t : Fin (cfgA a).N) : (dats a V 0 c).after (5 : Fin 6) t = outBlock a V c t := rfl

/-- An input's staging buffer holds its block, fetched at this point or earlier. -/
theorem before_0 (c : Dev nD) (t : Fin (cfgA a).N) (d) : (dats a V 0 c).before (0 : Fin 6) t d = inBlock a V c (0 : Fin 6) t :=
  ((dats a V 0 c).before_in_eq_fetched (0 : Fin 6) rfl (fun _ => rfl) (fun _ _ _ => rfl) (fun t => by rw [after_0]; unfold Dat.blockOf inBlock; rfl) t d).trans
    (by unfold Dat.fetched Dat.blockOf inBlock; rfl)

theorem before_1 (c : Dev nD) (t : Fin (cfgA a).N) (d) : (dats a V 0 c).before (1 : Fin 6) t d = inBlock a V c (1 : Fin 6) t :=
  ((dats a V 0 c).before_in_eq_fetched (1 : Fin 6) rfl (fun _ => rfl) (fun _ _ _ => rfl) (fun t => by rw [after_1]; unfold Dat.blockOf inBlock; rfl) t d).trans
    (by unfold Dat.fetched Dat.blockOf inBlock; rfl)

theorem before_2 (c : Dev nD) (t : Fin (cfgA a).N) (d) : (dats a V 0 c).before (2 : Fin 6) t d = inBlock a V c (2 : Fin 6) t :=
  ((dats a V 0 c).before_in_eq_fetched (2 : Fin 6) rfl (fun _ => rfl) (fun _ _ _ => rfl) (fun t => by rw [after_2]; unfold Dat.blockOf inBlock; rfl) t d).trans
    (by unfold Dat.fetched Dat.blockOf inBlock; rfl)

theorem before_3 (c : Dev nD) (t : Fin (cfgA a).N) (d) : (dats a V 0 c).before (3 : Fin 6) t d = inBlock a V c (3 : Fin 6) t :=
  ((dats a V 0 c).before_in_eq_fetched (3 : Fin 6) rfl (fun _ => rfl) (fun _ _ _ => rfl) (fun t => by rw [after_3]; unfold Dat.blockOf inBlock; rfl) t d).trans
    (by unfold Dat.fetched Dat.blockOf inBlock; rfl)

theorem before_4 (c : Dev nD) (t : Fin (cfgA a).N) (d) : (dats a V 0 c).before (4 : Fin 6) t d = inBlock a V c (4 : Fin 6) t :=
  ((dats a V 0 c).before_in_eq_fetched (4 : Fin 6) rfl (fun _ => rfl) (fun _ _ _ => rfl) (fun t => by rw [after_4]; unfold Dat.blockOf inBlock; rfl) t d).trans
    (by unfold Dat.fetched Dat.blockOf inBlock; rfl)

/-- Every point stores its block. -/
theorem idle_result (t : Fin (cfgA a).N) : (cfgA a).idle (5 : Fin 6) ((cfgA a).grid.coords t) = false := by
  have key : ∀ (i : grid0.Coords) (w : BitVec 32), (!(k0_cond2 i w == 1#1) && !(k0_cond3 i w == 1#1)) = false := fun i w => by
    by_cases hu : Used (F := F) (fun _ => w) (i 0).val
    · have e : k0_cond2 i w = 1#1 := (cond2_iff (F := F) i fun _ => w).2 hu
      rw [e]; rfl
    · have e : k0_cond3 i w = 1#1 := (cond3_iff (F := F) i fun _ => w).2 hu
      rw [e, Bool.and_eq_false_iff]; right; rfl
  exact key _ _

/-- The body at a point, as the pipeline calls it. -/
abbrev bodyAt (t : Fin (cfgA a).N) : Prog (TpuEff nD τ sig (Elt F) Λ₀ .tc) PUnit :=
  cc0_experts (crd a t) tableE (Memref.isWhole_whole _) tableN (Memref.isWhole_whole _) (buf0 a t) (whole0 a t) (buf1 a t) (whole1 a t) (buf2 a t) (whole2 a t) (buf3 a t) (whole3 a t) (buf4 a t) (whole4 a t) (buf5 a t) (whole5 a t) scratchG (Memref.isWhole_whole _) scratchD (Memref.isWhole_whole _)

variable {a} (h : TablesOk (experts a) (count a))
include h

set_option maxHeartbeats 4000000 in
/-- The body's obligation at a point: by whether its block is used and its expert the block before's. -/
theorem body_point (c : Dev nD) (t : Fin (cfgA a).N) :
    iprop((dats a V 0 c).Φ t.castSucc ∗ (dats a V 0 c).owesAt () t.castSucc
        ∗ (∃ d, owns (c : Thread nD τ) (buf0 a t) fullShare ((dats a V 0 c).before (0 : Fin 6) t d))
        ∗ (∃ d, owns (c : Thread nD τ) (buf1 a t) fullShare ((dats a V 0 c).before (1 : Fin 6) t d))
        ∗ (∃ d, owns (c : Thread nD τ) (buf2 a t) fullShare ((dats a V 0 c).before (2 : Fin 6) t d))
        ∗ (∃ d, owns (c : Thread nD τ) (buf3 a t) fullShare ((dats a V 0 c).before (3 : Fin 6) t d))
        ∗ (∃ d, owns (c : Thread nD τ) (buf4 a t) fullShare ((dats a V 0 c).before (4 : Fin 6) t d))
        ∗ (∃ d, owns (c : Thread nD τ) (buf5 a t) fullShare ((dats a V 0 c).before (5 : Fin 6) t d)))
      ⊢ wp frame (wpE (defs₀ (F := F)) Variants.none c none) Set.univ (bodyAt a t) fun _ =>
          iprop((dats a V 0 c).Φ t.succ ∗ (dats a V 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a V 0 c).before w t d))
                  | true => owns (c : Thread nD τ) (((cfgA a).win w).stage ((cfgA a).slots t w)) fullShare ((dats a V 0 c).after w t)
                | false => owns (c : Thread nD τ) (((cfgA a).win w).stage ((cfgA a).slots t w)) fullShare ((dats a V 0 c).after w t)) := by
  have N288 : t.val < 288 := t.isLt
  have ct : (crd a t 0).val = t.val := crd_val a t
  have jt : ∀ j : Fin 288, j.val + 1 = t.val + 1 → j = crd a t 0 := fun j hj => Fin.ext (by rw [ct]; omega)
  rw [bigSep_W0]
  rewrite [idle_result a t]
  simp only [before_0, before_1, before_2, before_3, before_4, after_0, after_1, after_2, after_3, after_4, after_5]
  rewrite [show (dats a V 0 c).Φ t.succ = Inv a V c (t.val + 1) from rfl, show (dats a V 0 c).Φ t.castSucc = Inv a V c t.val from rfl,
    show (dats a V 0 c).owesAt () t.succ = (dats a V 0 c).owesAt () t.castSucc from rfl]
  unfold Inv
  iintro ⟨⟨⟨%g, %hg, HS0⟩, ⟨%d, %hd, HS1⟩, HT0, HT1⟩, Ho, ⟨%d0, H0⟩, ⟨%d1, H1⟩, ⟨%d2, H2⟩, ⟨%d3, H3⟩, ⟨%d4, H4⟩, ⟨%d5, H5⟩⟩
  by_cases hu : Used (count a) (crd a t 0).val
  · have k0_h2 := (cond2_iff (crd a t) (count a)).2 hu
    have k0_h3 : ¬(k0_cond3 (crd a t) (usedWord (count a)) = 1#1) := fun e => (cond3_iff (crd a t) (count a)).1 e hu
    have hout : outBlock a V c t = block (inBlock a V c (0 : Fin 6) t) (k0_pay1 (inBlock a V c (1 : Fin 6) t)) (inBlock a V c (2 : Fin 6) t)
        (k0_pay2 (inBlock a V c (3 : Fin 6) t)) (inBlock a V c (4 : Fin 6) t) := if_pos (ct ▸ hu)
    by_cases hc0 : loadBit (crd a t) (experts a) (count a) = 1#1
    · iapply ((runLoad c (crd a t) (buf0 a t) (whole0 a t) (buf1 a t) (whole1 a t) (buf2 a t) (whole2 a t) (buf3 a t) (whole3 a t) (buf4 a t) (whole4 a t) (buf5 a t) (whole5 a t) (experts a) (count a) (inBlock a V c (0 : Fin 6) t) (inBlock a V c (1 : Fin 6) t) (inBlock a V c (2 : Fin 6) t) (inBlock a V c (3 : Fin 6) t) (inBlock a V c (4 : Fin 6) t) hc0 k0_h2 k0_h3).2.2.2 g d _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · isplitl [HS0]
        · iexists _; isplitr; swap
          · iexact HS0
          · ipureintro; intro j hj _; rw [jt j hj, load_gate, inBlock_gate V c h]
        isplitl [HS1]
        · iexists _; isplitr; swap
          · iexact HS1
          · ipureintro; intro j hj _; rw [jt j hj, load_down, inBlock_down V c h]
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro
        refine (View.read_writes_eq_canon _ _ _ (coverLoad c _ _ _ _ _ _ _ _ _ _ _ _ _ _ _ _ _ _ _ _ _ _ _)).trans ?_
        rw [hout, load_block]
    · have hne : ¬((crd a t 0).val = 0 ∨ expertOf (experts a) (crd a t 0) ≠ expertOf (experts a) ⟨(crd a t 0).val - 1, Nat.lt_of_le_of_lt (Nat.sub_le _ _) (crd a t 0).isLt⟩) :=
        fun e => hc0 ((load_iff _ _ _).2 ⟨hu, e⟩)
      rw [not_or, not_not] at hne
      have hp : (crd a t 0).val - 1 + 1 = t.val := by omega
      have hup : Used (count a) ((crd a t 0).val - 1) := lt_of_le_of_lt (by omega) hu
      have eg := hg ⟨(crd a t 0).val - 1, Nat.lt_of_le_of_lt (Nat.sub_le _ _) (crd a t 0).isLt⟩ hp hup
      have ed := hd ⟨(crd a t 0).val - 1, Nat.lt_of_le_of_lt (Nat.sub_le _ _) (crd a t 0).isLt⟩ hp hup
      rw [← hne.2] at eg ed
      iapply ((runReuse c (crd a t) (buf0 a t) (whole0 a t) (buf1 a t) (whole1 a t) (buf2 a t) (whole2 a t) (buf3 a t) (whole3 a t) (buf4 a t) (whole4 a t) (buf5 a t) (whole5 a t) (experts a) (count a) (inBlock a V c (0 : Fin 6) t) (inBlock a V c (1 : Fin 6) t) (inBlock a V c (2 : Fin 6) t) (inBlock a V c (3 : Fin 6) t) (inBlock a V c (4 : Fin 6) t) g d hc0 k0_h2 k0_h3).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [H4]; · iapply rep_of_owns; iexact H4
      isplitl [HT0]; · iexact HT0
      isplitl [HT1]; · iexact HT1
      isplitl [H5]; · iexists _; iexact H5
      isplitl [HS0]; · iexact HS0
      isplitl [HS1]; · iexact HS1
      iintro ⟨H0, H1, H2, H3, H4, HT0, HT1, ⟨%e5, H5⟩, HS0, HS1⟩
      isplitl [HS0 HS1 HT0 HT1]
      · isplitl [HS0]
        · iexists _; isplitr; swap
          · iexact HS0
          · ipureintro; intro j hj _; rw [jt j hj, reuse_gate, eg]
        isplitl [HS1]
        · iexists _; isplitr; swap
          · iexact HS1
          · ipureintro; intro j hj _; rw [jt j hj, reuse_down, ed]
        isplitl [HT0]
        · iexact HT0
        iexact HT1
      isplitl [Ho]; · iexact Ho
      isplitl [H0]
      · iapply owns_of_rep; iexact H0
      isplitl [H1]
      · iapply owns_of_rep; iexact H1
      isplitl [H2]
      · iapply owns_of_rep; iexact H2
      isplitl [H3]
      · iapply owns_of_rep; iexact H3
      isplitl [H4]
      · iapply owns_of_rep; iexact H4
      unfold owns; iexists _; isplitr; swap
      · iexact H5
      · ipureintro
        refine (View.read_writes_eq_canon _ _ _ (coverReuse c _ _ _ _ _ _ _ _ _ _ _ _ _ _ _ _ _ _ _ _ _ _ _ _ _)).trans ?_
        rw [hout, reuse_block, eg, ed, inBlock_gate V c h, inBlock_down V c h]
  · have k0_h2 : ¬(k0_cond2 (crd a t) (usedWord (count a)) = 1#1) := fun e => hu ((cond2_iff (crd a t) (count a)).1 e)
    have k0_h3 := (cond3_iff (crd a t) (count a)).2 hu
    have hc0 : ¬(loadBit (crd a t) (experts a) (count a) = 1#1) := fun e => hu ((load_iff _ _ _).1 e).1
    have hout : outBlock a V c t = k0_pay4 := if_neg (ct ▸ hu)
    iapply ((runZero c (crd a t) (buf0 a t) (whole0 a t) (buf1 a t) (whole1 a t) (buf2 a t) (whole2 a t) (buf3 a t) (whole3 a t) (buf4 a t) (whole4 a t) (buf5 a t) (whole5 a t) (experts a) (count a) (inBlock a V c (0 : Fin 6) t) (inBlock a V c (1 : Fin 6) t) (inBlock a V c (2 : Fin 6) t) (inBlock a V c (3 : Fin 6) t) (inBlock a V c (4 : Fin 6) t) g d hc0 k0_h2 k0_h3).2.2.2 _)
    isplitl [H0]; · iapply rep_of_owns; iexact H0
    isplitl [H1]; · iapply rep_of_owns; iexact H1
    isplitl [H2]; · iapply rep_of_owns; iexact H2
    isplitl [H3]; · iapply rep_of_owns; iexact H3
    isplitl [H4]; · iapply rep_of_owns; iexact H4
    isplitl [HT0]; · iexact HT0
    isplitl [HT1]; · iexact HT1
    isplitl [H5]; · iexists _; iexact H5
    isplitl [HS0]; · iexact HS0
    isplitl [HS1]; · iexact HS1
    iintro ⟨H0, H1, H2, H3, H4, HT0, HT1, ⟨%e5, H5⟩, HS0, HS1⟩
    isplitl [HS0 HS1 HT0 HT1]
    · isplitl [HS0]
      · iexists _; isplitr; swap
        · iexact HS0
        · ipureintro; intro j hj hj'; exact absurd (jt j hj ▸ hj') hu
      isplitl [HS1]
      · iexists _; isplitr; swap
        · iexact HS1
        · ipureintro; intro j hj hj'; exact absurd (jt j hj ▸ hj') hu
      isplitl [HT0]
      · iexact HT0
      iexact HT1
    isplitl [Ho]; · iexact Ho
    isplitl [H0]
    · iapply owns_of_rep; iexact H0
    isplitl [H1]
    · iapply owns_of_rep; iexact H1
    isplitl [H2]
    · iapply owns_of_rep; iexact H2
    isplitl [H3]
    · iapply owns_of_rep; iexact H3
    isplitl [H4]
    · iapply owns_of_rep; iexact H4
    unfold owns; iexists _; isplitr; swap
    · iexact H5
    · ipureintro
      refine (View.read_writes_eq_canon _ _ _ (coverZero c _ _ _ _ _ _ _ _ _ _ _ _ _ _ _ _ _ _ _ _ _ _ _ _ _)).trans ?_
      rw [hout, zero_block]

/-- The body's obligation at every point. -/
theorem body_obligation (c : Dev nD) : BodyObligation (dats a V 0 c) (defs₀ (F := F)) Variants.none () Set.univ := fun t => by
  rw [bigSep_W0]
  exact body_point V h c t

end Cert.Experts

end
-- ==== Proof.ExpertsHost.lean ====
/- What the expert kernel's host code makes of its arguments before the grid is entered: each block's expert and the number of
   blocks in use, from the number of rows of each expert, and the biases with an axis of one. -/
module

public import proofs.«01_k».proof.Proof.ExpertsWords
public import Idealize.ShloMosaic.Lib.Pipeline.Frame
public import Idealize.ShloMosaic.Lib.StableHlo.ReadAt

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-! ## The tables from the experts' row counts -/

/-- One word at every entry. -/
abbrev fill (s : Shape) (hb : S_.BroadcastsInDim s (![] : Fin 0 → Fin s.rank)) (w : BitVec 32) : IVec s 32 :=
  broadcastInDim s ![] hb (constantI S_ 32 w)

/-- Division by 512, rounded down. -/
def blocksOf (s : Shape) (hb : S_.BroadcastsInDim s (![] : Fin 0 → Fin s.rank)) (x : IVec s 32) : IVec s 32 :=
  select (andi (cmpi .ne (signi x) (broadcastInDim s ![] hb (signi (constantI S_ 32 512#32)))) (cmpi .ne (Host.remsi x (fill s hb 512#32)) (fill s hb 0#32)))
    (subi (Host.divsi x (fill s hb 512#32)) (fill s hb 1#32)) (Host.divsi x (fill s hb 512#32))

/-- Where each expert's rows end, every expert's padded to whole blocks. -/
def ends (n : IVec S32 32) : IVec S32 32 :=
  Host.reduceWindow IntOp.addi ![32] ![1] ![31] ![0]
    (muli (blocksOf S32 bcast_S_S32 (subi (addi n (fill S32 bcast_S_S32 512#32)) (fill S32 bcast_S_S32 1#32))) (fill S32 bcast_S_S32 512#32))
    (broadcastInDim S_ ![] bcast_S_S_ (constantI S_ 32 0#32)) reduceWindows_S32_S32_w32s1p31_0 h_S_

/-- The number of blocks in use. -/
def usedOf (n : IVec S32 32) : IVec S1 32 := blocksOf S1 bcast_S_S1 (extractStridedSlice S1 ![31] (ends n) slices_S32_S1_31)

/-- Whether an expert's rows end before a block, as a word. -/
def passed (n : IVec S32 32) : IVec S288x32 32 :=
  extui 32 (cmpi .sle (broadcastInDim S288x32 ![0, 1] bcast_S1x32_S288x32_0_1 (broadcastInDim S1x32 ![1] bcast_S32_S1x32_1 (ends n)))
    (broadcastInDim S288x32 ![0, 1] bcast_S288x1_S288x32_0_1 (broadcastInDim S288x1 ![0] bcast_S288_S288x1_0
      (muli (iotaInDim S288 32 0) (fill S288 bcast_S_S288 512#32))))) natLt_1_32

/-- Each block's expert: the number of experts whose rows end before it, the last expert at most. -/
def expertsOf (n : IVec S32 32) : IVec S288 32 :=
  minsi (Host.reduce IntOp.addi (passed n) (constantI S_ 32 0#32) reducesTo_S288x32_S288_d1 h_S_) (fill S288 bcast_S_S288 31#32)

/-- A sum of zeros and ones is at most the number of its terms. -/
theorem fold_le {ι : Type} [DecidableEq ι] (f : ι → BitVec 32) (hf : ∀ i, (f i).toNat ≤ 1) (s : Finset ι) :
    (s.fold IntOp.addi 0#32 f).toNat ≤ s.card := by
  induction s using Finset.cons_induction with
  | empty => simp
  | cons i s hi ih =>
    rw [Finset.fold_cons, Finset.card_cons]
    have h := hf i
    have e : (IntOp.addi (f i) (s.fold IntOp.addi 0#32 f)).toNat = ((f i).toNat + (s.fold IntOp.addi 0#32 f).toNat) % 2 ^ 32 := BitVec.toNat_add ..
    have l := Nat.mod_le ((f i).toNat + (s.fold IntOp.addi 0#32 f).toNat) (2 ^ 32)
    omega

theorem passed_le (n : IVec S32 32) (i : S288x32.Idx) : (passed n i).toNat ≤ 1 := by
  have h : ∀ b : BitVec 1, (b.setWidth 32).toNat ≤ 1 := by decide
  exact h _

theorem expertsOf_lt (n : IVec S32 32) (j : Fin 288) : (expertOf (F := F) (expertsOf n) j).toNat < 32 := by
  have key : ∀ k : Fin 33, (IntOp.minsi (BitVec.ofNat 32 k.val) 31#32).toNat < 32 := by decide
  have hr : S288x32.Reduces [1] S288 := by decide
  have e := Host.reduce_eq_fold_single IntOp.addi (passed n) (constantI S_ 32 0#32) reducesTo_S288x32_S288_d1 hr h_S_ (ix1 j)
  have l := fold_le (passed n ∘ hr.lift (ix1 j)) (fun i => passed_le n _) (Finset.univ : Finset (Fin (S288x32.size 1)))
  rw [Finset.card_univ, Fintype.card_fin] at l
  show (IntOp.minsi (Host.reduce IntOp.addi (passed n) (constantI S_ 32 0#32) reducesTo_S288x32_S288_d1 h_S_ (ix1 j)) 31#32).toNat < 32
  rw [e]
  generalize hw : Finset.fold IntOp.addi (constantI S_ 32 0#32 (Shape.Idx.first h_S_)) (passed n ∘ hr.lift (ix1 j)) Finset.univ = w
  have l' : w.toNat ≤ 32 := hw ▸ l
  have ew : w = BitVec.ofNat 32 w.toNat := by simp
  have k := key ⟨w.toNat, by omega⟩
  rw [ew]
  exact k

/-! ## The buffers as the grid is entered -/

/-- The host operations before the grid. -/
abbrev stretches : List (List (HloOp τ sig (Elt F))) := [hostOps0, hostOps0_1, hostOps0_2, hostOps0_3, hostOps0_4, hostOps0_5, hostOps0_6]

theorem stretches_sub : (stretches (F := F)).Forall fun ops => ops.Forall fun op => op.bufs ⊆ StableHlo.tcRefs τ sig :=
  ⟨hostOps0_sub, hostOps0_1_sub, hostOps0_2_sub, hostOps0_3_sub, hostOps0_4_sub, hostOps0_5_sub, hostOps0_6_sub⟩

theorem stretches_fresh : (stretches (F := F)).Forall fun ops => ops.Forall fun op => op.fresh = ∅ := by
  simp only [List.Forall]; repeat' constructor

variable (m : (ℓ : Loc nD τ sig) → Buf (Elt F) ℓ) (c : Dev nD)

/-- Core `c`'s buffers as the grid is entered. -/
def entry (b : Ref sig .tc) : Buf (Elt F) ((c : Thread nD τ).loc b) := StableHlo.after (stretches (F := F)).flatten (fun b => m (c, b)) b

/-- The tables, -/
theorem entry_experts : (entry m c main_v19 : IVec S288 32) = expertsOf (m ((c : Thread nD τ).loc main_arg1)) := by
  unfold entry
  simp only [stretches, List.flatten_cons, List.flatten_nil, List.append_nil, List.cons_append, List.nil_append, hostOps0, hostOps0_1, hostOps0_2, hostOps0_3, hostOps0_4, hostOps0_5, hostOps0_6,
    StableHlo.TRef.binary, StableHlo.TRef.nullary, StableHlo.TRef.ternary, StableHlo.TRef.unary, StableHlo.TRef.toBuf, StableHlo.TRef.ofBuf, cast_eq]
  after_results_simp <;> rfl

theorem entry_used : (entry m c main_v21 : IVec S1 32) = usedOf (m ((c : Thread nD τ).loc main_arg1)) := by
  unfold entry
  simp only [stretches, List.flatten_cons, List.flatten_nil, List.append_nil, List.cons_append, List.nil_append, hostOps0, hostOps0_1, hostOps0_2, hostOps0_3, hostOps0_4, hostOps0_5, hostOps0_6,
    StableHlo.TRef.binary, StableHlo.TRef.nullary, StableHlo.TRef.ternary, StableHlo.TRef.unary, StableHlo.TRef.toBuf, StableHlo.TRef.ofBuf, cast_eq]
  after_results_simp <;> rfl

/-- the biases, -/
theorem entry_gateBias : (entry m c main_v22 : FVec F S32x1x2048 .f32) = shapeCast S32x1x2048 (m ((c : Thread nD τ).loc main_arg3) : FVec F S32x2048 .f32) shapeCasts_S32x2048_S32x1x2048 := by
  unfold entry
  simp only [stretches, List.flatten_cons, List.flatten_nil, List.append_nil, List.cons_append, List.nil_append, hostOps0, hostOps0_1, hostOps0_2, hostOps0_3, hostOps0_4, hostOps0_5, hostOps0_6,
    StableHlo.TRef.binary, StableHlo.TRef.nullary, StableHlo.TRef.ternary, StableHlo.TRef.unary, StableHlo.TRef.toBuf, StableHlo.TRef.ofBuf, cast_eq]
  after_results_simp <;> rfl

theorem entry_downBias : (entry m c main_v23 : FVec F S32x1x1024 .f32) = shapeCast S32x1x1024 (m ((c : Thread nD τ).loc main_arg5) : FVec F S32x1024 .f32) shapeCasts_S32x1024_S32x1x1024 := by
  unfold entry
  simp only [stretches, List.flatten_cons, List.flatten_nil, List.append_nil, List.cons_append, List.nil_append, hostOps0, hostOps0_1, hostOps0_2, hostOps0_3, hostOps0_4, hostOps0_5, hostOps0_6,
    StableHlo.TRef.binary, StableHlo.TRef.nullary, StableHlo.TRef.ternary, StableHlo.TRef.unary, StableHlo.TRef.toBuf, StableHlo.TRef.ofBuf, cast_eq]
  after_results_simp <;> rfl

/-- and the arguments as launched. -/
theorem entry_arg0 : entry m c main_arg0 = m ((c : Thread nD τ).loc main_arg0) := by
  unfold entry
  simp only [stretches, List.flatten_cons, List.flatten_nil, List.append_nil, List.cons_append, List.nil_append, hostOps0, hostOps0_1, hostOps0_2, hostOps0_3, hostOps0_4, hostOps0_5, hostOps0_6,
    StableHlo.TRef.binary, StableHlo.TRef.nullary, StableHlo.TRef.ternary, StableHlo.TRef.unary, StableHlo.TRef.toBuf, StableHlo.TRef.ofBuf, cast_eq]
  after_results_simp <;> rfl

theorem entry_arg1 : entry m c main_arg1 = m ((c : Thread nD τ).loc main_arg1) := by
  unfold entry
  simp only [stretches, List.flatten_cons, List.flatten_nil, List.append_nil, List.cons_append, List.nil_append, hostOps0, hostOps0_1, hostOps0_2, hostOps0_3, hostOps0_4, hostOps0_5, hostOps0_6,
    StableHlo.TRef.binary, StableHlo.TRef.nullary, StableHlo.TRef.ternary, StableHlo.TRef.unary, StableHlo.TRef.toBuf, StableHlo.TRef.ofBuf, cast_eq]
  after_results_simp <;> rfl

theorem entry_arg2 : entry m c main_arg2 = m ((c : Thread nD τ).loc main_arg2) := by
  unfold entry
  simp only [stretches, List.flatten_cons, List.flatten_nil, List.append_nil, List.cons_append, List.nil_append, hostOps0, hostOps0_1, hostOps0_2, hostOps0_3, hostOps0_4, hostOps0_5, hostOps0_6,
    StableHlo.TRef.binary, StableHlo.TRef.nullary, StableHlo.TRef.ternary, StableHlo.TRef.unary, StableHlo.TRef.toBuf, StableHlo.TRef.ofBuf, cast_eq]
  after_results_simp <;> rfl

theorem entry_arg3 : entry m c main_arg3 = m ((c : Thread nD τ).loc main_arg3) := by
  unfold entry
  simp only [stretches, List.flatten_cons, List.flatten_nil, List.append_nil, List.cons_append, List.nil_append, hostOps0, hostOps0_1, hostOps0_2, hostOps0_3, hostOps0_4, hostOps0_5, hostOps0_6,
    StableHlo.TRef.binary, StableHlo.TRef.nullary, StableHlo.TRef.ternary, StableHlo.TRef.unary, StableHlo.TRef.toBuf, StableHlo.TRef.ofBuf, cast_eq]
  after_results_simp <;> rfl

theorem entry_arg4 : entry m c main_arg4 = m ((c : Thread nD τ).loc main_arg4) := by
  unfold entry
  simp only [stretches, List.flatten_cons, List.flatten_nil, List.append_nil, List.cons_append, List.nil_append, hostOps0, hostOps0_1, hostOps0_2, hostOps0_3, hostOps0_4, hostOps0_5, hostOps0_6,
    StableHlo.TRef.binary, StableHlo.TRef.nullary, StableHlo.TRef.ternary, StableHlo.TRef.unary, StableHlo.TRef.toBuf, StableHlo.TRef.ofBuf, cast_eq]
  after_results_simp <;> rfl

theorem entry_arg5 : entry m c main_arg5 = m ((c : Thread nD τ).loc main_arg5) := by
  unfold entry
  simp only [stretches, List.flatten_cons, List.flatten_nil, List.append_nil, List.cons_append, List.nil_append, hostOps0, hostOps0_1, hostOps0_2, hostOps0_3, hostOps0_4, hostOps0_5, hostOps0_6,
    StableHlo.TRef.binary, StableHlo.TRef.nullary, StableHlo.TRef.ternary, StableHlo.TRef.unary, StableHlo.TRef.toBuf, StableHlo.TRef.ofBuf, cast_eq]
  after_results_simp <;> rfl

end Cert.Experts

end
-- ==== Proof.ExpertsLaunch.lean ====
/- The expert kernel's launch: from any memory whose counts put a block in use it runs to the end without a fault, the arguments are
   unchanged, the result array holds what the points left in its blocks, and every semaphore reads zero. -/
module

public import proofs.«01_k».proof.Proof.ExpertsPipeline
public import proofs.«01_k».proof.Proof.ExpertsHost
public import Idealize.ShloMosaic.Lib.Claim

@[expose] public section

set_option maxRecDepth 16384
set_option Elab.async false

noncomputable section

namespace Cert.Experts

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation BodyObligationLoose cellOf)

variable {F : FTy → Type} [FloatOps F]

local notation "𝕄" => MT nD τ sig Unit (Elt F) ℕ (UR sig nD τ) ℕ

variable (a : (pcfg0 (F := F)).Adm) (V : (c : Dev nD) → (b : Ref sig .tc) → Buf (Elt F) ((c : Thread nD τ).loc b))
  (m : (ℓ : Loc nD τ sig) → Buf (Elt F) ℓ) (ρ : Dev nD → PrngReg)

abbrev pipelines : Fin 1 → Pipeline.Cfg sig Λ₀ := Pipeline.pin (pcfgs (F := F)) fun _ => a

/-- The launch's ghost state. -/
def u₀ : UR sig nD τ :=
  initOf (Pipeline.cells (pipelines a) ((launch0 (F := F)).cellOf_inj fun _ => a))
    (Pipeline.launchToks (pipelines a) ((launch0 (F := F)).cellOf_inj fun _ => a))

theorem share_full (c : Dev nD) (w : Fin (cfgA a).W) : (dats a V 0 c).share w = fullShare := by unfold Dat.share; split <;> rfl

theorem tables_held (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_v19) ↦{q 0} v 0) ∗ (((c : Thread nD τ).loc main_v21) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point, -/
theorem inv_first (c : Dev nD) :
    iprop(BI.emp ∗ Pipeline.prefHeld pre0 c (fun _ => fullShare.right) a.1 ∗ Pipeline.scopedRest spec0 c) ⊢ (dats a V 0 c).Φ 0 := by
  rw [tables_held, scopedRest0_eq, show (dats a V 0 c).Φ 0 = Inv a V c 0 from rfl]
  unfold Inv
  iintro ⟨-, ⟨HT0, HT1⟩, ⟨%g, HS0⟩, ⟨%d, HS1⟩⟩
  isplitl [HS0]
  · iexists g; isplitr; swap
    · iexact HS0
    · ipureintro; intro j hj; exact absurd hj (Nat.succ_ne_zero _)
  isplitl [HS1]
  · iexists d; isplitr; swap
    · iexact HS1
    · ipureintro; intro j hj; exact absurd hj (Nat.succ_ne_zero _)
  isplitl [HT0]
  · iexact HT0
  iexact HT1

/-- and after the last. -/
theorem inv_last (c : Dev nD) : (dats a V 0 c).Φ (Fin.last (cfgA a).N) ⊢ iprop(BI.emp ∗ Pipeline.scopedRest spec0 c) := by
  rw [scopedRest0_eq, show (dats a V 0 c).Φ (Fin.last (cfgA a).N) = Inv a V c (cfgA a).N from rfl]
  unfold Inv
  iintro ⟨⟨%g, -, HS0⟩, ⟨%d, -, HS1⟩, -, -⟩
  isplitr; · iempintro
  isplitl [HS0]
  · iexists g; iexact HS0
  iexists d; iexact HS1

/-- What the launch leaves: the arrays after the last block, and every other buffer outside the grid as it was entered. -/
def Left (r : PUnit × MemSt nD τ sig (Elt F)) : Prop :=
  ∀ c : Dev nD, (∀ w : Fin (cfgA a).W, r.2.mem (((cfgA a).win w).arr.view.loc (c : Thread nD τ)) = (dats a V 0 c).arrAt w (cfgA a).N)
    ∧ ∀ b ∈ Pipeline.restRefsP sig pre0 (cfgA a).spec, r.2.mem ((c : Thread nD τ).loc b) = V c b

/-- @main is the host operations, then the grid. -/
theorem main_entry : Pipeline.HMainP (Ix := Unit) (Name := ℕ) (U := UR sig nD τ) (Lvl := ℕ) (pcfgs (F := F)) 0 defs₀ Variants.none m (main (F := F)) (entry m) :=
  Pipeline.hmainP_prefixes pcfgs 0 defs₀ Variants.none m main stretches stretches_sub stretches_fresh main_chain

variable {a} (h : TablesOk (experts a) (count a))
    (h0 : ∀ c : Dev nD, entry m c main_v19 = experts a) (h1 : ∀ c : Dev nD, entry m c main_v21 = count a)
include h h0 h1

set_option backward.isDefEq.respectTransparency.types false in
set_option maxHeartbeats 4000000 in
theorem run_launch : θ_run (defs (F := F)) (onTc (τ := τ) (main (F := F))) ⟨m, fun _ => 0, ρ⟩ (fun r => Left a (entry m) r ∧ r.2.sem = fun _ => 0) :=
  Pipeline.θ_run_region_noSem_pf_quiescent pcfgs (fun _ => a) (dats a (entry m)) () ((launch0 (F := F)).cellOf_inj fun _ => a) (0 : Fin 1)
    (launch0 (F := F)).win.to₀ (launch0 (F := F)).pre emb₁ defs₀ Variants.none m ρ main
    (hbody := fun c => (body_obligation (entry m) h c).loose) (hne := (launch0 (F := F)).block_pos)
    (harr := (launch0 (F := F)).arr_whole) (hstage := (launch0 (F := F)).stage_whole) (howed := fun _ _ => rfl)
    (u₀ := u₀ a) (hu₀ := .rfl)
    (V := entry m)
    (hmain := main_entry m)
    (hsplit := fun c => Pipeline.arrays_split (pipelines a) (dats a (entry m)) 0 (launch0 (F := F)).win.arr_inj c (launch0 (F := F)).arr_whole
      (share_full a (entry m) c) _ _ fun _ => rfl)
    (hpf := fun c j => by fin_cases j; exacts [h0 c, h1 c])
    (X := fun _ => iprop(emp)) (Y := fun _ => iprop(emp))
    (Z := fun c => Pipeline.unscopedRestP (Ix := Unit) (Name := ℕ) (U := UR sig nD τ) (Lvl := ℕ) pre0 (cfgA a).spec c (entry m c))
    (hX := fun c => by
      iintro HU
      isplitr; · iempintro
      iexact HU)
    (hin := inv_first a (entry m))
    (hout := inv_last a (entry m))
    (QY := fun c s => ∀ b ∈ Pipeline.restRefsP sig pre0 (cfgA a).spec, s.mem ((c : Thread nD τ).loc b) = entry m c b)
    (hY := fun c s' => by
      iintro ⟨-, HU, HSI⟩
      unfold Pipeline.unscopedRestP
      imodintro
      iapply (pointsTo_read_all (Pipeline.restRefsP sig pre0 (cfgA a).spec) (fun b => (c : Thread nD τ).loc b) (entry m c) s')
      isplitl [HU] <;> iassumption)
    (hQ := fun _ h hz => ⟨fun c => ⟨(h c).1, (h c).2.2⟩, hz⟩)

omit h h0 h1 in
/-- Tables in range are admissible. -/
theorem at_tables (T0 : S288.Idx → Elt F .i32) (T1 : S1.Idx → Elt F .i32) (ht : TablesOk T0 T1) :
    ∃ a : (pcfg0 (F := F)).Adm, experts a = T0 ∧ count a = T1 := by
  let pf : pre0.Contents (Elt F) := fun
    | ⟨0, _⟩ => T0
    | ⟨1, _⟩ => T1
    | ⟨_ + 2, h⟩ => absurd h (Nat.not_lt.2 (Nat.le_add_left _ _))
  exact ⟨⟨pf, ok_of_tables pf ht⟩, rfl, rfl⟩

omit h h0 h1 in
/-- What the run leaves, from a memory whose counts put a block in use. -/
theorem run_main (ht : ∀ c : Dev nD, TablesOk (F := F) (expertsOf (m ((c : Thread nD τ).loc main_arg1))) (usedOf (m ((c : Thread nD τ).loc main_arg1)))) :
    ∃ a : (pcfg0 (F := F)).Adm, TablesOk (experts a) (count a)
      ∧ (∀ c : Dev nD, expertsOf (m ((c : Thread nD τ).loc main_arg1)) = experts a) ∧ (∀ c : Dev nD, usedOf (m ((c : Thread nD τ).loc main_arg1)) = count a)
      ∧ θ_run (defs (F := F)) (onTc (τ := τ) (main (F := F))) ⟨m, fun _ => 0, ρ⟩ (fun r =>
        (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
        ∧ (∀ c : Dev nD, r.2.mem ((c.tc : Thread nD τ).loc main_v24) = (dats a (entry m) 0 c).arrAt (5 : Fin 6) (cfgA a).N)
        ∧ r.2.sem = fun _ => 0) := by
  have one : ∀ c : Dev nD, c = 0 := fun c => Subsingleton.elim _ _
  obtain ⟨a, h0, h1⟩ := at_tables _ _ (ht 0)
  have e0 : ∀ c : Dev nD, expertsOf (m ((c : Thread nD τ).loc main_arg1)) = experts a := fun c => by rw [one c, h0]
  have e1 : ∀ c : Dev nD, usedOf (m ((c : Thread nD τ).loc main_arg1)) = count a := fun c => by rw [one c, h1]
  have ha : TablesOk (experts a) (count a) := by rw [h0, h1]; exact ht 0
  refine ⟨a, ha, e0, e1, (θ_run defs _ _).mono (fun r hr => ⟨fun c => ?_, fun c => (hr.1 c).1 (5 : Fin 6), hr.2⟩)
    (run_launch m ρ ha (fun c => (entry_experts m c).trans (e0 c)) (fun c => (entry_used m c).trans (e1 c)))⟩
  have rest : ∀ b : Ref sig .tc, b.isScoped = false → (∀ w, (spec0 w).arr.view.ref ≠ b) → (∀ k, pre0.ref k ≠ b) →
      r.2.mem ((c : Thread nD τ).loc b) = entry m c b := fun b hs hw hp =>
    (hr.1 c).2 b (Finset.mem_sdiff.2 ⟨Pipeline.mem_restRefs_of b hs hw, by simpa using hp⟩)
  exact ⟨(((hr.1 c).1 (0 : Fin 6)).trans ((dats a (entry m) 0 c).arrAt_in (0 : Fin 6) rfl _)).trans (entry_arg0 m c),
    (rest main_arg1 (by decide) (by decide) (by decide)).trans (entry_arg1 m c),
    (((hr.1 c).1 (1 : Fin 6)).trans ((dats a (entry m) 0 c).arrAt_in (1 : Fin 6) rfl _)).trans (entry_arg2 m c),
    (rest main_arg3 (by decide) (by decide) (by decide)).trans (entry_arg3 m c),
    (((hr.1 c).1 (3 : Fin 6)).trans ((dats a (entry m) 0 c).arrAt_in (3 : Fin 6) rfl _)).trans (entry_arg4 m c),
    (rest main_arg5 (by decide) (by decide) (by decide)).trans (entry_arg5 m c)⟩

end Cert.Experts

end
-- ==== Proof.ExpertsTables.lean ====
/- What the precondition says of the experts' tables, and the frames of the expert programs: with a block in use they run
   to the end without a fault, the arguments are unchanged and every semaphore reads zero. -/
module

public import proofs.«01_k».proof.Proof.ExpertsLaunch
public import proofs.«01_k».proof.Proof.Finite
public import proofs.«01_k».proof.Defs
public import proofs.«01_k».proof.Proof.Gen.Pre_tables
public import proofs.«01_k».proof.Proof.Gen.Kernel2
public import proofs.«01_k».proof.Proof.Gen.Reference2Ideal
public import proofs.«01_k».proof.Proof.Gen.Reference2Ideal.Run
public import Idealize.ShloMosaic.Adequacy
public import Idealize.ShloMosaic.Lib.ReduceAll
public import Idealize.ShloMosaic.Lib.Quiescent

@[expose] public section

set_option maxRecDepth 16384

noncomputable section

namespace Cert.Experts

open Cert.Kernel2Ideal Cert.Kernel2Ideal.Gen
open Idealize.ShloMosaic Idealize.SL.Sem

variable {F : FTy → Type} [FloatOps F]

/-- The precondition: some block is in use. -/
theorem tables_ok [Cert.Pre_tables.Facts] (x0 : IVec S147456x512 32) (n : IVec S32 32)
    (x2 : FVec F S32x1024x2048 .f32) (x3 : FVec F S32x2048 .f32) (x4 : FVec F S32x1024x1024 .f32) (x5 : FVec F S32x1024 .f32)
    (h : Cert.Pre_tables.fn (F := F) x0 n x2 x3 x4 x5 = fun _ => 1#1) : TablesOk (F := F) (expertsOf n) (usedOf n) := by
  have e : Host.reduce IntOp.andi (cmpi .sge (usedOf n) (fill S1 bcast_S_S1 1#32)) (constantI S_ 1 1#1) Cert.Pre_tables.Facts.reducesTo_S1_S_d0 h_S_ (fun i => i.elim0) = 1#1 :=
    congrFun h (fun i => i.elim0)
  have l : (1#32).sle (usedOf n (ix1 0)) = true := (ofBool_one _).1 (Host.reduce_andi_all _ _ _ _ _ e (ix1 0))
  rw [BitVec.sle_eq_decide, decide_eq_true_eq] at l
  exact ⟨fun j => expertsOf_lt n j, l⟩

/-- The expert kernel's frame at the extended reals. -/
theorem frame_experts_ideal : Cert.quiescent_Kernel2Ideal (hKernel2Ideal := Cert.Kernel2Ideal.Gen.facts) (hPre_tables := Cert.Pre_tables.Gen.facts) := by
  intro m g hpre
  obtain ⟨a, _, _, _, h⟩ := run_main (F := Ideal) m g fun c => tables_ok _ _ _ _ _ _ (hpre c)
  exact (θ_run Cert.Kernel2Ideal.defs _ _).mono (fun r h => ⟨h.1, h.2.2⟩) h

section
attribute [local instance] Cert.Kernel2.Gen.facts Cert.Kernel2Ideal.Gen.facts

/-- The two programs' bodies are one text. -/
theorem body_text : Cert.Kernel2.cc0_experts (F := F) = Cert.Kernel2Ideal.cc0_experts (F := F) := rfl

/-- So are the functions a point of the grid runs. -/
theorem points_text : Cert.Kernel2.defs₀ (F := F) = Cert.Kernel2Ideal.defs₀ (F := F) := by
  unfold Cert.Kernel2.defs₀ Cert.Kernel2Ideal.defs₀
  refine congrArg Defs.onTc (funext fun l => funext fun x => ?_)
  match l, x with
  | 0, (t, s) =>
    show Cert.Kernel2.cc0_experts (F := F) _ _ _ _ _ _ _ _ _ _ _ _ _ _ _ _ _ _ _ _ _ = _
    rw [body_text]
    rfl
  | ⟨_ + 1, h⟩, _ => exact absurd h (Nat.not_lt.2 (Nat.le_add_left _ _))

set_option maxHeartbeats 4000000 in
/-- So are all the programs' functions, -/
theorem defs_text : Cert.Kernel2.defs (F := F) = Cert.Kernel2Ideal.defs (F := F) :=
  congrArg (Pipeline.defs (Cert.Kernel2Ideal.pcfgs (F := F))) points_text

/-- and what they are launched with. -/
theorem main_text : Cert.Kernel2.main (F := F) = Cert.Kernel2Ideal.main (F := F) := by chain_rfl

end

set_option maxHeartbeats 4000000 in
/-- The expert kernel's frame at words: the program's text is the same. -/
theorem frame_experts : Cert.quiescent_Kernel2 (hKernel2 := Cert.Kernel2.Gen.facts) (hPre_tables := Cert.Pre_tables.Gen.facts) := by
  intro m g hpre
  rw [defs_text, main_text]
  obtain ⟨a, _, _, _, h⟩ := run_main (F := Bits) m g fun c => tables_ok _ _ _ _ _ _ (hpre c)
  exact (θ_run Cert.Kernel2Ideal.defs _ _).mono (fun r h => ⟨h.1, h.2.2⟩) h

/-- The experts' reference ends with its arguments as they were and every counter at zero. -/
theorem frame_experts_reference : Cert.quiescent_Reference2Ideal (hReference2Ideal := Cert.Reference2Ideal.Gen.facts) := fun m g _ =>
  (θ_run _ _ _).mono (fun r h => ⟨fun c => (h c).2, sem_eq_zero_of_no_sems (by decide) r.2⟩) (Cert.Reference2Ideal.Value.run m g)

end Cert.Experts
-- ==== Proof.ExpertsValue.lean ====
/- A row through an expert, over the extended reals, and the block the expert kernel's body leaves read at an entry. -/
module

public import proofs.«01_k».proof.Proof.ExpertsBlock
public import Idealize.ShloMosaic.Lib.Pointwise
public import Idealize.ShloMosaic.Lib.IdealHost

@[expose] public section

set_option maxRecDepth 16384

noncomputable section

namespace Cert.Experts

open Finset Idealize.ShloMosaic
open Cert.Kernel2Ideal Cert.Kernel2Ideal.Gen
open scoped BigOperators

/-- The clip's bound above. -/
abbrev seven : EReal := Ideal.ofBits .f32 0x40E00000#32
/-- The clip's bound below. -/
abbrev minusSeven : EReal := Ideal.ofBits .f32 0xC0E00000#32
/-- The sigmoid's factor. -/
abbrev alpha : EReal := Ideal.ofBits .f32 0x3FD9DB23#32

/-- A gate's value clipped from above. -/
def clipGate (g : EReal) : EReal := min g seven

/-- The activation of a gate's value and a linear one: the clipped gate times its sigmoid, times one more than the clipped
    linear value. -/
def act (g u : EReal) : EReal :=
  (min seven (max minusSeven u) + 1) * (clipGate g * Ideal.div 1 (1 + Ideal.exp (-(clipGate g * alpha))))

/-- A row times the expert's first weights, with its bias. -/
def hidden (x : Fin 1024 → EReal) (G : Fin 1024 → Fin 2048 → EReal) (b : Fin 2048 → EReal) (n : Fin 2048) : EReal :=
  ∑ k, x k * G k n + b n

/-- A row through an expert. -/
def expert (x : Fin 1024 → EReal) (G : Fin 1024 → Fin 2048 → EReal) (b : Fin 2048 → EReal)
    (D : Fin 1024 → Fin 1024 → EReal) (b' : Fin 1024 → EReal) (n : Fin 1024) : EReal :=
  ∑ k : Fin 1024, act (hidden x G b ⟨k, by omega⟩) (hidden x G b ⟨1024 + k, by omega⟩) * D k n + b' n

/-- The kernel's factor is the reference's, negated. -/
theorem alpha_neg : Ideal.ofBits .f32 0xBFD9DB23#32 = -alpha := by
  simp [alpha, Ideal.ofBits, Ideal.ieee]

/-- Dividing by the sigmoid's denominator multiplies by its inverse. -/
theorem div_sigmoid (g e : EReal) (he : 0 ≤ e) : Ideal.div g (1 + e) = g * Ideal.div 1 (1 + e) := by
  have h : (1 + e : EReal) ≠ 0 := by
    have : (0 : EReal) < 1 + e := lt_of_lt_of_le zero_lt_one (le_add_of_nonneg_right he)
    exact this.ne'
  unfold Ideal.div
  rw [if_neg h, if_neg h, one_mul]

/-- An exponential is not negative. -/
theorem exp_nonneg (x : EReal) : 0 ≤ Ideal.exp x := by
  induction x with
  | bot => exact le_refl _
  | top => exact le_top
  | coe r => exact EReal.coe_nonneg.2 (Real.exp_pos r).le

/-- The bfloat16 in the low half of a word, -/
def low (w : BitVec 32) : EReal := Ideal.ofBits .bf16 (w.setWidth 16)
/-- and the one in the high half. -/
def high (w : BitVec 32) : EReal := Ideal.ofBits .bf16 ((w >>> 16#32).setWidth 16)

/-- A bfloat16's number, when zeros follow its bits, is a float32's. -/
theorem widen (b : BitVec 16) (B : BitVec 32) (h : B.toNat = 65536 * b.toNat) : Ideal.ofBits .f32 B = Ideal.ofBits .bf16 b := by
  have hb := b.isLt
  have hs : B.extractLsb' (8 + 23) 1 = b.extractLsb' (8 + 7) 1 := by
    refine BitVec.eq_of_toNat_eq ?_
    simp only [BitVec.extractLsb'_toNat, Nat.shiftRight_eq_div_pow, h]
    omega
  have he : (B.extractLsb' 23 8).toNat = (b.extractLsb' 7 8).toNat := by
    simp only [BitVec.extractLsb'_toNat, Nat.shiftRight_eq_div_pow, h]
    omega
  have hf : (B.extractLsb' 0 23).toNat = 65536 * (b.extractLsb' 0 7).toNat := by
    simp only [BitVec.extractLsb'_toNat, Nat.shiftRight_eq_div_pow, h]
    omega
  show Ideal.ieee 8 23 B = Ideal.ieee 8 7 b
  unfold Ideal.ieee
  simp only [hs, he, hf]
  generalize (b.extractLsb' 7 8).toNat = e
  generalize (b.extractLsb' 0 7).toNat = f
  generalize (b.extractLsb' (8 + 7) 1 == 1#1) = s
  have hz : (65536 * f = 0) = (f = 0) := by simp
  have hp (x : ℤ) : (2 : ℝ) ^ (x - (7 : ℕ)) = 65536 * (2 : ℝ) ^ (x - (23 : ℕ)) := by
    rw [show x - (7 : ℕ) = 16 + (x - (23 : ℕ)) by push_cast; ring, zpow_add₀ two_ne_zero]
    norm_num
  rw [hp, hp]
  simp only [hz]
  split
  · rfl
  · split
    · exact congrArg _ (by push_cast; ring)
    · exact congrArg _ (by push_cast; ring)

/-- What the kernel makes of the low half is its number, -/
theorem low_word (w : BitVec 32) : Ideal.ofBits .f32 (w <<< 16#32) = low w := by
  refine widen _ _ ?_
  simp [BitVec.toNat_shiftLeft, Nat.shiftLeft_eq]
  omega

/-- and so of the high one. -/
theorem high_word (w : BitVec 32) : Ideal.ofBits .f32 (IntOp.andi w 4294901760#32) = high w := by
  refine widen _ _ ?_
  have e : IntOp.andi w 4294901760#32 = (w >>> 16) <<< 16 := by
    show w &&& 4294901760#32 = _
    ext i hi
    interval_cases i <;> simp
  rw [e]
  simp [BitVec.toNat_shiftLeft, Nat.shiftLeft_eq, Nat.shiftRight_eq_div_pow]
  omega

theorem shli_16 (u : ArithUnit) (w : BitVec 32) : IntOp.shli u w 16#32 = w <<< 16#32 := if_pos (by decide)

/-- A row's columns from its words: the low halves, then the high ones. -/
def unpack (w : Fin 512 → BitVec 32) (k : Fin 1024) : EReal :=
  if h : k.val < 512 then low (w ⟨k.val, h⟩) else high (w ⟨k.val - 512, by omega⟩)

/-- A sum over a row's columns, by halves. -/
theorem sum_unpack (w : Fin 512 → BitVec 32) (f : Fin 1024 → EReal) :
    ∑ k, unpack w k * f k = ∑ k : Fin 512, low (w k) * f ⟨k, by omega⟩ + ∑ k : Fin 512, high (w k) * f ⟨512 + k, by omega⟩ := by
  refine (Fin.sum_univ_add (a := 512) (b := 512) (fun k : Fin 1024 => unpack w k * f k)).trans ?_
  refine congrArg₂ (· + ·) (sum_congr rfl fun k _ => congrArg (· * _) ?_) (sum_congr rfl fun k _ => congrArg (· * _) ?_)
  · exact dif_pos k.isLt
  · have h : ¬ (Fin.natAdd 512 k).val < 512 := Nat.not_lt.2 (Nat.le_add_right 512 k.val)
    refine (dif_neg h).trans (congrArg (fun x => high (w x)) (Fin.ext ?_))
    exact Nat.add_sub_cancel_left 512 k.val

theorem pay5_apply (x : IVec S256x512 32) (lo hi : Vec Ideal S512x2048 .bf16) (b : Vec Ideal S1x1x2048 .f32) (r : Fin 256) (n : Fin 2048) :
    k0_pay5 (F := Ideal) x lo hi b (ix2 r n) = ∑ k : Fin 512, low (x (ix2 r k)) * lo (ix2 k n)
      + ∑ k : Fin 512, high (x (ix2 r k)) * hi (ix2 k n) + b (ix3 0 0 n) := by
  unfold k0_pay5
  pointwise
  simp only [shli_16, low_word, high_word]

theorem pay9_apply (z : FVec Ideal S256x2048 .f32) (D : Vec Ideal S1024x1024 .bf16) (b' : Vec Ideal S1x1x1024 .f32) (r : Fin 256) (n : Fin 1024) :
    k0_pay9 (F := Ideal) z D b' (ix2 r n) = ∑ k : Fin 1024, (min seven (max minusSeven (z (ix2 r ⟨1024 + k, by omega⟩))) + 1) *
      Ideal.div (clipGate (z (ix2 r ⟨k, by omega⟩))) (1 + Ideal.exp (Ideal.ofBits .f32 0xBFD9DB23#32 * clipGate (z (ix2 r ⟨k, by omega⟩)))) * D (ix2 k n) + b' (ix3 0 0 n) := by
  unfold k0_pay9
  pointwise
  simp only [clipGate]

/-- The gate's and the linear value of a row of half a block. -/
theorem pre_apply (x : IVec S256x512 32) (G : S1024x2048.Idx → EReal) (b : Vec Ideal S1x1x2048 .f32) (r : Fin 256) (n : Fin 2048) :
    k0_pay5 (F := Ideal) x (View.ld (Val := Elt Ideal) (e' := .bf16) G (Rect.unit (s := S1024x2048) ![0, 0] S512x2048.size inb_S1024x2048_S512x2048_0_0))
      (View.ld (Val := Elt Ideal) (e' := .bf16) G (Rect.unit (s := S1024x2048) ![512, 0] S512x2048.size inb_S1024x2048_S512x2048_512_0)) b (ix2 r n)
      = hidden (unpack fun k => x (ix2 r k)) (fun k n => G (ix2 k n)) (fun n => b (ix3 0 0 n)) n := by
  rw [pay5_apply, hidden, sum_unpack]
  refine congrArg (· + b (ix3 0 0 n)) ?_
  refine congrArg₂ (· + ·) (sum_congr rfl fun k _ => ?_) (sum_congr rfl fun k _ => ?_)
  · refine congrArg (low (x (ix2 r k)) * ·) (View.ld_unit_apply_of (Val := Elt Ideal) (e := .bf16) G _ _ _ (ix2 k n) (ix2 ⟨k, by omega⟩ n) fun a => ?_)
    match a with
    | ⟨0, _⟩ => exact (Nat.zero_add _).symm
    | ⟨1, _⟩ => exact (Nat.zero_add _).symm
  · refine congrArg (high (x (ix2 r k)) * ·) (View.ld_unit_apply_of (Val := Elt Ideal) (e := .bf16) G _ _ _ (ix2 k n) (ix2 ⟨512 + k, by omega⟩ n) fun a => ?_)
    match a with
    | ⟨0, _⟩ => rfl
    | ⟨1, _⟩ => exact (Nat.zero_add _).symm

/-- A row of half a block through the expert. -/
theorem half_apply (x : IVec S256x512 32) (G : S1024x2048.Idx → EReal) (b : Vec Ideal S1x1x2048 .f32)
    (D : S1024x1024.Idx → EReal) (b' : Vec Ideal S1x1x1024 .f32) (r : Fin 256) (n : Fin 1024) :
    half (F := Ideal) x G b D b' (ix2 r n) = expert (unpack fun k => x (ix2 r k)) (fun k n => G (ix2 k n)) (fun n => b (ix3 0 0 n))
      (fun k n => D (ix2 k n)) (fun n => b' (ix3 0 0 n)) n := by
  unfold half
  dsimp only
  refine (pay9_apply _ _ _ r n).trans ?_
  rw [expert]
  refine congrArg (· + b' (ix3 0 0 n)) (sum_congr rfl fun k _ => congrArg (· * D (ix2 k n)) ?_)
  rw [pre_apply, pre_apply, div_sigmoid _ _ (exp_nonneg _), alpha_neg, EReal.neg_mul, mul_comm alpha]
  rfl

/-- The upper half of a block. -/
abbrev upper : Rect S512x1024 := Rect.unit (s := S512x1024) ![0, 0] S256x1024.size inb_S512x1024_S256x1024_0_0
/-- The lower half of a block. -/
abbrev lower : Rect S512x1024 := Rect.unit (s := S512x1024) ![256, 0] S256x1024.size inb_S512x1024_S256x1024_256_0

theorem upper_at (r : Fin 512) (hr : r.val < 256) (n : Fin 1024) :
    (ix2 r n : S512x1024.Idx) = upper.emb (ix2 (n0 := 256) (n1 := 1024) ⟨r, hr⟩ n) := funext fun a => Fin.ext <| by
  refine Eq.trans ?_ (Rect.idx_unit_val _ _ _ _ a).symm
  match a with
  | ⟨0, _⟩ => exact (Nat.zero_add _).symm
  | ⟨1, _⟩ => exact (Nat.zero_add _).symm

theorem lower_at (r : Fin 512) (hr : ¬ r.val < 256) (n : Fin 1024) :
    (ix2 r n : S512x1024.Idx) = lower.emb (ix2 (n0 := 256) (n1 := 1024) ⟨r - 256, by omega⟩ n) := funext fun a => Fin.ext <| by
  refine Eq.trans ?_ (Rect.idx_unit_val _ _ _ _ a).symm
  match a with
  | ⟨0, _⟩ => show r.val = 256 + (r.val - 256); omega
  | ⟨1, _⟩ => exact (Nat.zero_add _).symm

/-- Two halves of a block, written one after the other, read at an entry. -/
theorem halves_apply (w w' : S256x1024.Idx → EReal) (r : Fin 512) (n : Fin 1024) :
    View.canon (Val := Elt Ideal) (s := S512x1024) (e := .bf16) [⟨lower, w⟩, ⟨upper, w'⟩] (ix2 r n)
      = if h : r.val < 256 then w' (ix2 ⟨r, h⟩ n) else w (ix2 ⟨r - 256, by omega⟩ n) := by
  by_cases h : r.val < 256
  · rw [dif_pos h]
    have hm : (ix2 r n : S512x1024.Idx) ∉ lower.set := fun hm => by
      have hm := (Rect.mem_set_unit (inb := inb_S512x1024_S256x1024_256_0)).1 hm 0
      have : 256 ≤ r.val := hm.1
      omega
    refine (View.canon_cons_of_not_mem (Val := Elt Ideal) (e := .bf16) ⟨lower, w⟩ [⟨upper, w'⟩] hm).trans ?_
    rw [upper_at r h n]
    exact View.canon_cons_emb (Val := Elt Ideal) (e := .bf16) upper w' [] _
  · rw [dif_neg h, lower_at r h n]
    exact View.canon_cons_emb (Val := Elt Ideal) (e := .bf16) lower w _ _

/-- A row of words of half a block is one of the block. -/
theorem words_at (x : S512x512.Idx → BitVec 32) (o : ℕ) (inb : ∀ a, (![o, 0] : Fin 2 → ℕ) a + S256x512.size a ≤ S512x512.size a)
    (r : Fin 512) (i : Fin 256) (hr : r.val = o + i.val) (k : Fin 512) :
    View.ld (Val := Elt Ideal) (e' := .i32) x (Rect.unit (s := S512x512) ![o, 0] S256x512.size inb) (ix2 i k) = x (ix2 r k) := by
  refine View.ld_unit_apply_of (Val := Elt Ideal) (e := .i32) x _ _ _ (ix2 i k) (ix2 r k) fun a => ?_
  match a with
  | ⟨0, _⟩ => exact hr
  | ⟨1, _⟩ => exact (Nat.zero_add _).symm

/-- A row of a block through the expert. -/
theorem block_apply (x : S512x512.Idx → BitVec 32) (G : S1024x2048.Idx → EReal) (b : S1x1x2048.Idx → EReal)
    (D : S1024x1024.Idx → EReal) (b' : S1x1x1024.Idx → EReal) (r : Fin 512) (n : Fin 1024) :
    block (F := Ideal) x G b D b' (ix2 r n) = expert (unpack fun k => x (ix2 r k)) (fun k n => G (ix2 k n)) (fun n => b (ix3 0 0 n))
      (fun k n => D (ix2 k n)) (fun n => b' (ix3 0 0 n)) n := by
  unfold block
  refine (halves_apply _ _ r n).trans ?_
  split
  · rename_i h
    refine (half_apply _ _ _ _ _ _ n).trans ?_
    refine congrArg (fun y => expert (unpack y) _ _ _ _ n) (funext fun k => ?_)
    exact words_at x 0 _ r ⟨r, h⟩ (Nat.zero_add _).symm k
  · rename_i h
    refine (half_apply _ _ _ _ _ _ n).trans ?_
    refine congrArg (fun y => expert (unpack y) _ _ _ _ n) (funext fun k => ?_)
    exact words_at x 256 _ r ⟨r - 256, by omega⟩ (show r.val = 256 + (r.val - 256) by omega) k

theorem pay1_apply (W : S1x1024x2048.Idx → EReal) (k : Fin 1024) (n : Fin 2048) : k0_pay1 (F := Ideal) W (ix2 k n) = W (ix3 0 k n) := by
  unfold k0_pay1
  pointwise

theorem pay2_apply (W : S1x1024x1024.Idx → EReal) (k n : Fin 1024) : k0_pay2 (F := Ideal) W (ix2 k n) = W (ix3 0 k n) := by
  unfold k0_pay2
  pointwise

theorem pay4_apply (r : Fin 512) (n : Fin 1024) : k0_pay4 (F := Ideal) (ix2 r n) = (0 : EReal) := by
  unfold k0_pay4
  pointwise

end Cert.Experts
-- ==== Proof.ExpertsReference.lean ====
/- The experts' reference read at an entry: a row of a block in use goes through the block's expert, the other rows are zero. -/
module

public import proofs.«01_k».proof.Proof.ExpertsValue
public import proofs.«01_k».proof.Proof.ExpertsPipeline
public import proofs.«01_k».proof.Proof.ExpertsHost
public import proofs.«01_k».proof.Proof.Gen.Reference2Ideal
public import proofs.«01_k».proof.Proof.Gen.Reference2Ideal.Run
public import Idealize.ShloMosaic.Lib.Pointwise
public import Idealize.ShloMosaic.Lib.IdealHost
public import Idealize.ShloMosaic.Lib.KernelVsHost

@[expose] public section

set_option maxRecDepth 16384

noncomputable section

namespace Cert.Experts.Ref

open Finset Idealize.ShloMosaic
open Cert.Reference2Ideal Cert.Reference2Ideal.Gen
open scoped BigOperators

/-! ## Taking each block's expert -/

section Take
variable {α : Type} {N A B R : ℕ}

/-- The dimension numbers of a take along the leading axis of three. -/
abbrev takeDims (N A B R : ℕ) (wf : GatherDims.WF ⟨3, ![N, A, B]⟩ ⟨2, ![R, 1]⟩ ⟨3, ![R, A, B]⟩ [1, 2] [0] [] [0] [] 1 ![1, A, B]) :
    GatherDims ⟨3, ![N, A, B]⟩ ⟨2, ![R, 1]⟩ ⟨3, ![R, A, B]⟩ where
  offsetDims := [1, 2]
  collapsedSliceDims := [0]
  operandBatchingDims := []
  startIndicesBatchingDims := []
  startIndexMap := [0]
  indexVectorDim := 1
  sliceSizes := ![1, A, B]
  wf := wf

/-- A take read at an entry: the entry of the slice whose number is the start index, clamped to the slices there are. -/
theorem take_apply (hN : 0 < N) (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (r : Fin R) (a : Fin A) (b : Fin B) :
    Host.gather (takeDims N A B R wf) x idx (ix3 r a b) = x (ix3 ⟨min (idx (ix2 r 0)).toInt.toNat (N - 1), by omega⟩ a b) := by
  unfold Host.gather
  congr 1
  funext d
  refine Fin.ext ?_
  show (takeDims N A B R wf).start (ix3 r a b) idx d + (takeDims N A B R wf).batchCoord (ix3 r a b) d + (takeDims N A B R wf).offCoord (ix3 r a b) d = _
  rw [GatherDims.batchCoord_eq_zero _ _ _ List.not_mem_nil, Nat.add_zero]
  have hd : d = 0 ∨ d = 1 ∨ d = 2 := by
    match d with
    | ⟨0, _⟩ => exact Or.inl rfl
    | ⟨1, _⟩ => exact Or.inr (Or.inl rfl)
    | ⟨2, _⟩ => exact Or.inr (Or.inr rfl)
  rcases hd with rfl | rfl | rfl
  · rw [GatherDims.offCoord_eq_zero _ _ _ (fun h => ((GatherDims.mem_sKept _ _).mp h).1 (List.mem_singleton.mpr rfl)), Nat.add_zero]
    unfold GatherDims.start
    rw [dif_pos (show (0 : Fin 3) ∈ (takeDims N A B R wf).startIndexMap from List.mem_singleton.mpr rfl)]
    have hsi : (takeDims N A B R wf).siIdx (ix3 r a b) ⟨List.idxOf (0 : Fin 3) (takeDims N A B R wf).startIndexMap,
        List.idxOf_lt_length_iff.2 (List.mem_singleton.mpr rfl)⟩ = ix2 r 0 := by
      funext e; refine Fin.ext ?_
      match e with
      | ⟨0, _⟩ => rfl
      | ⟨1, _⟩ => rfl
    rw [hsi]
    rfl
  · unfold GatherDims.start
    rw [dif_neg (by simp), Nat.zero_add]
    unfold GatherDims.offCoord
    rw [dif_pos ((GatherDims.mem_sKept _ _).mpr ⟨by simp, List.not_mem_nil⟩)]
    rfl
  · unfold GatherDims.start
    rw [dif_neg (by simp), Nat.zero_add]
    unfold GatherDims.offCoord
    rw [dif_pos ((GatherDims.mem_sKept _ _).mpr ⟨by simp, List.not_mem_nil⟩)]
    rfl

end Take

/-- A number of an expert in range is the start index the take reads. -/
theorem taken {w : BitVec 32} (h : w.toNat < 32) : (⟨min w.toInt.toNat (32 - 1), by omega⟩ : Fin 32) = expertNo w := by
  refine Fin.ext ?_
  show min w.toInt.toNat (32 - 1) = w.toNat % 32
  rw [BitVec.toInt_eq_toNat_cond, if_pos (by omega)]
  omega

/-! ## Each block's expert -/

/-- Whether an expert's rows end before a block, as a word, the experts along the first axis. -/
def before (n : IVec S32 32) : IVec S32x288 32 :=
  extui 32 (cmpi .sle (broadcastInDim S32x288 ![0, 1] bcast_S32x1_S32x288_0_1 (broadcastInDim S32x1 ![0] bcast_S32_S32x1_0 (ends n)))
    (broadcastInDim S32x288 ![0, 1] bcast_S1x288_S32x288_0_1 (broadcastInDim S1x288 ![1] bcast_S288_S1x288_1
      (muli (iotaInDim S288 32 0) (fill S288 bcast_S_S288 512#32))))) natLt_1_32

/-- Each block's expert as the reference searches it: the place of the block's first row in the experts' ends. -/
def found (n : IVec S32 32) : IVec S288 32 :=
  minsi (Host.reduce IntOp.addi (before n) (constantI S_ 32 0#32) reducesTo_S32x288_S288_d0 h_S_) (fill S288 bcast_S_S288 31#32)

theorem before_apply (n : IVec S32 32) (e : Fin 32) (j : Fin 288) : before n (ix2 e j) = passed n (ix2 j e) := by
  unfold before passed
  generalize ends n = x
  pointwise

/-- It is the expert the kernel's host code counts. -/
theorem found_eq (n : IVec S32 32) : found n = expertsOf n := by
  have hr : S32x288.Reduces [0] S288 := by decide
  have hr' : Cert.Kernel2Ideal.S288x32.Reduces [1] S288 := by decide
  funext i
  obtain ⟨j, rfl⟩ : ∃ j : Fin 288, i = ix1 j := ⟨i 0, eq_ix1 i⟩
  refine congrArg (IntOp.minsi · 31#32) ?_
  refine (Host.reduce_eq_fold_single IntOp.addi (before n) (constantI S_ 32 0#32) reducesTo_S32x288_S288_d0 hr h_S_ (ix1 j)).trans
    (Eq.trans ?_ (Host.reduce_eq_fold_single IntOp.addi (passed n) (constantI S_ 32 0#32) Cert.Kernel2Ideal.Gen.reducesTo_S288x32_S288_d1 hr' h_S_ (ix1 j)).symm)
  have hf : (fun k : Fin 32 => before n (hr.lift (ix1 j) k)) = fun k : Fin 32 => passed n (hr'.lift (ix1 j) k) := funext fun k => by
    have e : hr.lift (ix1 j) k = ix2 k j := by
      funext d; refine Fin.ext ?_
      match d with
      | ⟨0, _⟩ => rfl
      | ⟨1, _⟩ => rfl
    have e' : hr'.lift (ix1 j) k = ix2 j k := by
      funext d; refine Fin.ext ?_
      match d with
      | ⟨0, _⟩ => rfl
      | ⟨1, _⟩ => rfl
    rw [e, e', before_apply]
  exact congrArg (fun f => Finset.fold IntOp.addi 0#32 f (Finset.univ : Finset (Fin 32))) hf

/-! ## The reference's stages -/

/-- Each block's number of its expert, as a column. -/
def starts (T : IVec S288 32) : IVec S288x1 32 := broadcastInDim S288x1 ![0] bcast_S288_S288x1_0 T

/-- The dispatched rows' columns from their words. -/
def hostRows (x : IVec S147456x512 32) : FVec Ideal S147456x1024 .bf16 :=
  concatenate S147456x1024 1 [⟨S147456x512, bitcastToFloat (F := Ideal) .bf16 (trunci 16 x natLt_16_32)⟩,
    ⟨S147456x512, bitcastToFloat (F := Ideal) .bf16 (trunci 16 (Host.shrui x (broadcastInDim S147456x512 ![] bcast_S_S147456x512 (constantI S_ 32 16#32))) natLt_16_32)⟩] concatenates_S147456x512_S147456x512_S147456x1024_d1

/-- The gates' and the linear values of every block. -/
def hostHidden (x : FVec Ideal S147456x1024 .bf16) (T : IVec S288 32) (W : FVec Ideal S32x1024x2048 .f32) (b : FVec Ideal S32x1x2048 .f32) :
    FVec Ideal S288x512x2048 .f32 :=
  addf (Host.dotGeneral dot_S288x512x1024_S288x1024x2048_S288x512x2048_2_1_1_2_0_0 none (shapeCast _ (extf .f32 x bitsLt_bf16_f32) shapeCasts_S147456x1024_S288x512x1024)
    (Host.gather gather_S32x1024x2048_S288x1_S288x1024x2048_12_0_n_n_0_1_110242048 W (starts T)))
    (broadcastInDim S288x512x2048 ![0, 1, 2] bcast_S288x1x2048_S288x512x2048_0_1_2 (Host.gather gather_S32x1x2048_S288x1_S288x1x2048_12_0_n_n_0_1_112048 b (starts T)))

/-- The clipped gates. -/
def hostGate (h : FVec Ideal S288x512x2048 .f32) : FVec Ideal S288x512x1024 .f32 :=
  minimumf (extractStridedSlice S288x512x1024 ![0, 0, 0] h slices_S288x512x2048_S288x512x1024_0_0_0) (broadcastInDim S288x512x1024 ![] bcast_S_S288x512x1024 (constant S_ .f32 0x40E00000#32))

/-- The activations of every block. -/
def hostAct (h : FVec Ideal S288x512x2048 .f32) : FVec Ideal S288x512x1024 .f32 :=
  mulf (addf (minimumf (broadcastInDim S288x512x1024 ![] bcast_S_S288x512x1024 (id (constant S_ .f32 0x40E00000#32))) (maximumf (broadcastInDim S288x512x1024 ![] bcast_S_S288x512x1024 (id (constant S_ .f32 0xC0E00000#32))) (extractStridedSlice S288x512x1024 ![0, 0, 1024] h slices_S288x512x2048_S288x512x1024_0_0_1024))) (broadcastInDim S288x512x1024 ![] bcast_S_S288x512x1024 (constant S_ .f32 0x3F800000#32)))
    (mulf (hostGate h) (Host.divf (broadcastInDim S288x512x1024 ![] bcast_S_S288x512x1024 (constant S_ .f32 0x3F800000#32)) (addf (broadcastInDim S288x512x1024 ![] bcast_S_S288x512x1024 (constant S_ .f32 0x3F800000#32)) (Host.exp (Host.negf (mulf (hostGate h) (broadcastInDim S288x512x1024 ![] bcast_S_S288x512x1024 (constant S_ .f32 0x3FD9DB23#32))))))))

/-- Every block through its expert. -/
def hostOut (h : FVec Ideal S288x512x1024 .f32) (T : IVec S288 32) (W : FVec Ideal S32x1024x1024 .f32) (b : FVec Ideal S32x1x1024 .f32) :
    FVec Ideal S288x512x1024 .f32 :=
  addf (Host.dotGeneral dot_S288x512x1024_S288x1024x1024_S288x512x1024_2_1_1_2_0_0 none h (Host.gather gather_S32x1024x1024_S288x1_S288x1024x1024_12_0_n_n_0_1_110241024 W (starts T)))
    (broadcastInDim S288x512x1024 ![0, 1, 2] bcast_S288x1x1024_S288x512x1024_0_1_2 (Host.gather gather_S32x1x1024_S288x1_S288x1x1024_12_0_n_n_0_1_111024 b (starts T)))

/-- The blocks in use, the others zero, one below the other. -/
def hostUsed (y : FVec Ideal S288x512x1024 .f32) (n : IVec S1 32) : FVec Ideal S147456x1024 .bf16 :=
  truncf .bf16 (shapeCast _ (select (broadcastInDim S288x512x1024 ![0, 1, 2] bcast_S288x1x1_S288x512x1024_0_1_2 (cmpi .slt (broadcastInDim S288x1x1 ![0] bcast_S288_S288x1x1_0 (iotaInDim S288 32 0)) (broadcastInDim S288x1x1 ![] bcast_S_S288x1x1 (shapeCast _ n shapeCasts_S1_S_)))) y (broadcastInDim S288x512x1024 ![] bcast_S_S288x512x1024 (id (constant S_ .f32 0x00000000#32)))) shapeCasts_S288x512x1024_S147456x1024) bitsLt_bf16_f32

theorem hostRows_apply (x : IVec S147456x512 32) (r : Fin 147456) (k : Fin 1024) : hostRows x (ix2 r k) = unpack (fun k => x (ix2 r k)) k := by
  unfold hostRows unpack
  pointwise
  rfl

section
variable (T : IVec S288 32) (j : Fin 288)

theorem starts_apply : starts T (ix2 j 0) = expertOf (F := Ideal) T j := by
  unfold starts
  pointwise
  rfl

variable (hT : (expertOf (F := Ideal) T j).toNat < 32)
include hT

theorem gate_taken (W : FVec Ideal S32x1024x2048 .f32) (k : Fin 1024) (n : Fin 2048) :
    Host.gather gather_S32x1024x2048_S288x1_S288x1024x2048_12_0_n_n_0_1_110242048 W (starts T) (ix3 j k n) = W (ix3 (expertNo (expertOf (F := Ideal) T j)) k n) := by
  refine (take_apply (N := 32) (by decide) gather_S32x1024x2048_S288x1_S288x1024x2048_12_0_n_n_0_1_110242048_wf W (starts T) j k n).trans ?_
  rw [← taken hT]
  simp only [starts_apply]

theorem gateBias_taken (W : FVec Ideal S32x1x2048 .f32) (n : Fin 2048) :
    Host.gather gather_S32x1x2048_S288x1_S288x1x2048_12_0_n_n_0_1_112048 W (starts T) (ix3 j 0 n) = W (ix3 (expertNo (expertOf (F := Ideal) T j)) 0 n) := by
  refine (take_apply (N := 32) (by decide) gather_S32x1x2048_S288x1_S288x1x2048_12_0_n_n_0_1_112048_wf W (starts T) j 0 n).trans ?_
  rw [← taken hT]
  simp only [starts_apply]

theorem down_taken (W : FVec Ideal S32x1024x1024 .f32) (k n : Fin 1024) :
    Host.gather gather_S32x1024x1024_S288x1_S288x1024x1024_12_0_n_n_0_1_110241024 W (starts T) (ix3 j k n) = W (ix3 (expertNo (expertOf (F := Ideal) T j)) k n) := by
  refine (take_apply (N := 32) (by decide) gather_S32x1024x1024_S288x1_S288x1024x1024_12_0_n_n_0_1_110241024_wf W (starts T) j k n).trans ?_
  rw [← taken hT]
  simp only [starts_apply]

theorem downBias_taken (W : FVec Ideal S32x1x1024 .f32) (n : Fin 1024) :
    Host.gather gather_S32x1x1024_S288x1_S288x1x1024_12_0_n_n_0_1_111024 W (starts T) (ix3 j 0 n) = W (ix3 (expertNo (expertOf (F := Ideal) T j)) 0 n) := by
  refine (take_apply (N := 32) (by decide) gather_S32x1x1024_S288x1_S288x1x1024_12_0_n_n_0_1_111024_wf W (starts T) j 0 n).trans ?_
  rw [← taken hT]
  simp only [starts_apply]

theorem hostHidden_apply (x : FVec Ideal S147456x1024 .bf16) (W : FVec Ideal S32x1024x2048 .f32) (b : FVec Ideal S32x1x2048 .f32) (i : Fin 512) (n : Fin 2048) :
    hostHidden x T W b (ix3 j i n) = hidden (fun k => x (ix2 ⟨512 * j + i, by omega⟩ k))
      (fun k n => W (ix3 (expertNo (expertOf (F := Ideal) T j)) k n)) (fun n => b (ix3 (expertNo (expertOf (F := Ideal) T j)) 0 n)) n := by
  have e := gate_taken T j hT W
  have e' := gateBias_taken T j hT b
  unfold hostHidden
  generalize Host.gather gather_S32x1024x2048_S288x1_S288x1024x2048_12_0_n_n_0_1_110242048 W (starts T) = Y at *
  generalize Host.gather gather_S32x1x2048_S288x1_S288x1x2048_12_0_n_n_0_1_112048 b (starts T) = Z at *
  unfold hidden
  pointwise
  simp only [e, e', Nat.mul_comm j.val]

theorem hostOut_apply (h : FVec Ideal S288x512x1024 .f32) (W : FVec Ideal S32x1024x1024 .f32) (b : FVec Ideal S32x1x1024 .f32) (i : Fin 512) (n : Fin 1024) :
    hostOut h T W b (ix3 j i n) = ∑ k : Fin 1024, h (ix3 j i k) * W (ix3 (expertNo (expertOf (F := Ideal) T j)) k n) + b (ix3 (expertNo (expertOf (F := Ideal) T j)) 0 n) := by
  have e := down_taken T j hT W
  have e' := downBias_taken T j hT b
  unfold hostOut
  generalize Host.gather gather_S32x1024x1024_S288x1_S288x1024x1024_12_0_n_n_0_1_110241024 W (starts T) = Y at *
  generalize Host.gather gather_S32x1x1024_S288x1_S288x1x1024_12_0_n_n_0_1_111024 b (starts T) = Z at *
  pointwise
  simp only [e, e']

end

theorem hostGate_apply (h : FVec Ideal S288x512x2048 .f32) (j : Fin 288) (i : Fin 512) (k : Fin 1024) : hostGate h (ix3 j i k) = clipGate (h (ix3 j i ⟨k, by omega⟩)) := by
  unfold hostGate
  pointwise
  rfl

theorem hostAct_apply (h : FVec Ideal S288x512x2048 .f32) (j : Fin 288) (i : Fin 512) (k : Fin 1024) :
    hostAct h (ix3 j i k) = act (h (ix3 j i ⟨k, by omega⟩)) (h (ix3 j i ⟨1024 + k, by omega⟩)) := by
  unfold act
  rw [← hostGate_apply h j]
  unfold hostAct
  generalize hostGate h = g
  simp only [id_eq]
  pointwise

/-- Whether a block is in use, as the reference's words tell it. -/
theorem used_word (j : Fin 288) (n : IVec S1 32) : IntOp.cmpi CmpIPredicate.slt (BitVec.ofNat 32 j) (n (ix1 0)) = 1#1 ↔ Used (F := Ideal) n j.val := by
  show BitVec.ofBool _ = 1#1 ↔ _
  rw [ofBool_one, BitVec.slt_eq_decide, decide_eq_true_eq, toInt_small]
  · rfl
  all_goals omega

theorem hostUsed_apply (y : FVec Ideal S288x512x1024 .f32) (n : IVec S1 32) (r : Fin 147456) (q : Fin 1024) :
    (hostUsed y n : (⟨2, ![147456, 1024]⟩ : Shape).Idx → EReal) (ix2 r q)
      = if Used (F := Ideal) n (r.val / 512) then y (ix3 ⟨r / 512, by omega⟩ ⟨r % 512, by omega⟩ q) else 0 := by
  have e := used_word ⟨r / 512, by omega⟩ n
  unfold hostUsed
  simp only [id_eq]
  pointwise
  unfold Scalar.select
  by_cases h : Used (F := Ideal) n (r.val / 512)
  · rw [if_pos h]
    exact if_pos (e.2 h)
  · rw [if_neg h]
    exact if_neg fun h' => h (e.1 h')

/-! ## The reference's result -/

variable (m : (ℓ : Loc nD τ sig) → Buf (Elt Ideal) ℓ) (c : Dev nD)

/-- The words of the dispatched rows the reference is launched on. -/
abbrev rows : IVec S147456x512 32 := m (c.tc.loc main_arg0)
/-- How many of them each expert has. -/
abbrev rowCounts : IVec S32 32 := m (c.tc.loc main_arg1)
/-- The blocks' experts. -/
abbrev table : IVec S288 32 := expertsOf (rowCounts m c)
/-- The number of blocks in use. -/
abbrev used : IVec S1 32 := usedOf (rowCounts m c)
/-- The first weights. -/
abbrev gates : S32x1024x2048.Idx → EReal := m (c.tc.loc main_arg2)
/-- Their biases. -/
abbrev gateBiases : S32x2048.Idx → EReal := m (c.tc.loc main_arg3)
/-- The second weights. -/
abbrev downs : S32x1024x1024.Idx → EReal := m (c.tc.loc main_arg4)
/-- Their biases. -/
abbrev downBiases : S32x1024.Idx → EReal := m (c.tc.loc main_arg5)

/-- The biases with an axis of one. -/
def hostGateBias (b : FVec Ideal S32x2048 .f32) : FVec Ideal S32x1x2048 .f32 := broadcastInDim S32x1x2048 ![0, 2] bcast_S32x2048_S32x1x2048_0_2 b
def hostDownBias (b : FVec Ideal S32x1024 .f32) : FVec Ideal S32x1x1024 .f32 := broadcastInDim S32x1x1024 ![0, 2] bcast_S32x1024_S32x1x1024_0_2 b

theorem hostGateBias_apply (b : FVec Ideal S32x2048 .f32) (e : Fin 32) (n : Fin 2048) : hostGateBias b (ix3 e 0 n) = b (ix2 e n) := by
  unfold hostGateBias
  pointwise

theorem hostDownBias_apply (b : FVec Ideal S32x1024 .f32) (e : Fin 32) (n : Fin 1024) : hostDownBias b (ix3 e 0 n) = b (ix2 e n) := by
  unfold hostDownBias
  pointwise

/-- The reference's result by its stages. -/
theorem result_stages : Cert.Reference2Ideal.Value.res_out0 m c =
    hostUsed (hostOut (hostAct (hostHidden (hostRows (rows m c)) (table m c) (gates m c) (hostGateBias (gateBiases m c)))) (table m c) (downs m c) (hostDownBias (downBiases m c))) (used m c) := by
  unfold table
  rw [← found_eq]
  rfl

/-- The reference's result at an entry: the row through its block's expert where the block is in use, zero elsewhere. -/
theorem reference_apply (r : Fin 147456) (q : Fin 1024) :
    (Cert.Reference2Ideal.Value.res_out0 m c : (⟨2, ![147456, 1024]⟩ : Shape).Idx → EReal) (ix2 r q) =
      if Used (F := Ideal) (used m c) (r.val / 512) then
        expert (unpack fun k => rows m c (ix2 ⟨512 * (r / 512) + r % 512, by omega⟩ k))
          (fun k n => gates m c (ix3 (expertNo (expertOf (F := Ideal) (table m c) ⟨r / 512, by omega⟩)) k n))
          (fun n => gateBiases m c (ix2 (expertNo (expertOf (F := Ideal) (table m c) ⟨r / 512, by omega⟩)) n))
          (fun k n => downs m c (ix3 (expertNo (expertOf (F := Ideal) (table m c) ⟨r / 512, by omega⟩)) k n))
          (fun n => downBiases m c (ix2 (expertNo (expertOf (F := Ideal) (table m c) ⟨r / 512, by omega⟩)) n)) q
      else 0 := by
  have hT := expertsOf_lt (F := Ideal) (rowCounts m c)
  rw [result_stages, hostUsed_apply]
  by_cases h : Used (F := Ideal) (used m c) (r.val / 512)
  · rw [if_pos h, if_pos h, hostOut_apply _ _ (hT _), expert]
    simp only [hostAct_apply, hostHidden_apply _ _ (hT _), hostRows_apply, hostGateBias_apply, hostDownBias_apply]
  · rw [if_neg h, if_neg h]

end Cert.Experts.Ref
-- ==== Proof.ExpertsEquation.lean ====
/- The value of the experts: the result array of the launch read at an entry, and its equation with the reference's. -/
module

public import proofs.«01_k».proof.Proof.ExpertsReference
public import proofs.«01_k».proof.Proof.ExpertsTables
public import Idealize.ShloMosaic.Lib.Pipeline.ValueKit

@[expose] public section

set_option maxRecDepth 16384

noncomputable section

namespace Cert.Experts

open Finset Idealize.ShloMosaic Idealize.SL.Sem
open Cert.Kernel2Ideal Cert.Kernel2Ideal.Gen
open Idealize.ShloMosaic.TcCoe

variable (a : (pcfg0 (F := Ideal)).Adm) (V : (c : Dev nD) → (b : Ref sig .tc) → Buf (Elt Ideal) ((c : Thread nD τ).loc b)) (c : Dev nD)

/-- What the run leaves at an entry of the result: the row through its block's expert where the block is in use, zero
    elsewhere. -/
def outAt (r : Fin 147456) (q : Fin 1024) : EReal :=
  if Used (F := Ideal) (count a) (r.val / 512) then
    expert (unpack fun k => rowsOf V c ⟨r / 512, by omega⟩ (ix2 ⟨r % 512, by omega⟩ k))
      (fun k n => gateOf V c (expertOf (experts a) ⟨r / 512, by omega⟩) (ix3 0 k n))
      (fun n => gateBiasOf V c (expertOf (experts a) ⟨r / 512, by omega⟩) (ix3 0 0 n))
      (fun k n => downOf V c (expertOf (experts a) ⟨r / 512, by omega⟩) (ix3 0 k n))
      (fun n => downBiasOf V c (expertOf (experts a) ⟨r / 512, by omega⟩) (ix3 0 0 n)) q
  else 0

/-- The block of the result at a point of the grid, at an entry. -/
theorem outBlock_apply (h : TablesOk (experts a) (count a)) (t : Fin (cfgA a).N) (y : Fin 512) (q : Fin 1024) (r : Fin 147456) (hr : r.val = 512 * t.val + y.val) :
    outBlock a V c t (ix2 y q) = outAt a V c r q := by
  have hd : r.val / 512 = t.val := by omega
  have hm : r.val % 512 = y.val := by omega
  have hc : (⟨r.val / 512, by omega⟩ : Fin 288) = crd a t 0 := Fin.ext (hd.trans (crd_val a t).symm)
  have hy : (⟨r.val % 512, by omega⟩ : Fin 512) = y := Fin.ext hm
  unfold outBlock outAt
  by_cases hu : Used (F := Ideal) (count a) t.val
  · have hu' : Used (F := Ideal) (count a) (r.val / 512) := hd.symm ▸ hu
    rw [if_pos hu, if_pos hu', inBlock_rows V c h t hu, inBlock_gate V c h t, inBlock_gateBias V c h t,
      inBlock_down V c h t, inBlock_downBias V c h t]
    refine (block_apply _ _ _ _ _ y q).trans ?_
    simp only [pay1_apply, pay2_apply]
    simp only [hc, hy]
  · have hu' : ¬ Used (F := Ideal) (count a) (r.val / 512) := hd.symm ▸ hu
    rw [if_neg hu, if_neg hu']
    exact pay4_apply y q

/-- The block indices of the result's window. -/
theorem index_result (t : Fin (cfgA a).N) : ((cfgA a).win (5 : Fin 6)).index t = ![t.val, 0] := by
  have e : ((cfgA a).win (5 : Fin 6)).index t = ![(crd a t 0).val, 0] := map_result (crd a t)
  rw [e, crd_val]

/-- Every point writes its block back: the next point's is another. -/
theorem flush_point : ∀ t : Fin grid0.N, Pipeline.Window.flushOf grid0 true cc0_transform_5 t = true := by decide +kernel

theorem flush_result (t : Fin (cfgA a).N) : ((cfgA a).win (5 : Fin 6)).flush t = true := flush_point t

/-- Every block of the result is written at one point. -/
theorem covers_result : ((cfgA a).win (5 : Fin 6)).Covers := by
  refine ⟨fun b => ?_, fun β => ⟨⟨(β 0).val, lt_of_lt_of_eq (β 0).isLt (by decide : (147456 + 512 - 1) / 512 = 288)⟩, flush_result a _, fun b => ⟨?_, Or.inl ?_⟩⟩⟩
  · match b with
    | ⟨0, _⟩ => exact (by decide : 0 < 512)
    | ⟨1, _⟩ => exact (by decide : 0 < 1024)
  · rw [index_result]
    match b with
    | ⟨0, _⟩ => rfl
    | ⟨1, _⟩ =>
      have h : (β 1).val < 1 := lt_of_lt_of_eq (β 1).isLt (by decide : (1024 + 1024 - 1) / 1024 = 1)
      show 0 = (β 1).val
      omega
  · match b with
    | ⟨0, _⟩ => rfl
    | ⟨1, _⟩ => rfl

/-- Where a block of the result lies. -/
theorem row_result (t : Fin (cfgA a).N) (y : ((cfgA a).win (5 : Fin 6)).block.Idx) :
    ((((cfgA a).win (5 : Fin 6)).blk t).view.emb y 0).val = 512 * t.val + (y 0).val := by
  have hix := index_result a t
  blk_simp [hix]
  show t.val * 512 + (y 0).val = _
  omega

theorem column_result (t : Fin (cfgA a).N) (y : ((cfgA a).win (5 : Fin 6)).block.Idx) :
    (((cfgA a).win (5 : Fin 6)).blk t).view.emb y 1 = y 1 := by
  have hix := index_result a t
  refine Fin.ext ?_
  blk_simp [hix]

theorem outBlock_eq (h : TablesOk (experts a) (count a)) (t : Fin (cfgA a).N) (y : S512x1024.Idx) (j : S147456x1024.Idx)
    (h0 : (j 0).val = 512 * t.val + (y 0).val) (h1 : j 1 = y 1) : outBlock a V c t y = outAt a V c (j 0) (j 1) := by
  rw [h1]
  refine (congrArg (outBlock a V c t) (eq_ix2 (n0 := 512) (n1 := 1024) y)).trans ?_
  exact outBlock_apply a V c h t (y 0) (y 1) (j 0) h0

/-- The result array of the run. -/
theorem result_eq (h : TablesOk (experts a) (count a)) : (dats a V 0 c).arrAt (5 : Fin 6) (cfgA a).N = fun j => outAt a V c (j 0) (j 1) := by
  refine (dats a V 0 c).arrAt_eq_of_covers (5 : Fin 6) _ (covers_result a) fun t hf y => ?_
  blk_simp
  rw [after_5]
  exact outBlock_eq a V c h t y _ (row_result a t y) (column_result a t y)

/-- The launched biases at an entry. -/
theorem gateBias_entry (m : (ℓ : Loc nD τ sig) → Buf (Elt Ideal) ℓ) (e : Fin 32) (n : Fin 2048) :
    (entry m c main_v22 : S32x1x2048.Idx → EReal) (ix3 e 0 n) = (m ((c : Thread nD τ).loc main_arg3) : S32x2048.Idx → EReal) (ix2 e n) := by
  rw [entry_gateBias]
  generalize (m ((c : Thread nD τ).loc main_arg3) : S32x2048.Idx → EReal) = b
  pointwise

theorem downBias_entry (m : (ℓ : Loc nD τ sig) → Buf (Elt Ideal) ℓ) (e : Fin 32) (n : Fin 1024) :
    (entry m c main_v23 : S32x1x1024.Idx → EReal) (ix3 e 0 n) = (m ((c : Thread nD τ).loc main_arg5) : S32x1024.Idx → EReal) (ix2 e n) := by
  rw [entry_downBias]
  generalize (m ((c : Thread nD τ).loc main_arg5) : S32x1024.Idx → EReal) = b
  pointwise

/-- An expert's biases, as launched. -/
theorem gateBiasOf_entry (m : (ℓ : Loc nD τ sig) → Buf (Elt Ideal) ℓ) (w : BitVec 32) :
    (fun n : Fin 2048 => gateBiasOf (entry m) c w (ix3 0 0 n)) = fun n => (m ((c : Thread nD τ).loc main_arg3) : S32x2048.Idx → EReal) (ix2 (expertNo w) n) :=
  funext fun n => gateBias_entry c m (expertNo w) n

theorem downBiasOf_entry (m : (ℓ : Loc nD τ sig) → Buf (Elt Ideal) ℓ) (w : BitVec 32) :
    (fun n : Fin 1024 => downBiasOf (entry m) c w (ix3 0 0 n)) = fun n => (m ((c : Thread nD τ).loc main_arg5) : S32x1024.Idx → EReal) (ix2 (expertNo w) n) :=
  funext fun n => downBias_entry c m (expertNo w) n

/-- The expert kernel and the reference, launched on the same arrays with a block in use, leave equal results and their
    arguments as they were. -/
theorem experts_eq : Cert.algebraic_Kernel2Ideal_Reference2Ideal (hKernel2Ideal := Cert.Kernel2Ideal.Gen.facts)
    (hReference2Ideal := Cert.Reference2Ideal.Gen.facts) (hPre_tables := Cert.Pre_tables.Gen.facts) := by
  intro m g m' g' hpre hagree
  obtain ⟨a, h, h1, h2, hrun⟩ := run_main (F := Ideal) m g fun c => tables_ok _ _ _ _ _ _ (hpre c)
  refine ⟨fun c => (dats a (entry m) 0 c).arrAt (5 : Fin 6) (cfgA a).N, (θ_run _ _ _).mono (fun r hr c => ⟨hr.2.1 c, hr.1 c⟩) hrun,
    (θ_run _ _ _).mono (fun r hr c => ⟨(hr c).1.trans ?_, (hr c).2⟩) (Cert.Reference2Ideal.Value.run m' g')⟩
  obtain ⟨a0, a1, a2, a3, a4, a5⟩ := hagree c
  have hT : Ref.table m' c = experts a := (congrArg expertsOf a1).trans (h1 c)
  have hN : Ref.used m' c = count a := (congrArg usedOf a1).trans (h2 c)
  refine Eq.trans (funext fun j => ?_) (result_eq a (entry m) c h).symm
  refine (congrArg _ (eq_ix2 (n0 := 147456) (n1 := 1024) j)).trans ?_
  refine (Ref.reference_apply m' c (j 0) (j 1)).trans ?_
  unfold outAt
  rw [gateBiasOf_entry, downBiasOf_entry]
  unfold rowsOf gateOf downOf
  rw [hT, hN, entry_arg0, entry_arg2, entry_arg4]
  unfold Ref.rows Ref.gates Ref.gateBiases Ref.downs Ref.downBiases
  rw [a0, a2, a3, a4, a5]
  rfl

end Cert.Experts
-- ==== Proof.lean ====
/- The certificate's claims, assembled: the frames of the programs, the two pairs of programs that differ in named
   constants alone, and the values of the attention (Proof/Equation.lean) and of the experts (Proof/ExpertsEquation.lean). -/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Pre_finite_scores
public import proofs.«01_k».proof.Proof.Gen.KernelIdeal.Value
public import proofs.«01_k».proof.Proof.Gen.ReferenceIdeal.Run
public import proofs.«01_k».proof.Proof.Gen.Reference.Run
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.Gen.Pre_tables
public import proofs.«01_k».proof.Proof.Equation
public import proofs.«01_k».proof.Proof.ExpertsTables
public import proofs.«01_k».proof.Proof.ExpertsEquation
public import Idealize.ShloMosaic.Adequacy
public import Idealize.ShloMosaic.Init
public import Idealize.ShloMosaic.Lib.Quiescent

@[expose] public section

noncomputable section

namespace Cert.Proof

open Idealize.ShloMosaic Idealize.SL.Sem

/-- The rounded reference ends with its arguments as they were and every counter at zero: it declares no semaphore. -/
theorem frame_reference : Cert.quiescent_Reference (hReference := Cert.Reference.Gen.facts) := fun m g _ =>
  (θ_run _ _ _).mono (fun r h => ⟨fun c => (h c).2, sem_eq_zero_of_no_sems (by decide) r.2⟩) (Cert.Reference.Value.run m g)

/-- The exact reference ends with its arguments as they were and every counter at zero. -/
theorem frame_ideal_reference : Cert.quiescent_ReferenceIdeal (hReferenceIdeal := Cert.ReferenceIdeal.Gen.facts) := fun m g _ =>
  (θ_run _ _ _).mono (fun r h => ⟨fun c => (h c).2, sem_eq_zero_of_no_sems (by decide) r.2⟩) (Cert.ReferenceIdeal.Value.run m g)

/-- Every claim of the certificate. -/
theorem claim : Cert.Claim := ⟨Cert.Kernel.Gen.facts, Cert.KernelIdeal.Gen.facts, Cert.ReferenceIdeal.Gen.facts, Cert.Reference.Gen.facts,
  Cert.Kernel2.Gen.facts, Cert.Kernel2Ideal.Gen.facts, Cert.Reference2Ideal.Gen.facts, Cert.Pre_finite_scores.Gen.facts, Cert.Pre_tables.Gen.facts,
  fun m ρ _ => Cert.Kernel.Gen.frame m ρ, fun m ρ _ => Cert.KernelIdeal.Gen.frame m ρ, fun m ρ _ => Cert.KernelIdeal.Gen.frame m ρ,
  frame_ideal_reference, fun m g _ => frame_ideal_reference m g trivial, frame_reference,
  Cert.Experts.frame_experts, Cert.Experts.frame_experts_ideal, Cert.Experts.frame_experts_reference, fun m g _ => Cert.Experts.frame_experts_reference m g trivial,
  IdealRules.named_const.statement Cert.KernelIdeal.κ "mask" .f32 0xF149F2CA#32 ⊥ rfl, trivial, Cert.Mla.attention_eq,
  trivial, Cert.Experts.experts_eq⟩

end Cert.Proof

end
